-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.2.2 = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def Pre_DilIdeal_finite_scores [hPre_finite_scores : Cert.Pre_finite_scores.Facts] (m : (ℓ : Loc Cert.DilIdeal.nD Cert.DilIdeal.τ Cert.DilIdeal.sig) → Buf (Elt Ideal) ℓ) : Prop :=
  ∀ c : Dev Cert.DilIdeal.nD,
    (Cert.Pre_finite_scores.fn (F := Ideal) (m ((c.tc : Thread Cert.DilIdeal.nD Cert.DilIdeal.τ).loc Cert.DilIdeal.main_arg0)) (m ((c.tc : Thread Cert.DilIdeal.nD Cert.DilIdeal.τ).loc Cert.DilIdeal.main_arg1)) (m ((c.tc : Thread Cert.DilIdeal.nD Cert.DilIdeal.τ).loc Cert.DilIdeal.main_arg2))).1 = (fun _ => 1#1)
    ∧ (Cert.Pre_finite_scores.fn (F := Ideal) (m ((c.tc : Thread Cert.DilIdeal.nD Cert.DilIdeal.τ).loc Cert.DilIdeal.main_arg0)) (m ((c.tc : Thread Cert.DilIdeal.nD Cert.DilIdeal.τ).loc Cert.DilIdeal.main_arg1)) (m ((c.tc : Thread Cert.DilIdeal.nD Cert.DilIdeal.τ).loc Cert.DilIdeal.main_arg2))).2 = (fun _ => 1#1)

def Pre_DilRefIdeal (m : (ℓ : Loc Cert.DilRefIdeal.nD Cert.DilRefIdeal.τ Cert.DilRefIdeal.sig) → Buf (Elt Ideal) ℓ) : Prop :=
  True

def Pre_DilRefIdeal_finite_scores [hPre_finite_scores : Cert.Pre_finite_scores.Facts] (m : (ℓ : Loc Cert.DilRefIdeal.nD Cert.DilRefIdeal.τ Cert.DilRefIdeal.sig) → Buf (Elt Ideal) ℓ) : Prop :=
  ∀ c : Dev Cert.DilRefIdeal.nD,
    (Cert.Pre_finite_scores.fn (F := Ideal) (m ((c.tc : Thread Cert.DilRefIdeal.nD Cert.DilRefIdeal.τ).loc Cert.DilRefIdeal.main_arg0)) (m ((c.tc : Thread Cert.DilRefIdeal.nD Cert.DilRefIdeal.τ).loc Cert.DilRefIdeal.main_arg1)) (m ((c.tc : Thread Cert.DilRefIdeal.nD Cert.DilRefIdeal.τ).loc Cert.DilRefIdeal.main_arg2))).1 = (fun _ => 1#1)
    ∧ (Cert.Pre_finite_scores.fn (F := Ideal) (m ((c.tc : Thread Cert.DilRefIdeal.nD Cert.DilRefIdeal.τ).loc Cert.DilRefIdeal.main_arg0)) (m ((c.tc : Thread Cert.DilRefIdeal.nD Cert.DilRefIdeal.τ).loc Cert.DilRefIdeal.main_arg1)) (m ((c.tc : Thread Cert.DilRefIdeal.nD Cert.DilRefIdeal.τ).loc Cert.DilRefIdeal.main_arg2))).2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4)
      ∧ r.2.mem ((c.tc : Thread Cert.Route.nD Cert.Route.τ).loc Cert.Route.main_arg5) = m ((c.tc : Thread Cert.Route.nD Cert.Route.τ).loc Cert.Route.main_arg5)
      ∧ r.2.mem ((c.tc : Thread Cert.Route.nD Cert.Route.τ).loc Cert.Route.main_arg6) = m ((c.tc : Thread Cert.Route.nD Cert.Route.τ).loc Cert.Route.main_arg6)
      ∧ r.2.mem ((c.tc : Thread Cert.Route.nD Cert.Route.τ).loc Cert.Route.main_arg7) = m ((c.tc : Thread Cert.Route.nD Cert.Route.τ).loc Cert.Route.main_arg7)
      ∧ r.2.mem ((c.tc : Thread Cert.Route.nD Cert.Route.τ).loc Cert.Route.main_arg8) = m ((c.tc : Thread Cert.Route.nD Cert.Route.τ).loc Cert.Route.main_arg8)
      ∧ r.2.mem ((c.tc : Thread Cert.Route.nD Cert.Route.τ).loc Cert.Route.main_arg9) = m ((c.tc : Thread Cert.Route.nD Cert.Route.τ).loc Cert.Route.main_arg9))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
      ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
      ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
      ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5)
      ∧ r.2.mem ((c.tc : Thread Cert.RouteRefIdeal.nD Cert.RouteRefIdeal.τ).loc Cert.RouteRefIdeal.main_arg6) = m ((c.tc : Thread Cert.RouteRefIdeal.nD Cert.RouteRefIdeal.τ).loc Cert.RouteRefIdeal.main_arg6)
      ∧ r.2.mem ((c.tc : Thread Cert.RouteRefIdeal.nD Cert.RouteRefIdeal.τ).loc Cert.RouteRefIdeal.main_arg7) = m ((c.tc : Thread Cert.RouteRefIdeal.nD Cert.RouteRefIdeal.τ).loc Cert.RouteRefIdeal.main_arg7)
      ∧ r.2.mem ((c.tc : Thread Cert.RouteRefIdeal.nD Cert.RouteRefIdeal.τ).loc Cert.RouteRefIdeal.main_arg8) = m ((c.tc : Thread Cert.RouteRefIdeal.nD Cert.RouteRefIdeal.τ).loc Cert.RouteRefIdeal.main_arg8)
      ∧ r.2.mem ((c.tc : Thread Cert.RouteRefIdeal.nD Cert.RouteRefIdeal.τ).loc Cert.RouteRefIdeal.main_arg9) = m ((c.tc : Thread Cert.RouteRefIdeal.nD Cert.RouteRefIdeal.τ).loc Cert.RouteRefIdeal.main_arg9))
      ∧ r.2.sem = fun _ => 0)

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0)
      ∧ r.2.mem ((c.tc : Thread Cert.Dil.nD Cert.Dil.τ).loc Cert.Dil.main_arg1) = m ((c.tc : Thread Cert.Dil.nD Cert.Dil.τ).loc Cert.Dil.main_arg1)
      ∧ r.2.mem ((c.tc : Thread Cert.Dil.nD Cert.Dil.τ).loc Cert.Dil.main_arg2) = m ((c.tc : Thread Cert.Dil.nD Cert.Dil.τ).loc Cert.Dil.main_arg2))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
      ∧ r.2.mem ((c.tc : Thread Cert.DilIdeal.nD Cert.DilIdeal.τ).loc Cert.DilIdeal.main_arg2) = m ((c.tc : Thread Cert.DilIdeal.nD Cert.DilIdeal.τ).loc Cert.DilIdeal.main_arg2))
      ∧ r.2.sem = fun _ => 0)

def quiescent_DilIdeal_pre_finite_scores [hDilIdeal : Cert.DilIdeal.Facts] [hPre_finite_scores : Cert.Pre_finite_scores.Facts] : Prop :=
  ∀ (m : (ℓ : Loc Cert.DilIdeal.nD Cert.DilIdeal.τ Cert.DilIdeal.sig) → Buf (Elt Ideal) ℓ) (g : Dev Cert.DilIdeal.nD → PrngReg), Pre_DilIdeal_finite_scores m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
      ∧ r.2.mem ((c.tc : Thread Cert.DilIdeal.nD Cert.DilIdeal.τ).loc Cert.DilIdeal.main_arg2) = m ((c.tc : Thread Cert.DilIdeal.nD Cert.DilIdeal.τ).loc Cert.DilIdeal.main_arg2))
      ∧ r.2.sem = fun _ => 0)

def quiescent_DilRefIdeal [hDilRefIdeal : Cert.DilRefIdeal.Facts] : Prop :=
  ∀ (m : (ℓ : Loc Cert.DilRefIdeal.nD Cert.DilRefIdeal.τ Cert.DilRefIdeal.sig) → Buf (Elt Ideal) ℓ) (g : Dev Cert.DilRefIdeal.nD → PrngReg), Pre_DilRefIdeal m →
    θ_run (Cert.DilRefIdeal.defs (F := Ideal)) (onTc (τ := Cert.DilRefIdeal.τ) (Cert.DilRefIdeal.main (F := Ideal))) ⟨m, fun _ => 0, g⟩ (fun r => (∀ c : Dev Cert.DilRefIdeal.nD,
      r.2.mem ((c.tc : Thread Cert.DilRefIdeal.nD Cert.DilRefIdeal.τ).loc Cert.DilRefIdeal.main_arg0) = m ((c.tc : Thread Cert.DilRefIdeal.nD Cert.DilRefIdeal.τ).loc Cert.DilRefIdeal.main_arg0)
      ∧ r.2.mem ((c.tc : Thread Cert.DilRefIdeal.nD Cert.DilRefIdeal.τ).loc Cert.DilRefIdeal.main_arg1) = m ((c.tc : Thread Cert.DilRefIdeal.nD Cert.DilRefIdeal.τ).loc Cert.DilRefIdeal.main_arg1)
      ∧ r.2.mem ((c.tc : Thread Cert.DilRefIdeal.nD Cert.DilRefIdeal.τ).loc Cert.DilRefIdeal.main_arg2) = m ((c.tc : Thread Cert.DilRefIdeal.nD Cert.DilRefIdeal.τ).loc Cert.DilRefIdeal.main_arg2))
      ∧ r.2.sem = fun _ => 0)

def quiescent_DilRefIdeal_pre_finite_scores [hDilRefIdeal : Cert.DilRefIdeal.Facts] [hPre_finite_scores : Cert.Pre_finite_scores.Facts] : Prop :=
  ∀ (m : (ℓ : Loc Cert.DilRefIdeal.nD Cert.DilRefIdeal.τ Cert.DilRefIdeal.sig) → Buf (Elt Ideal) ℓ) (g : Dev Cert.DilRefIdeal.nD → PrngReg), Pre_DilRefIdeal_finite_scores m →
    θ_run (Cert.DilRefIdeal.defs (F := Ideal)) (onTc (τ := Cert.DilRefIdeal.τ) (Cert.DilRefIdeal.main (F := Ideal))) ⟨m, fun _ => 0, g⟩ (fun r => (∀ c : Dev Cert.DilRefIdeal.nD,
      r.2.mem ((c.tc : Thread Cert.DilRefIdeal.nD Cert.DilRefIdeal.τ).loc Cert.DilRefIdeal.main_arg0) = m ((c.tc : Thread Cert.DilRefIdeal.nD Cert.DilRefIdeal.τ).loc Cert.DilRefIdeal.main_arg0)
      ∧ r.2.mem ((c.tc : Thread Cert.DilRefIdeal.nD Cert.DilRefIdeal.τ).loc Cert.DilRefIdeal.main_arg1) = m ((c.tc : Thread Cert.DilRefIdeal.nD Cert.DilRefIdeal.τ).loc Cert.DilRefIdeal.main_arg1)
      ∧ r.2.mem ((c.tc : Thread Cert.DilRefIdeal.nD Cert.DilRefIdeal.τ).loc Cert.DilRefIdeal.main_arg2) = m ((c.tc : Thread Cert.DilRefIdeal.nD Cert.DilRefIdeal.τ).loc Cert.DilRefIdeal.main_arg2))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v188)) (v1 : (c : Dev Cert.AttnIdeal.nD) → Buf (Elt Ideal) ((c.tc : Thread Cert.AttnIdeal.nD Cert.AttnIdeal.τ).loc Cert.AttnIdeal.main_v184_3)) (v2 : (c : Dev Cert.AttnIdeal.nD) → Buf (Elt Ideal) ((c.tc : Thread Cert.AttnIdeal.nD Cert.AttnIdeal.τ).loc Cert.AttnIdeal.main_v184_4)) (v3 : (c : Dev Cert.AttnIdeal.nD) → Buf (Elt Ideal) ((c.tc : Thread Cert.AttnIdeal.nD Cert.AttnIdeal.τ).loc Cert.AttnIdeal.main_v184_5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v188) = v0 c
          ∧ r.2.mem ((c.tc : Thread Cert.AttnIdeal.nD Cert.AttnIdeal.τ).loc Cert.AttnIdeal.main_v184_3) = v1 c
          ∧ r.2.mem ((c.tc : Thread Cert.AttnIdeal.nD Cert.AttnIdeal.τ).loc Cert.AttnIdeal.main_v184_4) = v2 c
          ∧ r.2.mem ((c.tc : Thread Cert.AttnIdeal.nD Cert.AttnIdeal.τ).loc Cert.AttnIdeal.main_v184_5) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v153) = v0 c
          ∧ r.2.mem ((c.tc : Thread Cert.AttnRefIdeal.nD Cert.AttnRefIdeal.τ).loc Cert.AttnRefIdeal.main_v199) = v1 c
          ∧ r.2.mem ((c.tc : Thread Cert.AttnRefIdeal.nD Cert.AttnRefIdeal.τ).loc Cert.AttnRefIdeal.main_v201) = v2 c
          ∧ r.2.mem ((c.tc : Thread Cert.AttnRefIdeal.nD Cert.AttnRefIdeal.τ).loc Cert.AttnRefIdeal.main_v203) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v9)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v9) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v40) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)
      ∧ m' ((c.tc : Thread Cert.RouteRefIdeal.nD Cert.RouteRefIdeal.τ).loc Cert.RouteRefIdeal.main_arg5) = m ((c.tc : Thread Cert.RouteIdeal.nD Cert.RouteIdeal.τ).loc Cert.RouteIdeal.main_arg5)
      ∧ m' ((c.tc : Thread Cert.RouteRefIdeal.nD Cert.RouteRefIdeal.τ).loc Cert.RouteRefIdeal.main_arg6) = m ((c.tc : Thread Cert.RouteIdeal.nD Cert.RouteIdeal.τ).loc Cert.RouteIdeal.main_arg6)
      ∧ m' ((c.tc : Thread Cert.RouteRefIdeal.nD Cert.RouteRefIdeal.τ).loc Cert.RouteRefIdeal.main_arg7) = m ((c.tc : Thread Cert.RouteIdeal.nD Cert.RouteIdeal.τ).loc Cert.RouteIdeal.main_arg7)
      ∧ m' ((c.tc : Thread Cert.RouteRefIdeal.nD Cert.RouteRefIdeal.τ).loc Cert.RouteRefIdeal.main_arg8) = m ((c.tc : Thread Cert.RouteIdeal.nD Cert.RouteIdeal.τ).loc Cert.RouteIdeal.main_arg8)
      ∧ m' ((c.tc : Thread Cert.RouteRefIdeal.nD Cert.RouteRefIdeal.τ).loc Cert.RouteRefIdeal.main_arg9) = m ((c.tc : Thread Cert.RouteIdeal.nD Cert.RouteIdeal.τ).loc Cert.RouteIdeal.main_arg9)) →
    ∃ (v0 : (c : Dev Cert.RouteIdeal.nD) → Buf (Elt Ideal) ((c.tc : Thread Cert.RouteIdeal.nD Cert.RouteIdeal.τ).loc Cert.RouteIdeal.main_v21_0)) (v1 : (c : Dev Cert.RouteIdeal.nD) → Buf (Elt Ideal) ((c.tc : Thread Cert.RouteIdeal.nD Cert.RouteIdeal.τ).loc Cert.RouteIdeal.main_v21_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v21_0) = v0 c
          ∧ r.2.mem ((c.tc : Thread Cert.RouteIdeal.nD Cert.RouteIdeal.τ).loc Cert.RouteIdeal.main_v21_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
          ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
          ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
          ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
          ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
          ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v31) = v0 c
          ∧ r.2.mem ((c.tc : Thread Cert.RouteRefIdeal.nD Cert.RouteRefIdeal.τ).loc Cert.RouteRefIdeal.main_v46) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4)
          ∧ r.2.mem ((c.tc : Thread Cert.RouteRefIdeal.nD Cert.RouteRefIdeal.τ).loc Cert.RouteRefIdeal.main_arg5) = m' ((c.tc : Thread Cert.RouteRefIdeal.nD Cert.RouteRefIdeal.τ).loc Cert.RouteRefIdeal.main_arg5)
          ∧ r.2.mem ((c.tc : Thread Cert.RouteRefIdeal.nD Cert.RouteRefIdeal.τ).loc Cert.RouteRefIdeal.main_arg6) = m' ((c.tc : Thread Cert.RouteRefIdeal.nD Cert.RouteRefIdeal.τ).loc Cert.RouteRefIdeal.main_arg6)
          ∧ r.2.mem ((c.tc : Thread Cert.RouteRefIdeal.nD Cert.RouteRefIdeal.τ).loc Cert.RouteRefIdeal.main_arg7) = m' ((c.tc : Thread Cert.RouteRefIdeal.nD Cert.RouteRefIdeal.τ).loc Cert.RouteRefIdeal.main_arg7)
          ∧ r.2.mem ((c.tc : Thread Cert.RouteRefIdeal.nD Cert.RouteRefIdeal.τ).loc Cert.RouteRefIdeal.main_arg8) = m' ((c.tc : Thread Cert.RouteRefIdeal.nD Cert.RouteRefIdeal.τ).loc Cert.RouteRefIdeal.main_arg8)
          ∧ r.2.mem ((c.tc : Thread Cert.RouteRefIdeal.nD Cert.RouteRefIdeal.τ).loc Cert.RouteRefIdeal.main_arg9) = m' ((c.tc : Thread Cert.RouteRefIdeal.nD Cert.RouteRefIdeal.τ).loc Cert.RouteRefIdeal.main_arg9))

def preserves_Dil_DilIdeal : Prop :=
  IdealRules.named_const.Statement Cert.DilIdeal.κ "mask" .f32 0xF149F2CA#32 ⊥

def algebraic_DilIdeal_DilRefIdeal_pre_finite_scores [hDilIdeal : Cert.DilIdeal.Facts] [hDilRefIdeal : Cert.DilRefIdeal.Facts] [hPre_finite_scores : Cert.Pre_finite_scores.Facts] : Prop :=
  ∀ (m : (ℓ : Loc Cert.DilIdeal.nD Cert.DilIdeal.τ Cert.DilIdeal.sig) → Buf (Elt Ideal) ℓ) (g : Dev Cert.DilIdeal.nD → PrngReg)
    (m' : (ℓ : Loc Cert.DilRefIdeal.nD Cert.DilRefIdeal.τ Cert.DilRefIdeal.sig) → Buf (Elt Ideal) ℓ) (g' : Dev Cert.DilRefIdeal.nD → PrngReg), Pre_DilIdeal_finite_scores m →
    (∀ c : Dev Cert.DilIdeal.nD,
      m' ((c.tc : Thread Cert.DilRefIdeal.nD Cert.DilRefIdeal.τ).loc Cert.DilRefIdeal.main_arg0) = m ((c.tc : Thread Cert.DilIdeal.nD Cert.DilIdeal.τ).loc Cert.DilIdeal.main_arg0)
      ∧ m' ((c.tc : Thread Cert.DilRefIdeal.nD Cert.DilRefIdeal.τ).loc Cert.DilRefIdeal.main_arg1) = m ((c.tc : Thread Cert.DilIdeal.nD Cert.DilIdeal.τ).loc Cert.DilIdeal.main_arg1)
      ∧ m' ((c.tc : Thread Cert.DilRefIdeal.nD Cert.DilRefIdeal.τ).loc Cert.DilRefIdeal.main_arg2) = m ((c.tc : Thread Cert.DilIdeal.nD Cert.DilIdeal.τ).loc Cert.DilIdeal.main_arg2)) →
    ∃ (v0 : (c : Dev Cert.DilIdeal.nD) → Buf (Elt Ideal) ((c.tc : Thread Cert.DilIdeal.nD Cert.DilIdeal.τ).loc Cert.DilIdeal.main_v39)),
      θ_run (Cert.DilIdeal.defs (F := Ideal)) (onTc (τ := Cert.DilIdeal.τ) (Cert.DilIdeal.main (F := Ideal))) ⟨m, fun _ => 0, g⟩ (fun r => ∀ c : Dev Cert.DilIdeal.nD,
          r.2.mem ((c.tc : Thread Cert.DilIdeal.nD Cert.DilIdeal.τ).loc Cert.DilIdeal.main_v39) = v0 c
          ∧ r.2.mem ((c.tc : Thread Cert.DilIdeal.nD Cert.DilIdeal.τ).loc Cert.DilIdeal.main_arg0) = m ((c.tc : Thread Cert.DilIdeal.nD Cert.DilIdeal.τ).loc Cert.DilIdeal.main_arg0)
          ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
          ∧ r.2.mem ((c.tc : Thread Cert.DilIdeal.nD Cert.DilIdeal.τ).loc Cert.DilIdeal.main_arg2) = m ((c.tc : Thread Cert.DilIdeal.nD Cert.DilIdeal.τ).loc Cert.DilIdeal.main_arg2))
      ∧ θ_run (Cert.DilRefIdeal.defs (F := Ideal)) (onTc (τ := Cert.DilRefIdeal.τ) (Cert.DilRefIdeal.main (F := Ideal))) ⟨m', fun _ => 0, g'⟩ (fun r => ∀ c : Dev Cert.DilRefIdeal.nD,
          r.2.mem ((c.tc : Thread Cert.DilRefIdeal.nD Cert.DilRefIdeal.τ).loc Cert.DilRefIdeal.main_v98) = v0 c
          ∧ r.2.mem ((c.tc : Thread Cert.DilRefIdeal.nD Cert.DilRefIdeal.τ).loc Cert.DilRefIdeal.main_arg0) = m' ((c.tc : Thread Cert.DilRefIdeal.nD Cert.DilRefIdeal.τ).loc Cert.DilRefIdeal.main_arg0)
          ∧ r.2.mem ((c.tc : Thread Cert.DilRefIdeal.nD Cert.DilRefIdeal.τ).loc Cert.DilRefIdeal.main_arg1) = m' ((c.tc : Thread Cert.DilRefIdeal.nD Cert.DilRefIdeal.τ).loc Cert.DilRefIdeal.main_arg1)
          ∧ r.2.mem ((c.tc : Thread Cert.DilRefIdeal.nD Cert.DilRefIdeal.τ).loc Cert.DilRefIdeal.main_arg2) = m' ((c.tc : Thread Cert.DilRefIdeal.nD Cert.DilRefIdeal.τ).loc Cert.DilRefIdeal.main_arg2))

def Claim : Prop :=
  ∃ (hAttn : Cert.Attn.Facts) (hAttnIdeal : Cert.AttnIdeal.Facts) (hAttnRefIdeal : Cert.AttnRefIdeal.Facts) (hPle : Cert.Ple.Facts) (hPleIdeal : Cert.PleIdeal.Facts) (hPleRefIdeal : Cert.PleRefIdeal.Facts) (hRoute : Cert.Route.Facts) (hRouteIdeal : Cert.RouteIdeal.Facts) (hRouteRefIdeal : Cert.RouteRefIdeal.Facts) (hDil : Cert.Dil.Facts) (hDilIdeal : Cert.DilIdeal.Facts) (hDilRefIdeal : Cert.DilRefIdeal.Facts) (hPre_finite : Cert.Pre_finite.Facts) (hPre_finite_scores : Cert.Pre_finite_scores.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ple (hPle := hPle)
    ∧ quiescent_PleIdeal (hPleIdeal := hPleIdeal)
    ∧ quiescent_PleRefIdeal (hPleRefIdeal := hPleRefIdeal)
    ∧ quiescent_Route (hRoute := hRoute)
    ∧ quiescent_RouteIdeal (hRouteIdeal := hRouteIdeal)
    ∧ quiescent_RouteRefIdeal (hRouteRefIdeal := hRouteRefIdeal)
    ∧ quiescent_Dil (hDil := hDil)
    ∧ quiescent_DilIdeal (hDilIdeal := hDilIdeal)
    ∧ quiescent_DilIdeal_pre_finite_scores (hDilIdeal := hDilIdeal) (hPre_finite_scores := hPre_finite_scores)
    ∧ quiescent_DilRefIdeal (hDilRefIdeal := hDilRefIdeal)
    ∧ quiescent_DilRefIdeal_pre_finite_scores (hDilRefIdeal := hDilRefIdeal) (hPre_finite_scores := hPre_finite_scores)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ple_PleIdeal
    ∧ algebraic_PleIdeal_PleRefIdeal (hPleIdeal := hPleIdeal) (hPleRefIdeal := hPleRefIdeal)
    ∧ preserves_Route_RouteIdeal
    ∧ algebraic_RouteIdeal_RouteRefIdeal (hRouteIdeal := hRouteIdeal) (hRouteRefIdeal := hRouteRefIdeal)
    ∧ preserves_Dil_DilIdeal
    ∧ algebraic_DilIdeal_DilRefIdeal_pre_finite_scores (hDilIdeal := hDilIdeal) (hDilRefIdeal := hDilRefIdeal) (hPre_finite_scores := hPre_finite_scores)
-- ==== Pre_finite.lean ====
abbrev S8x2048x1024 : Shape := ⟨3, ![8, 2048, 1024]⟩
abbrev S1x1024 : Shape := ⟨2, ![1, 1024]⟩
abbrev S1x1024x2208 : Shape := ⟨3, ![1, 1024, 2208]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S_ : Shape := ⟨0, ![]⟩

class Facts : Prop where
  bcast_S_S8x2048x1024 : S_.BroadcastsInDim S8x2048x1024 (![] : Fin 0 → Fin S8x2048x1024.rank)
  bcast_S_S1x1024 : S_.BroadcastsInDim S1x1024 (![] : Fin 0 → Fin S1x1024.rank)
  bcast_S_S1x1024x2208 : S_.BroadcastsInDim S1x1024x2208 (![] : Fin 0 → Fin S1x1024x2208.rank)
  bcast_S_S1x384 : S_.BroadcastsInDim S1x384 (![] : Fin 0 → Fin S1x384.rank)
  bcast_S_S1x384x768 : S_.BroadcastsInDim S1x384x768 (![] : Fin 0 → Fin S1x384x768.rank)
  bcast_S_S1x256 : S_.BroadcastsInDim S1x256 (![] : Fin 0 → Fin S1x256.rank)
  bcast_S_S1x256x1024 : S_.BroadcastsInDim S1x256x1024 (![] : Fin 0 → Fin S1x256x1024.rank)

variable [Facts]

def fn_part1 {F : FTy → Type} [FloatOps F] (main_arg6 : FVec F S1x256x1024 .f32) (main_v2 : IVec S8x2048x1024 1) (main_v5 : IVec S1x1024 1) (main_v8 : IVec S1x1024x2208 1) (main_v11 : IVec S1x384 1) (main_v14 : IVec S1x384x768 1) (main_v17 : IVec S1x256 1) : IVec S8x2048x1024 1 × IVec S1x1024 1 × IVec S1x1024x2208 1 × IVec S1x384 1 × IVec S1x384x768 1 × IVec S1x256 1 × IVec S1x256x1024 1 :=
  let main_v18 : FVec F S1x256x1024 .f32 := Host.absf main_arg6
  let main_cst_5 : FVec F S_ .f32 := constant S_ .f32 0x7F800000#32
  let main_v19 : FVec F S1x256x1024 .f32 := broadcastInDim S1x256x1024 ![] bcast_S_S1x256x1024 main_cst_5
  let main_v20 : IVec S1x256x1024 1 := cmpf .olt main_v18 main_v19
  (main_v2, main_v5, main_v8, main_v11, main_v14, main_v17, main_v20)

def fn {F : FTy → Type} [FloatOps F] (main_arg0 : FVec F S8x2048x1024 .f32) (main_arg1 : FVec F S1x1024 .f32) (main_arg2 : FVec F S1x1024x2208 .f32) (main_arg3 : FVec F S1x384 .f32) (main_arg4 : FVec F S1x384x768 .f32) (main_arg5 : FVec F S1x256 .f32) (main_arg6 : FVec F S1x256x1024 .f32) : IVec S8x2048x1024 1 × IVec S1x1024 1 × IVec S1x1024x2208 1 × IVec S1x384 1 × IVec S1x384x768 1 × IVec S1x256 1 × IVec S1x256x1024 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2208 .f32 := Host.absf main_arg2
  let main_cst_1 : FVec F S_ .f32 := constant S_ .f32 0x7F800000#32
  let main_v7 : FVec F S1x1024x2208 .f32 := broadcastInDim S1x1024x2208 ![] bcast_S_S1x1024x2208 main_cst_1
  let main_v8 : IVec S1x1024x2208 1 := cmpf .olt main_v6 main_v7
  let main_v9 : FVec F S1x384 .f32 := Host.absf main_arg3
  let main_cst_2 : FVec F S_ .f32 := constant S_ .f32 0x7F800000#32
  let main_v10 : FVec F S1x384 .f32 := broadcastInDim S1x384 ![] bcast_S_S1x384 main_cst_2
  let main_v11 : IVec S1x384 1 := cmpf .olt main_v9 main_v10
  let main_v12 : FVec F S1x384x768 .f32 := Host.absf main_arg4
  let main_cst_3 : FVec F S_ .f32 := constant S_ .f32 0x7F800000#32
  let main_v13 : FVec F S1x384x768 .f32 := broadcastInDim S1x384x768 ![] bcast_S_S1x384x768 main_cst_3
  let main_v14 : IVec S1x384x768 1 := cmpf .olt main_v12 main_v13
  let main_v15 : FVec F S1x256 .f32 := Host.absf main_arg5
  let main_cst_4 : FVec F S_ .f32 := constant S_ .f32 0x7F800000#32
  let main_v16 : FVec F S1x256 .f32 := broadcastInDim S1x256 ![] bcast_S_S1x256 main_cst_4
  let main_v17 : IVec S1x256 1 := cmpf .olt main_v15 main_v16
  fn_part1 (F := F) main_arg6 main_v2 main_v5 main_v8 main_v11 main_v14 main_v17
-- ==== Pre_finite_scores.lean ====
abbrev S16384x512 : Shape := ⟨2, ![16384, 512]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)

variable [Facts]

def fn {F : FTy → Type} [FloatOps F] (main_arg0 : FVec F S16384x512 .bf16) (main_arg1 : FVec F S16384x512 .bf16) (main_arg2 : FVec F S16384x512 .bf16) : IVec S16384x512 1 × IVec S16384x512 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := (extf .f32 · bitsLt_bf16_f32) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  (main_v3, main_v7)
-- ==== Attn.lean ====
abbrev S8x2048x1024 : Shape := ⟨3, ![8, 2048, 1024]⟩
abbrev S1x1024 : Shape := ⟨2, ![1, 1024]⟩
abbrev S1x1024x2208 : Shape := ⟨3, ![1, 1024, 2208]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x128 : Shape := ⟨2, ![2048, 128]⟩
abbrev S1 : Shape := ⟨1, ![1]⟩
abbrev S1x2048x128 : Shape := ⟨3, ![1, 2048, 128]⟩
abbrev S3x2048x128 : Shape := ⟨3, ![3, 2048, 128]⟩
abbrev S1x3x1x2048x1x128 : Shape := ⟨6, ![1, 3, 1, 2048, 1, 128]⟩
abbrev S8 : Shape := ⟨1, ![8]⟩
abbrev S1x8 : Shape := ⟨2, ![1, 8]⟩
abbrev S2048x8 : Shape := ⟨2, ![2048, 8]⟩
abbrev S2048x64 : Shape := ⟨2, ![2048, 64]⟩
abbrev S1x2048x64 : Shape := ⟨3, ![1, 2048, 64]⟩
abbrev S3x2048x64 : Shape := ⟨3, ![3, 2048, 64]⟩
abbrev S1x3x1x2048x1x64 : Shape := ⟨6, ![1, 3, 1, 2048, 1, 64]⟩
abbrev S1x3x1x2048x2x64 : Shape := ⟨6, ![1, 3, 1, 2048, 2, 64]⟩
abbrev S16384x1024 : Shape := ⟨2, ![16384, 1024]⟩
abbrev S1024x2208 : Shape := ⟨2, ![1024, 2208]⟩
abbrev S1024x32 : Shape := ⟨2, ![1024, 32]⟩
abbrev S1024x128 : Shape := ⟨2, ![1024, 128]⟩
abbrev S1024x640 : Shape := ⟨2, ![1024, 640]⟩
abbrev S1024x1536 : Shape := ⟨2, ![1024, 1536]⟩
abbrev S1024x2304 : Shape := ⟨2, ![1024, 2304]⟩
abbrev S384x768 : Shape := ⟨2, ![384, 768]⟩
abbrev S384x8x96 : Shape := ⟨3, ![384, 8, 96]⟩
abbrev S384x8x128 : Shape := ⟨3, ![384, 8, 128]⟩
abbrev S384x1024 : Shape := ⟨2, ![384, 1024]⟩
abbrev S256x1024 : Shape := ⟨2, ![256, 1024]⟩
abbrev S256x8x128 : Shape := ⟨3, ![256, 8, 128]⟩
abbrev S256x8x64 : Shape := ⟨3, ![256, 8, 64]⟩
abbrev S256x512 : Shape := ⟨2, ![256, 512]⟩
abbrev S1024 : Shape := ⟨1, ![1024]⟩
abbrev S384 : Shape := ⟨1, ![384]⟩
abbrev S256 : Shape := ⟨1, ![256]⟩
abbrev S16384x512 : Shape := ⟨2, ![16384, 512]⟩
abbrev S512x1024 : Shape := ⟨2, ![512, 1024]⟩
abbrev S3x512x128 : Shape := ⟨3, ![3, 512, 128]⟩
abbrev S512x512 : Shape := ⟨2, ![512, 512]⟩
abbrev S512 : Shape := ⟨1, ![512]⟩
abbrev S512x1 : Shape := ⟨2, ![512, 1]⟩
abbrev S512x2304 : Shape := ⟨2, ![512, 2304]⟩
abbrev S512x384 : Shape := ⟨2, ![512, 384]⟩
abbrev S512x256 : Shape := ⟨2, ![512, 256]⟩
abbrev S512x128 : Shape := ⟨2, ![512, 128]⟩
abbrev S1x512x128 : Shape := ⟨3, ![1, 512, 128]⟩
abbrev S8x2048x512 : Shape := ⟨3, ![8, 2048, 512]⟩
abbrev S1x256x256 : Shape := ⟨3, ![1, 256, 256]⟩
abbrev S1x2048x256 : Shape := ⟨3, ![1, 2048, 256]⟩
abbrev S1x256x128 : Shape := ⟨3, ![1, 256, 128]⟩
abbrev S256x128 : Shape := ⟨2, ![256, 128]⟩
abbrev S256x2048 : Shape := ⟨2, ![256, 2048]⟩
abbrev S256x1 : Shape := ⟨2, ![256, 1]⟩

abbrev nBuf : Space → Nat
  | .hbm => 255
  | .vmem => 37
  | .smem => 0
  | _ => 0

abbrev hbmTy0_0 (i : Nat) : BufTy := match i % 128 with
  | 0 => ⟨S8x2048x1024, .f32⟩
  | 1 => ⟨S1x1024, .f32⟩
  | 2 => ⟨S1x1024x2208, .f32⟩
  | 3 => ⟨S1x384, .f32⟩
  | 4 => ⟨S1x384x768, .f32⟩
  | 5 => ⟨S1x256, .f32⟩
  | 6 => ⟨S1x256x1024, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S2048, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x16, .f32⟩
  | 28 => ⟨S2048x16, .f32⟩
  | 29 => ⟨S_, .f32⟩
  | 30 => ⟨S2048x128, .f32⟩
  | 31 => ⟨S_, .i32⟩
  | 32 => ⟨S1, .i32⟩
  | 33 => ⟨S2048x128, .f32⟩
  | 34 => ⟨S_, .i32⟩
  | 35 => ⟨S1, .i32⟩
  | 36 => ⟨S2048x128, .f32⟩
  | 37 => ⟨S_, .f32⟩
  | 38 => ⟨S2048x128, .f32⟩
  | 39 => ⟨S_, .i32⟩
  | 40 => ⟨S1, .i32⟩
  | 41 => ⟨S2048x128, .f32⟩
  | 42 => ⟨S_, .f32⟩
  | 43 => ⟨S2048x128, .f32⟩
  | 44 => ⟨S2048x16, .f32⟩
  | 45 => ⟨S_, .i32⟩
  | 46 => ⟨S1, .i32⟩
  | 47 => ⟨S2048x128, .f32⟩
  | 48 => ⟨S1x2048x128, .f32⟩
  | 49 => ⟨S1x2048x128, .f32⟩
  | 50 => ⟨S1x2048x128, .f32⟩
  | 51 => ⟨S3x2048x128, .f32⟩
  | 52 => ⟨S_, .f32⟩
  | 53 => ⟨S3x2048x128, .f32⟩
  | 54 => ⟨S3x2048x128, .f32⟩
  | 55 => ⟨S1x3x1x2048x1x128, .f32⟩
  | 56 => ⟨S1x3x1x2048x1x128, .f32⟩
  | 57 => ⟨S3x2048x128, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S2048, .f32⟩
  | 73 => ⟨S2048x1, .f32⟩
  | 74 => ⟨S1x16, .f32⟩
  | 75 => ⟨S2048x16, .f32⟩
  | 76 => ⟨S2048x16, .f32⟩
  | 77 => ⟨S2048x16, .f32⟩
  | 78 => ⟨S2048x16, .f32⟩
  | 79 => ⟨S2048x16, .f32⟩
  | 80 => ⟨S_, .f32⟩
  | 81 => ⟨S2048x128, .f32⟩
  | 82 => ⟨S_, .i32⟩
  | 83 => ⟨S1, .i32⟩
  | 84 => ⟨S2048x128, .f32⟩
  | 85 => ⟨S_, .i32⟩
  | 86 => ⟨S1, .i32⟩
  | 87 => ⟨S2048x128, .f32⟩
  | 88 => ⟨S_, .f32⟩
  | 89 => ⟨S2048x128, .f32⟩
  | 90 => ⟨S_, .i32⟩
  | 91 => ⟨S1, .i32⟩
  | 92 => ⟨S2048x128, .f32⟩
  | 93 => ⟨S_, .f32⟩
  | 94 => ⟨S2048x128, .f32⟩
  | 95 => ⟨S2048x16, .f32⟩
  | 96 => ⟨S_, .i32⟩
  | 97 => ⟨S1, .i32⟩
  | 98 => ⟨S2048x128, .f32⟩
  | 99 => ⟨S1x2048x128, .f32⟩
  | 100 => ⟨S1x2048x128, .f32⟩
  | 101 => ⟨S1x2048x128, .f32⟩
  | 102 => ⟨S3x2048x128, .f32⟩
  | 103 => ⟨S_, .f32⟩
  | 104 => ⟨S3x2048x128, .f32⟩
  | 105 => ⟨S3x2048x128, .f32⟩
  | 106 => ⟨S1x3x1x2048x1x128, .f32⟩
  | 107 => ⟨S1x3x1x2048x1x128, .f32⟩
  | 108 => ⟨S3x2048x128, .f32⟩
  | 109 => ⟨S8, .f32⟩
  | 110 => ⟨S_, .f32⟩
  | 111 => ⟨S8, .f32⟩
  | 112 => ⟨S8, .f32⟩
  | 113 => ⟨S_, .f32⟩
  | 114 => ⟨S8, .f32⟩
  | 115 => ⟨S8, .f32⟩
  | 116 => ⟨S8, .f32⟩
  | 117 => ⟨S_, .f32⟩
  | 118 => ⟨S8, .f32⟩
  | 119 => ⟨S8, .f32⟩
  | 120 => ⟨S_, .f32⟩
  | 121 => ⟨S8, .f32⟩
  | 122 => ⟨S8, .f32⟩
  | 123 => ⟨S2048, .f32⟩
  | 124 => ⟨S2048x1, .f32⟩
  | 125 => ⟨S1x8, .f32⟩
  | 126 => ⟨S2048x8, .f32⟩
  | 127 => ⟨S2048x8, .f32⟩
  | _ => ⟨S8x2048x1024, .f32⟩

abbrev hbmTy0_1 (i : Nat) : BufTy := match i % 128 with
  | 0 => ⟨S2048x8, .f32⟩
  | 1 => ⟨S2048x8, .f32⟩
  | 2 => ⟨S2048x8, .f32⟩
  | 3 => ⟨S_, .f32⟩
  | 4 => ⟨S2048x64, .f32⟩
  | 5 => ⟨S_, .i32⟩
  | 6 => ⟨S1, .i32⟩
  | 7 => ⟨S2048x64, .f32⟩
  | 8 => ⟨S_, .i32⟩
  | 9 => ⟨S1, .i32⟩
  | 10 => ⟨S2048x64, .f32⟩
  | 11 => ⟨S_, .f32⟩
  | 12 => ⟨S2048x64, .f32⟩
  | 13 => ⟨S_, .i32⟩
  | 14 => ⟨S1, .i32⟩
  | 15 => ⟨S2048x64, .f32⟩
  | 16 => ⟨S_, .f32⟩
  | 17 => ⟨S2048x64, .f32⟩
  | 18 => ⟨S2048x8, .f32⟩
  | 19 => ⟨S_, .i32⟩
  | 20 => ⟨S1, .i32⟩
  | 21 => ⟨S2048x64, .f32⟩
  | 22 => ⟨S1x2048x64, .f32⟩
  | 23 => ⟨S1x2048x64, .f32⟩
  | 24 => ⟨S1x2048x64, .f32⟩
  | 25 => ⟨S3x2048x64, .f32⟩
  | 26 => ⟨S_, .f32⟩
  | 27 => ⟨S3x2048x64, .f32⟩
  | 28 => ⟨S3x2048x64, .f32⟩
  | 29 => ⟨S1x3x1x2048x1x64, .f32⟩
  | 30 => ⟨S1x3x1x2048x2x64, .f32⟩
  | 31 => ⟨S3x2048x128, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S2048, .f32⟩
  | 47 => ⟨S2048x1, .f32⟩
  | 48 => ⟨S1x8, .f32⟩
  | 49 => ⟨S2048x8, .f32⟩
  | 50 => ⟨S2048x8, .f32⟩
  | 51 => ⟨S2048x8, .f32⟩
  | 52 => ⟨S2048x8, .f32⟩
  | 53 => ⟨S2048x8, .f32⟩
  | 54 => ⟨S_, .f32⟩
  | 55 => ⟨S2048x64, .f32⟩
  | 56 => ⟨S_, .i32⟩
  | 57 => ⟨S1, .i32⟩
  | 58 => ⟨S2048x64, .f32⟩
  | 59 => ⟨S_, .i32⟩
  | 60 => ⟨S1, .i32⟩
  | 61 => ⟨S2048x64, .f32⟩
  | 62 => ⟨S_, .f32⟩
  | 63 => ⟨S2048x64, .f32⟩
  | 64 => ⟨S_, .i32⟩
  | 65 => ⟨S1, .i32⟩
  | 66 => ⟨S2048x64, .f32⟩
  | 67 => ⟨S_, .f32⟩
  | 68 => ⟨S2048x64, .f32⟩
  | 69 => ⟨S2048x8, .f32⟩
  | 70 => ⟨S_, .i32⟩
  | 71 => ⟨S1, .i32⟩
  | 72 => ⟨S2048x64, .f32⟩
  | 73 => ⟨S1x2048x64, .f32⟩
  | 74 => ⟨S1x2048x64, .f32⟩
  | 75 => ⟨S1x2048x64, .f32⟩
  | 76 => ⟨S3x2048x64, .f32⟩
  | 77 => ⟨S_, .f32⟩
  | 78 => ⟨S3x2048x64, .f32⟩
  | 79 => ⟨S3x2048x64, .f32⟩
  | 80 => ⟨S1x3x1x2048x1x64, .f32⟩
  | 81 => ⟨S1x3x1x2048x2x64, .f32⟩
  | 82 => ⟨S3x2048x128, .f32⟩
  | 83 => ⟨S16384x1024, .f32⟩
  | 84 => ⟨S1024x2208, .f32⟩
  | 85 => ⟨S1024x32, .f32⟩
  | 86 => ⟨S_, .i32⟩
  | 87 => ⟨S_, .f32⟩
  | 88 => ⟨S1024x128, .f32⟩
  | 89 => ⟨S1024x640, .f32⟩
  | 90 => ⟨S1024x1536, .f32⟩
  | 91 => ⟨S1024x2304, .f32⟩
  | 92 => ⟨S1024x2304, .bf16⟩
  | 93 => ⟨S384x768, .f32⟩
  | 94 => ⟨S384x8x96, .f32⟩
  | 95 => ⟨S_, .i32⟩
  | 96 => ⟨S_, .f32⟩
  | 97 => ⟨S384x8x128, .f32⟩
  | 98 => ⟨S384x1024, .f32⟩
  | 99 => ⟨S384x1024, .bf16⟩
  | 100 => ⟨S256x1024, .f32⟩
  | 101 => ⟨S256x8x128, .f32⟩
  | 102 => ⟨S256x8x64, .f32⟩
  | 103 => ⟨S_, .i32⟩
  | 104 => ⟨S_, .f32⟩
  | 105 => ⟨S256x8x128, .f32⟩
  | 106 => ⟨S256x1024, .f32⟩
  | 107 => ⟨S256x1024, .bf16⟩
  | 108 => ⟨S256x8x64, .f32⟩
  | 109 => ⟨S256x512, .f32⟩
  | 110 => ⟨S256x512, .bf16⟩
  | 111 => ⟨S1024, .f32⟩
  | 112 => ⟨S1x1024, .f32⟩
  | 113 => ⟨S384, .f32⟩
  | 114 => ⟨S1x384, .f32⟩
  | 115 => ⟨S256, .f32⟩
  | 116 => ⟨S1x256, .f32⟩
  | 117 => ⟨S16384x1024, .bf16⟩
  | 118 => ⟨S16384x1024, .bf16⟩
  | 119 => ⟨S16384x512, .bf16⟩
  | 120 => ⟨S16384x512, .bf16⟩
  | 121 => ⟨S16384x512, .bf16⟩
  | 122 => ⟨S16384x512, .bf16⟩
  | 123 => ⟨S8x2048x1024, .bf16⟩
  | 124 => ⟨S8x2048x1024, .bf16⟩
  | 125 => ⟨S8x2048x512, .bf16⟩
  | 126 => ⟨S8x2048x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S1x384, .f32⟩
  | .local _ .vmem, ⟨5, _⟩ => ⟨S384x1024, .bf16⟩
  | .local _ .vmem, ⟨6, _⟩ => ⟨S1x256, .f32⟩
  | .local _ .vmem, ⟨7, _⟩ => ⟨S256x1024, .bf16⟩
  | .local _ .vmem, ⟨8, _⟩ => ⟨S256x512, .bf16⟩
  | .local _ .vmem, ⟨9, _⟩ => ⟨S3x512x128, .f32⟩
  | .local _ .vmem, ⟨10, _⟩ => ⟨S3x512x128, .f32⟩
  | .local _ .vmem, ⟨11, _⟩ => ⟨S3x512x128, .f32⟩
  | .local _ .vmem, ⟨12, _⟩ => ⟨S3x512x128, .f32⟩
  | .local _ .vmem, ⟨13, _⟩ => ⟨S3x512x128, .f32⟩
  | .local _ .vmem, ⟨14, _⟩ => ⟨S3x512x128, .f32⟩
  | .local _ .vmem, ⟨15, _⟩ => ⟨S3x512x128, .f32⟩
  | .local _ .vmem, ⟨16, _⟩ => ⟨S3x512x128, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S1x256x256, .bf16⟩
  | .local _ .vmem, ⟨30, _⟩ => ⟨S1x256x256, .bf16⟩
  | .local _ .vmem, ⟨31, _⟩ => ⟨S1x2048x256, .bf16⟩
  | .local _ .vmem, ⟨32, _⟩ => ⟨S1x2048x256, .bf16⟩
  | .local _ .vmem, ⟨33, _⟩ => ⟨S1x2048x128, .bf16⟩
  | .local _ .vmem, ⟨34, _⟩ => ⟨S1x2048x128, .bf16⟩
  | .local _ .vmem, ⟨35, _⟩ => ⟨S1x256x128, .f32⟩
  | .local _ .vmem, ⟨36, _⟩ => ⟨S1x256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_c_15 : Ref sig .tc := ⟨.hbm, 82, rfl⟩
abbrev main_v58 : Ref sig .tc := ⟨.hbm, 83, rfl⟩
abbrev main_v59 : Ref sig .tc := ⟨.hbm, 84, rfl⟩
abbrev main_c_16 : Ref sig .tc := ⟨.hbm, 85, rfl⟩
abbrev main_v60 : Ref sig .tc := ⟨.hbm, 86, rfl⟩
abbrev main_v61 : Ref sig .tc := ⟨.hbm, 87, rfl⟩
abbrev main_cst_17 : Ref sig .tc := ⟨.hbm, 88, rfl⟩
abbrev main_v62 : Ref sig .tc := ⟨.hbm, 89, rfl⟩
abbrev main_c_18 : Ref sig .tc := ⟨.hbm, 90, rfl⟩
abbrev main_v63 : Ref sig .tc := ⟨.hbm, 91, rfl⟩
abbrev main_v64 : Ref sig .tc := ⟨.hbm, 92, rfl⟩
abbrev main_cst_19 : Ref sig .tc := ⟨.hbm, 93, rfl⟩
abbrev main_v65 : Ref sig .tc := ⟨.hbm, 94, rfl⟩
abbrev main_v66 : Ref sig .tc := ⟨.hbm, 95, rfl⟩
abbrev main_c_20 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_21 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_22 : Ref sig .tc := ⟨.hbm, 110, rfl⟩
abbrev main_v79 : Ref sig .tc := ⟨.hbm, 111, rfl⟩
abbrev main_v80 : Ref sig .tc := ⟨.hbm, 112, rfl⟩
abbrev main_cst_23 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_24 : Ref sig .tc := ⟨.hbm, 117, rfl⟩
abbrev main_v84 : Ref sig .tc := ⟨.hbm, 118, rfl⟩
abbrev main_v85 : Ref sig .tc := ⟨.hbm, 119, rfl⟩
abbrev main_cst_25 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_26 : Ref sig .tc := ⟨.hbm, 131, rfl⟩
abbrev main_v96 : Ref sig .tc := ⟨.hbm, 132, rfl⟩
abbrev main_c_27 : Ref sig .tc := ⟨.hbm, 133, rfl⟩
abbrev main_v97 : Ref sig .tc := ⟨.hbm, 134, rfl⟩
abbrev main_v98 : Ref sig .tc := ⟨.hbm, 135, rfl⟩
abbrev main_c_28 : Ref sig .tc := ⟨.hbm, 136, rfl⟩
abbrev main_v99 : Ref sig .tc := ⟨.hbm, 137, rfl⟩
abbrev main_v100 : Ref sig .tc := ⟨.hbm, 138, rfl⟩
abbrev main_cst_29 : Ref sig .tc := ⟨.hbm, 139, rfl⟩
abbrev main_v101 : Ref sig .tc := ⟨.hbm, 140, rfl⟩
abbrev main_c_30 : Ref sig .tc := ⟨.hbm, 141, rfl⟩
abbrev main_v102 : Ref sig .tc := ⟨.hbm, 142, rfl⟩
abbrev main_v103 : Ref sig .tc := ⟨.hbm, 143, rfl⟩
abbrev main_cst_31 : Ref sig .tc := ⟨.hbm, 144, rfl⟩
abbrev main_v104 : Ref sig .tc := ⟨.hbm, 145, rfl⟩
abbrev main_v105 : Ref sig .tc := ⟨.hbm, 146, rfl⟩
abbrev main_c_32 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_33 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_34 : Ref sig .tc := ⟨.hbm, 161, rfl⟩
abbrev main_v118 : Ref sig .tc := ⟨.hbm, 162, rfl⟩
abbrev main_v119 : Ref sig .tc := ⟨.hbm, 163, rfl⟩
abbrev main_cst_35 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_36 : Ref sig .tc := ⟨.hbm, 168, rfl⟩
abbrev main_v123 : Ref sig .tc := ⟨.hbm, 169, rfl⟩
abbrev main_v124 : Ref sig .tc := ⟨.hbm, 170, rfl⟩
abbrev main_cst_37 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_38 : Ref sig .tc := ⟨.hbm, 182, rfl⟩
abbrev main_v135 : Ref sig .tc := ⟨.hbm, 183, rfl⟩
abbrev main_c_39 : Ref sig .tc := ⟨.hbm, 184, rfl⟩
abbrev main_v136 : Ref sig .tc := ⟨.hbm, 185, rfl⟩
abbrev main_v137 : Ref sig .tc := ⟨.hbm, 186, rfl⟩
abbrev main_c_40 : Ref sig .tc := ⟨.hbm, 187, rfl⟩
abbrev main_v138 : Ref sig .tc := ⟨.hbm, 188, rfl⟩
abbrev main_v139 : Ref sig .tc := ⟨.hbm, 189, rfl⟩
abbrev main_cst_41 : Ref sig .tc := ⟨.hbm, 190, rfl⟩
abbrev main_v140 : Ref sig .tc := ⟨.hbm, 191, rfl⟩
abbrev main_c_42 : Ref sig .tc := ⟨.hbm, 192, rfl⟩
abbrev main_v141 : Ref sig .tc := ⟨.hbm, 193, rfl⟩
abbrev main_v142 : Ref sig .tc := ⟨.hbm, 194, rfl⟩
abbrev main_cst_43 : Ref sig .tc := ⟨.hbm, 195, rfl⟩
abbrev main_v143 : Ref sig .tc := ⟨.hbm, 196, rfl⟩
abbrev main_v144 : Ref sig .tc := ⟨.hbm, 197, rfl⟩
abbrev main_c_44 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_cst_45 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_c_46 : Ref sig .tc := ⟨.hbm, 214, rfl⟩
abbrev main_call0_v0 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_c_47 : Ref sig .tc := ⟨.hbm, 223, rfl⟩
abbrev main_call1_v0 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_c_48 : Ref sig .tc := ⟨.hbm, 231, rfl⟩
abbrev main_call2_v0 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184_0 : Ref sig .tc := ⟨.hbm, 245, rfl⟩
abbrev main_v184_1 : Ref sig .tc := ⟨.hbm, 246, rfl⟩
abbrev main_v184_2 : Ref sig .tc := ⟨.hbm, 247, rfl⟩
abbrev main_v184_3 : Ref sig .tc := ⟨.hbm, 248, rfl⟩
abbrev main_v184_4 : Ref sig .tc := ⟨.hbm, 249, rfl⟩
abbrev main_v184_5 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc1_stg0_0 : Ref sig .tc := ⟨.vmem, 29, rfl⟩
abbrev cc1_stg0_1 : Ref sig .tc := ⟨.vmem, 30, rfl⟩
abbrev cc1_stg1_0 : Ref sig .tc := ⟨.vmem, 31, rfl⟩
abbrev cc1_stg1_1 : Ref sig .tc := ⟨.vmem, 32, rfl⟩
abbrev cc1_stg2_0 : Ref sig .tc := ⟨.vmem, 33, rfl⟩
abbrev cc1_stg2_1 : Ref sig .tc := ⟨.vmem, 34, rfl⟩
abbrev cc1_stg3_0 : Ref sig .tc := ⟨.vmem, 35, rfl⟩
abbrev cc1_stg3_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc1_sem0_0 : DmaSem sig := 29
abbrev cc1_sem0_1 : DmaSem sig := 30
abbrev cc1_sem1_0 : DmaSem sig := 31
abbrev cc1_sem1_1 : DmaSem sig := 32
abbrev cc1_sem2_0 : DmaSem sig := 33
abbrev cc1_sem2_1 : DmaSem sig := 34
abbrev cc1_sem3_0 : DmaSem sig := 35
abbrev cc1_sem3_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_9 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_10 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_11 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨3, ![8, 4, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]
-- ==== AttnRefIdeal.lean ====
abbrev S8x2048x1024 : Shape := ⟨3, ![8, 2048, 1024]⟩
abbrev S1x1024 : Shape := ⟨2, ![1, 1024]⟩
abbrev S1x1024x2208 : Shape := ⟨3, ![1, 1024, 2208]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S8 : Shape := ⟨1, ![8]⟩
abbrev S1x8 : Shape := ⟨2, ![1, 8]⟩
abbrev S2048x8 : Shape := ⟨2, ![2048, 8]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1024x2208 : Shape := ⟨2, ![1024, 2208]⟩
abbrev S8x2048x2208 : Shape := ⟨3, ![8, 2048, 2208]⟩
abbrev S8x2048x384 : Shape := ⟨3, ![8, 2048, 384]⟩
abbrev S8x2048x256 : Shape := ⟨3, ![8, 2048, 256]⟩
abbrev S8x2048x32 : Shape := ⟨3, ![8, 2048, 32]⟩
abbrev S8x2048x512 : Shape := ⟨3, ![8, 2048, 512]⟩
abbrev S384 : Shape := ⟨1, ![384]⟩
abbrev S1x1x384 : Shape := ⟨3, ![1, 1, 384]⟩
abbrev S384x768 : Shape := ⟨2, ![384, 768]⟩
abbrev S8x2048x768 : Shape := ⟨3, ![8, 2048, 768]⟩
abbrev S8x2048x8x96 : Shape := ⟨4, ![8, 2048, 8, 96]⟩
abbrev S8x2048x8x64 : Shape := ⟨4, ![8, 2048, 8, 64]⟩
abbrev S8x2048x8x32 : Shape := ⟨4, ![8, 2048, 8, 32]⟩
abbrev S2048x1x16 : Shape := ⟨3, ![2048, 1, 16]⟩
abbrev S8x2048x8x16 : Shape := ⟨4, ![8, 2048, 8, 16]⟩
abbrev S1x2048x1x16 : Shape := ⟨4, ![1, 2048, 1, 16]⟩
abbrev S8x2048x8x0 : Shape := ⟨4, ![8, 2048, 8, 0]⟩
abbrev S256 : Shape := ⟨1, ![256]⟩
abbrev S1x1x256 : Shape := ⟨3, ![1, 1, 256]⟩
abbrev S256x1024 : Shape := ⟨2, ![256, 1024]⟩
abbrev S8x2048x8x128 : Shape := ⟨4, ![8, 2048, 8, 128]⟩
abbrev S8x2048x16 : Shape := ⟨3, ![8, 2048, 16]⟩
abbrev S1x2048x16 : Shape := ⟨3, ![1, 2048, 16]⟩
abbrev S8x2048x0 : Shape := ⟨3, ![8, 2048, 0]⟩
abbrev S8x8x2048x2048 : Shape := ⟨4, ![8, 8, 2048, 2048]⟩
abbrev S8x2048x2048x8 : Shape := ⟨4, ![8, 2048, 2048, 8]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S2048x1x8 : Shape := ⟨3, ![2048, 1, 8]⟩
abbrev S8x2048x8x8 : Shape := ⟨4, ![8, 2048, 8, 8]⟩
abbrev S1x2048x1x8 : Shape := ⟨4, ![1, 2048, 1, 8]⟩
abbrev S8x2048x8x48 : Shape := ⟨4, ![8, 2048, 8, 48]⟩
abbrev S16384x512 : Shape := ⟨2, ![16384, 512]⟩

abbrev nBuf : Space → Nat
  | .hbm => 233
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x2208, .f32⟩
  | 3 => ⟨S1x384, .f32⟩
  | 4 => ⟨S1x384x768, .f32⟩
  | 5 => ⟨S1x256, .f32⟩
  | 6 => ⟨S1x256x1024, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S2048, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x16, .f32⟩
  | 28 => ⟨S2048x16, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S2048, .f32⟩
  | 44 => ⟨S2048x1, .f32⟩
  | 45 => ⟨S1x8, .f32⟩
  | 46 => ⟨S2048x8, .f32⟩
  | 47 => ⟨S2048x8, .f32⟩
  | 48 => ⟨S2048x8, .f32⟩
  | 49 => ⟨S2048x8, .f32⟩
  | 50 => ⟨S2048x8, .f32⟩
  | 51 => ⟨S1024, .f32⟩
  | 52 => ⟨S8x2048x1024, .f32⟩
  | 53 => ⟨S_, .f32⟩
  | 54 => ⟨S8x2048, .f32⟩
  | 55 => ⟨S8x2048x1, .f32⟩
  | 56 => ⟨S_, .f32⟩
  | 57 => ⟨S8x2048x1, .f32⟩
  | 58 => ⟨S8x2048x1, .f32⟩
  | 59 => ⟨S_, .f32⟩
  | 60 => ⟨S8x2048x1, .f32⟩
  | 61 => ⟨S8x2048x1, .f32⟩
  | 62 => ⟨S8x2048x1, .f32⟩
  | 63 => ⟨S8x2048x1024, .f32⟩
  | 64 => ⟨S8x2048x1024, .f32⟩
  | 65 => ⟨S1x1x1024, .f32⟩
  | 66 => ⟨S8x2048x1024, .f32⟩
  | 67 => ⟨S8x2048x1024, .f32⟩
  | 68 => ⟨S1024x2208, .f32⟩
  | 69 => ⟨S8x2048x2208, .f32⟩
  | 70 => ⟨S8x2048x384, .f32⟩
  | 71 => ⟨S8x2048x256, .f32⟩
  | 72 => ⟨S8x2048x32, .f32⟩
  | 73 => ⟨S8x2048x512, .f32⟩
  | 74 => ⟨S8x2048x512, .f32⟩
  | 75 => ⟨S8x2048x512, .f32⟩
  | 76 => ⟨S384, .f32⟩
  | 77 => ⟨S8x2048x384, .f32⟩
  | 78 => ⟨S_, .f32⟩
  | 79 => ⟨S8x2048, .f32⟩
  | 80 => ⟨S8x2048x1, .f32⟩
  | 81 => ⟨S_, .f32⟩
  | 82 => ⟨S8x2048x1, .f32⟩
  | 83 => ⟨S8x2048x1, .f32⟩
  | 84 => ⟨S_, .f32⟩
  | 85 => ⟨S8x2048x1, .f32⟩
  | 86 => ⟨S8x2048x1, .f32⟩
  | 87 => ⟨S8x2048x1, .f32⟩
  | 88 => ⟨S8x2048x384, .f32⟩
  | 89 => ⟨S8x2048x384, .f32⟩
  | 90 => ⟨S1x1x384, .f32⟩
  | 91 => ⟨S8x2048x384, .f32⟩
  | 92 => ⟨S8x2048x384, .f32⟩
  | 93 => ⟨S384x768, .f32⟩
  | 94 => ⟨S8x2048x768, .f32⟩
  | 95 => ⟨S8x2048x8x96, .f32⟩
  | 96 => ⟨S8x2048x8x64, .f32⟩
  | 97 => ⟨S8x2048x8x32, .f32⟩
  | 98 => ⟨S2048x1x16, .f32⟩
  | 99 => ⟨S2048x1x16, .f32⟩
  | 100 => ⟨S8x2048x8x16, .f32⟩
  | 101 => ⟨S8x2048x8x16, .f32⟩
  | 102 => ⟨S1x2048x1x16, .f32⟩
  | 103 => ⟨S8x2048x8x16, .f32⟩
  | 104 => ⟨S8x2048x8x16, .f32⟩
  | 105 => ⟨S1x2048x1x16, .f32⟩
  | 106 => ⟨S8x2048x8x16, .f32⟩
  | 107 => ⟨S8x2048x8x16, .f32⟩
  | 108 => ⟨S8x2048x8x16, .f32⟩
  | 109 => ⟨S1x2048x1x16, .f32⟩
  | 110 => ⟨S8x2048x8x16, .f32⟩
  | 111 => ⟨S8x2048x8x16, .f32⟩
  | 112 => ⟨S1x2048x1x16, .f32⟩
  | 113 => ⟨S8x2048x8x16, .f32⟩
  | 114 => ⟨S8x2048x8x16, .f32⟩
  | 115 => ⟨S8x2048x8x16, .f32⟩
  | 116 => ⟨S8x2048x8x0, .f32⟩
  | 117 => ⟨S8x2048x8x32, .f32⟩
  | 118 => ⟨S256, .f32⟩
  | 119 => ⟨S8x2048x256, .f32⟩
  | 120 => ⟨S_, .f32⟩
  | 121 => ⟨S8x2048, .f32⟩
  | 122 => ⟨S8x2048x1, .f32⟩
  | 123 => ⟨S_, .f32⟩
  | 124 => ⟨S8x2048x1, .f32⟩
  | 125 => ⟨S8x2048x1, .f32⟩
  | 126 => ⟨S_, .f32⟩
  | 127 => ⟨S8x2048x1, .f32⟩
  | _ => ⟨S8x2048x1024, .f32⟩

abbrev hbmTy0_1 (i : Nat) : BufTy := match i % 128 with
  | 0 => ⟨S8x2048x1, .f32⟩
  | 1 => ⟨S8x2048x1, .f32⟩
  | 2 => ⟨S8x2048x256, .f32⟩
  | 3 => ⟨S8x2048x256, .f32⟩
  | 4 => ⟨S1x1x256, .f32⟩
  | 5 => ⟨S8x2048x256, .f32⟩
  | 6 => ⟨S8x2048x256, .f32⟩
  | 7 => ⟨S256x1024, .f32⟩
  | 8 => ⟨S8x2048x1024, .f32⟩
  | 9 => ⟨S8x2048x8x128, .f32⟩
  | 10 => ⟨S8x2048x8x64, .f32⟩
  | 11 => ⟨S8x2048x8x64, .f32⟩
  | 12 => ⟨S8x2048x16, .f32⟩
  | 13 => ⟨S8x2048x16, .f32⟩
  | 14 => ⟨S1x2048x16, .f32⟩
  | 15 => ⟨S8x2048x16, .f32⟩
  | 16 => ⟨S8x2048x16, .f32⟩
  | 17 => ⟨S1x2048x16, .f32⟩
  | 18 => ⟨S8x2048x16, .f32⟩
  | 19 => ⟨S8x2048x16, .f32⟩
  | 20 => ⟨S8x2048x16, .f32⟩
  | 21 => ⟨S1x2048x16, .f32⟩
  | 22 => ⟨S8x2048x16, .f32⟩
  | 23 => ⟨S8x2048x16, .f32⟩
  | 24 => ⟨S1x2048x16, .f32⟩
  | 25 => ⟨S8x2048x16, .f32⟩
  | 26 => ⟨S8x2048x16, .f32⟩
  | 27 => ⟨S8x2048x16, .f32⟩
  | 28 => ⟨S8x2048x0, .f32⟩
  | 29 => ⟨S8x2048x32, .f32⟩
  | 30 => ⟨S8x8x2048x2048, .f32⟩
  | 31 => ⟨S8x2048x2048x8, .f32⟩
  | 32 => ⟨S8x8x2048x2048, .f32⟩
  | 33 => ⟨S8x8x2048x2048, .f32⟩
  | 34 => ⟨S_, .f32⟩
  | 35 => ⟨S8x8x2048x2048, .f32⟩
  | 36 => ⟨S8x8x2048x2048, .f32⟩
  | 37 => ⟨S_, .f32⟩
  | 38 => ⟨S8x8x2048, .f32⟩
  | 39 => ⟨S_, .f32⟩
  | 40 => ⟨S8x8x2048, .f32⟩
  | 41 => ⟨S8x8x2048, .f32⟩
  | 42 => ⟨S8x8x2048x1, .f32⟩
  | 43 => ⟨S8x8x2048x2048, .f32⟩
  | 44 => ⟨S8x8x2048x2048, .f32⟩
  | 45 => ⟨S8x8x2048x2048, .f32⟩
  | 46 => ⟨S_, .f32⟩
  | 47 => ⟨S8x8x2048, .f32⟩
  | 48 => ⟨S8x8x2048x1, .f32⟩
  | 49 => ⟨S8x8x2048x2048, .f32⟩
  | 50 => ⟨S8x8x2048x2048, .f32⟩
  | 51 => ⟨S8x8x64x2048, .f32⟩
  | 52 => ⟨S8x2048x8x64, .f32⟩
  | 53 => ⟨S8x2048x512, .f32⟩
  | 54 => ⟨S8x2048x8x64, .f32⟩
  | 55 => ⟨S2048x1x8, .f32⟩
  | 56 => ⟨S2048x1x8, .f32⟩
  | 57 => ⟨S8x2048x8x8, .f32⟩
  | 58 => ⟨S8x2048x8x8, .f32⟩
  | 59 => ⟨S1x2048x1x8, .f32⟩
  | 60 => ⟨S8x2048x8x8, .f32⟩
  | 61 => ⟨S8x2048x8x8, .f32⟩
  | 62 => ⟨S1x2048x1x8, .f32⟩
  | 63 => ⟨S8x2048x8x8, .f32⟩
  | 64 => ⟨S8x2048x8x8, .f32⟩
  | 65 => ⟨S8x2048x8x8, .f32⟩
  | 66 => ⟨S1x2048x1x8, .f32⟩
  | 67 => ⟨S8x2048x8x8, .f32⟩
  | 68 => ⟨S8x2048x8x8, .f32⟩
  | 69 => ⟨S1x2048x1x8, .f32⟩
  | 70 => ⟨S8x2048x8x8, .f32⟩
  | 71 => ⟨S8x2048x8x8, .f32⟩
  | 72 => ⟨S8x2048x8x8, .f32⟩
  | 73 => ⟨S8x2048x8x48, .f32⟩
  | 74 => ⟨S8x2048x8x64, .f32⟩
  | 75 => ⟨S_, .f32⟩
  | 76 => ⟨S8x2048x8x64, .f32⟩
  | 77 => ⟨S8x2048x8x64, .f32⟩
  | 78 => ⟨S8x2048x8x64, .f32⟩
  | 79 => ⟨S2048x1x8, .f32⟩
  | 80 => ⟨S2048x1x8, .f32⟩
  | 81 => ⟨S8x2048x8x8, .f32⟩
  | 82 => ⟨S8x2048x8x8, .f32⟩
  | 83 => ⟨S1x2048x1x8, .f32⟩
  | 84 => ⟨S8x2048x8x8, .f32⟩
  | 85 => ⟨S8x2048x8x8, .f32⟩
  | 86 => ⟨S1x2048x1x8, .f32⟩
  | 87 => ⟨S8x2048x8x8, .f32⟩
  | 88 => ⟨S8x2048x8x8, .f32⟩
  | 89 => ⟨S8x2048x8x8, .f32⟩
  | 90 => ⟨S1x2048x1x8, .f32⟩
  | 91 => ⟨S8x2048x8x8, .f32⟩
  | 92 => ⟨S8x2048x8x8, .f32⟩
  | 93 => ⟨S1x2048x1x8, .f32⟩
  | 94 => ⟨S8x2048x8x8, .f32⟩
  | 95 => ⟨S8x2048x8x8, .f32⟩
  | 96 => ⟨S8x2048x8x8, .f32⟩
  | 97 => ⟨S8x2048x8x48, .f32⟩
  | 98 => ⟨S8x2048x8x64, .f32⟩
  | 99 => ⟨S16384x512, .f32⟩
  | 100 => ⟨S16384x512, .bf16⟩
  | 101 => ⟨S16384x512, .f32⟩
  | 102 => ⟨S16384x512, .bf16⟩
  | 103 => ⟨S16384x512, .f32⟩
  | 104 => ⟨S16384x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_13 : Ref sig .tc := ⟨.hbm, 120, rfl⟩
abbrev main_v99 : Ref sig .tc := ⟨.hbm, 121, rfl⟩
abbrev main_v100 : Ref sig .tc := ⟨.hbm, 122, rfl⟩
abbrev main_cst_14 : Ref sig .tc := ⟨.hbm, 123, rfl⟩
abbrev main_v101 : Ref sig .tc := ⟨.hbm, 124, rfl⟩
abbrev main_v102 : Ref sig .tc := ⟨.hbm, 125, rfl⟩
abbrev main_cst_15 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_cst_16 : Ref sig .tc := ⟨.hbm, 162, rfl⟩
abbrev main_v138 : Ref sig .tc := ⟨.hbm, 163, rfl⟩
abbrev main_v139 : Ref sig .tc := ⟨.hbm, 164, rfl⟩
abbrev main_cst_17 : Ref sig .tc := ⟨.hbm, 165, rfl⟩
abbrev main_v140 : Ref sig .tc := ⟨.hbm, 166, rfl⟩
abbrev main_cst_18 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_cst_19 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_cst_20 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩

abbrev nD : Nat := 1
abbrev τ : Topo := Topo.v7x

variable {F : FTy → Type} [FloatOps F]
-- ==== Ple.lean ====
abbrev S16384x1024 : Shape := ⟨2, ![16384, 1024]⟩
abbrev S1x8x2048x256 : Shape := ⟨4, ![1, 8, 2048, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S8x2048x256 : Shape := ⟨3, ![8, 2048, 256]⟩
abbrev S16384x256 : Shape := ⟨2, ![16384, 256]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 16
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x8x2048x256, .f32⟩
  | .hbm, ⟨2, _⟩ => ⟨S1x1024, .f32⟩
  | .hbm, ⟨3, _⟩ => ⟨S1x1024x1024, .f32⟩
  | .hbm, ⟨4, _⟩ => ⟨S1x256x1024, .f32⟩
  | .hbm, ⟨5, _⟩ => ⟨S1024, .f32⟩
  | .hbm, ⟨6, _⟩ => ⟨S8x2048x256, .f32⟩
  | .hbm, ⟨7, _⟩ => ⟨S16384x256, .f32⟩
  | .hbm, ⟨8, _⟩ => ⟨S1024, .f32⟩
  | .hbm, ⟨9, _⟩ => ⟨S1x1024, .f32⟩
  | .hbm, ⟨10, _⟩ => ⟨S1024x1024, .f32⟩
  | .hbm, ⟨11, _⟩ => ⟨S1024x1024, .bf16⟩
  | .hbm, ⟨12, _⟩ => ⟨S256x1024, .f32⟩
  | .hbm, ⟨13, _⟩ => ⟨S256x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S16384x1024 : Shape := ⟨2, ![16384, 1024]⟩
abbrev S1x8x2048x256 : Shape := ⟨4, ![1, 8, 2048, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x1024 : Shape := ⟨2, ![1024, 1024]⟩
abbrev S8x2048x256 : Shape := ⟨3, ![8, 2048, 256]⟩
abbrev S16384x256 : Shape := ⟨2, ![16384, 256]⟩
abbrev S256x1024 : Shape := ⟨2, ![256, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x8x2048x256, .f32⟩
  | .hbm, ⟨2, _⟩ => ⟨S1x1024, .f32⟩
  | .hbm, ⟨3, _⟩ => ⟨S1x1024x1024, .f32⟩
  | .hbm, ⟨4, _⟩ => ⟨S1x256x1024, .f32⟩
  | .hbm, ⟨5, _⟩ => ⟨S1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S8x2048x256, .f32⟩
  | .hbm, ⟨34, _⟩ => ⟨S16384x256, .f32⟩
  | .hbm, ⟨35, _⟩ => ⟨S256x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Route.lean ====
abbrev S16384x512 : Shape := ⟨2, ![16384, 512]⟩
abbrev S16384x1024 : Shape := ⟨2, ![16384, 1024]⟩
abbrev S1x512 : Shape := ⟨2, ![1, 512]⟩
abbrev S1x1024x1024 : Shape := ⟨3, ![1, 1024, 1024]⟩
abbrev S1x1024 : Shape := ⟨2, ![1, 1024]⟩
abbrev S1x128x64 : Shape := ⟨3, ![1, 128, 64]⟩
abbrev S_ : Shape := ⟨0, ![]⟩
abbrev S128x64 : Shape := ⟨2, ![128, 64]⟩
abbrev S128x128 : Shape := ⟨2, ![128, 128]⟩
abbrev S256x128 : Shape := ⟨2, ![256, 128]⟩
abbrev S512 : Shape := ⟨1, ![512]⟩
abbrev S1024x1024 : Shape := ⟨2, ![1024, 1024]⟩
abbrev S512x1024 : Shape := ⟨2, ![512, 1024]⟩
abbrev S1024 : Shape := ⟨1, ![1024]⟩
abbrev S16384x128 : Shape := ⟨2, ![16384, 128]⟩
abbrev S256x512 : Shape := ⟨2, ![256, 512]⟩
abbrev S256x1024 : Shape := ⟨2, ![256, 1024]⟩
abbrev S8x256x256 : Shape := ⟨3, ![8, 256, 256]⟩
abbrev S8x16x256 : Shape := ⟨3, ![8, 16, 256]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S128x256 : Shape := ⟨2, ![128, 256]⟩
abbrev S8x256 : Shape := ⟨2, ![8, 256]⟩
abbrev S1x128x256 : Shape := ⟨3, ![1, 128, 256]⟩
abbrev S1x256 : Shape := ⟨2, ![1, 256]⟩
abbrev S72x256 : Shape := ⟨2, ![72, 256]⟩
abbrev S1x8x256 : Shape := ⟨3, ![1, 8, 256]⟩

abbrev nBuf : Space → Nat
  | .hbm => 37
  | .vmem => 27
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x1024, .f32⟩
  | .hbm, ⟨8, _⟩ => ⟨S1x128x64, .f32⟩
  | .hbm, ⟨9, _⟩ => ⟨S1x128x64, .f32⟩
  | .hbm, ⟨10, _⟩ => ⟨S_, .f32⟩
  | .hbm, ⟨11, _⟩ => ⟨S128x64, .f32⟩
  | .hbm, ⟨12, _⟩ => ⟨S128x64, .f32⟩
  | .hbm, ⟨13, _⟩ => ⟨S128x128, .f32⟩
  | .hbm, ⟨14, _⟩ => ⟨S128x64, .f32⟩
  | .hbm, ⟨15, _⟩ => ⟨S128x128, .f32⟩
  | .hbm, ⟨16, _⟩ => ⟨S256x128, .f32⟩
  | .hbm, ⟨17, _⟩ => ⟨S256x128, .bf16⟩
  | .hbm, ⟨18, _⟩ => ⟨S512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S1024x1024, .f32⟩
  | .hbm, ⟨23, _⟩ => ⟨S512x1024, .f32⟩
  | .hbm, ⟨24, _⟩ => ⟨S512x1024, .bf16⟩
  | .hbm, ⟨25, _⟩ => ⟨S1024x1024, .f32⟩
  | .hbm, ⟨26, _⟩ => ⟨S512x1024, .f32⟩
  | .hbm, ⟨27, _⟩ => ⟨S512x1024, .bf16⟩
  | .hbm, ⟨28, _⟩ => ⟨S1024, .f32⟩
  | .hbm, ⟨29, _⟩ => ⟨S1x1024, .f32⟩
  | .hbm, ⟨30, _⟩ => ⟨S1024x1024, .f32⟩
  | .hbm, ⟨31, _⟩ => ⟨S1024x1024, .bf16⟩
  | .hbm, ⟨32, _⟩ => ⟨S16384x1024, .f32⟩
  | .hbm, ⟨33, _⟩ => ⟨S16384x1024, .bf16⟩
  | .hbm, ⟨34, _⟩ => ⟨S16384x128, .f32⟩
  | .hbm, ⟨35, _⟩ => ⟨S16384x128, .f32⟩
  | .hbm, ⟨36, _⟩ => ⟨S16384x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x1024, .bf16⟩
  | .local _ .vmem, ⟨12, _⟩ => ⟨S256x128, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S8x256x256, .f32⟩
  | .local _ .vmem, ⟨24, _⟩ => ⟨S8x16x256, .f32⟩
  | .local _ .vmem, ⟨25, _⟩ => ⟨S8x16x256, .f32⟩
  | .local _ .vmem, ⟨26, _⟩ => ⟨S8x16x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev main_v21_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v115 : BitVec 32 := Scalar.addi c0_i32 c8_i32
  let c1_i32 : BitVec 32 := 1#32
  ⟨c0_i32, v115, c1_i32⟩
def k0_off1 (k0_t1 : Fin k0_t1_loop.trips) : Fin 3 → Nat :=
  let c0_i32 : BitVec 32 := 0#32
  let c1_i32 : BitVec 32 := 1#32
  let arg20 : BitVec 32 := Scf.iv c0_i32 c1_i32 k0_t1
  let v140 : Index := Scalar.indexCast arg20
  let c0_80 : Index := 0#32
  let c0_81 : Index := 0#32
  ![v140.toNat, 0, 0]
def k0_off2 (k0_t1 : Fin k0_t1_loop.trips) : Fin 3 → Nat :=
  let c0_i32 : BitVec 32 := 0#32
  let c1_i32 : BitVec 32 := 1#32
  let arg20 : BitVec 32 := Scf.iv c0_i32 c1_i32 k0_t1
  let v495 : Index := Scalar.indexCast arg20
  let c128_181 : Index := 128#32
  let c0_182 : Index := 0#32
  ![v495.toNat, 128, 0]
def k0_off3 (k0_t1 : Fin k0_t1_loop.trips) : Fin 3 → Nat :=
  let c0_i32 : BitVec 32 := 0#32
  let c1_i32 : BitVec 32 := 1#32
  let arg20 : BitVec 32 := Scf.iv c0_i32 c1_i32 k0_t1
  let v1353 : Index := Scalar.indexCast arg20
  let c0_427 : Index := 0#32
  let c0_428 : Index := 0#32
  ![v1353.toNat, 0, 0]
def k0_off4 (k0_t1 : Fin k0_t1_loop.trips) : Fin 3 → Nat :=
  let c0_i32 : BitVec 32 := 0#32
  let c1_i32 : BitVec 32 := 1#32
  let arg20 : BitVec 32 := Scf.iv c0_i32 c1_i32 k0_t1
  let v1379 : Index := Scalar.indexCast arg20
  let c8 : Index := 8#32
  let c0_437 : Index := 0#32
  ![v1379.toNat, 8, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RouteRefIdeal.lean ====
abbrev S16384x512 : Shape := ⟨2, ![16384, 512]⟩
abbrev S16384x1024 : Shape := ⟨2, ![16384, 1024]⟩
abbrev S1x512 : Shape := ⟨2, ![1, 512]⟩
abbrev S1x1024x1024 : Shape := ⟨3, ![1, 1024, 1024]⟩
abbrev S1x1024 : Shape := ⟨2, ![1, 1024]⟩
abbrev S1x128x64 : Shape := ⟨3, ![1, 128, 64]⟩
abbrev S512 : Shape := ⟨1, ![512]⟩
abbrev S_ : Shape := ⟨0, ![]⟩
abbrev S16384 : Shape := ⟨1, ![16384]⟩
abbrev S16384x1 : Shape := ⟨2, ![16384, 1]⟩
abbrev S1024x1024 : Shape := ⟨2, ![1024, 1024]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x1024, .f32⟩
  | .hbm, ⟨8, _⟩ => ⟨S1x128x64, .f32⟩
  | .hbm, ⟨9, _⟩ => ⟨S1x128x64, .f32⟩
  | .hbm, ⟨10, _⟩ => ⟨S512, .f32⟩
  | .hbm, ⟨11, _⟩ => ⟨S16384x512, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x512, .f32⟩
  | .hbm, ⟨23, _⟩ => ⟨S16384x512, .f32⟩
  | .hbm, ⟨24, _⟩ => ⟨S1x512, .f32⟩
  | .hbm, ⟨25, _⟩ => ⟨S16384x512, .f32⟩
  | .hbm, ⟨26, _⟩ => ⟨S16384x512, .f32⟩
  | .hbm, ⟨27, _⟩ => ⟨S512, .f32⟩
  | .hbm, ⟨28, _⟩ => ⟨S16384x512, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x512, .f32⟩
  | .hbm, ⟨40, _⟩ => ⟨S16384x512, .f32⟩
  | .hbm, ⟨41, _⟩ => ⟨S1x512, .f32⟩
  | .hbm, ⟨42, _⟩ => ⟨S16384x512, .f32⟩
  | .hbm, ⟨43, _⟩ => ⟨S16384x512, .f32⟩
  | .hbm, ⟨44, _⟩ => ⟨S16384x1024, .f32⟩
  | .hbm, ⟨45, _⟩ => ⟨S1024x1024, .f32⟩
  | .hbm, ⟨46, _⟩ => ⟨S16384x1024, .f32⟩
  | .hbm, ⟨47, _⟩ => ⟨S16384x1024, .f32⟩
  | .hbm, ⟨48, _⟩ => ⟨S1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Dil.lean ====
abbrev S16384x512 : Shape := ⟨2, ![16384, 512]⟩
abbrev S8x2048x512 : Shape := ⟨3, ![8, 2048, 512]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x256x128 : Shape := ⟨3, ![1, 256, 128]⟩
abbrev S1x2048x128 : Shape := ⟨3, ![1, 2048, 128]⟩
abbrev S256x2048 : Shape := ⟨2, ![256, 2048]⟩
abbrev S256x128 : Shape := ⟨2, ![256, 128]⟩
abbrev S2048x128 : Shape := ⟨2, ![2048, 128]⟩
abbrev S256 : Shape := ⟨1, ![256]⟩
abbrev S256x1 : Shape := ⟨2, ![256, 1]⟩

abbrev nBuf : Space → Nat
  | .hbm => 164
  | .vmem => 10
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S8x2048x512, .bf16⟩
  | 4 => ⟨S8x2048x512, .bf16⟩
  | 5 => ⟨S8x2048x512, .bf16⟩
  | 6 => ⟨S2048, .i32⟩
  | 7 => ⟨S2048x1, .i32⟩
  | 8 => ⟨S2048, .i32⟩
  | 9 => ⟨S1x2048, .i32⟩
  | 10 => ⟨S2048x2048, .i32⟩
  | 11 => ⟨S2048x2048, .i32⟩
  | 12 => ⟨S2048x2048, .i32⟩
  | 13 => ⟨S2048x2048, .i32⟩
  | 14 => ⟨S_, .f32⟩
  | 15 => ⟨S2048x2048, .f32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S2048x2048, .i32⟩
  | 23 => ⟨S2048x2048, .i32⟩
  | 24 => ⟨S_, .i32⟩
  | 25 => ⟨S2048x2048, .i32⟩
  | 26 => ⟨S2048x2048, .i1⟩
  | 27 => ⟨S_, .i32⟩
  | 28 => ⟨S2048x2048, .i32⟩
  | 29 => ⟨S2048x2048, .i1⟩
  | 30 => ⟨S_, .i32⟩
  | 31 => ⟨S_, .i1⟩
  | 32 => ⟨S2048x2048, .i1⟩
  | 33 => ⟨S2048x2048, .i1⟩
  | 34 => ⟨S2048x2048, .i1⟩
  | 35 => ⟨S2048x2048, .i32⟩
  | 36 => ⟨S2048x2048, .i32⟩
  | 37 => ⟨S2048x2048, .i32⟩
  | 38 => ⟨S_, .i32⟩
  | 39 => ⟨S2048x2048, .i32⟩
  | 40 => ⟨S2048x2048, .i1⟩
  | 41 => ⟨S_, .i32⟩
  | 42 => ⟨S_, .i32⟩
  | 43 => ⟨S2048x2048, .i32⟩
  | 44 => ⟨S2048x2048, .i32⟩
  | 45 => ⟨S2048x2048, .i32⟩
  | 46 => ⟨S_, .i32⟩
  | 47 => ⟨S2048x2048, .i32⟩
  | 48 => ⟨S2048x2048, .i1⟩
  | 49 => ⟨S2048x2048, .i32⟩
  | 50 => ⟨S2048x2048, .i32⟩
  | 51 => ⟨S_, .i32⟩
  | 52 => ⟨S2048x2048, .i32⟩
  | 53 => ⟨S2048x2048, .i1⟩
  | 54 => ⟨S2048x2048, .i1⟩
  | 55 => ⟨S_, .i32⟩
  | 56 => ⟨S2048x2048, .i32⟩
  | 57 => ⟨S2048x2048, .i32⟩
  | 58 => ⟨S2048x2048, .i32⟩
  | 59 => ⟨S_, .i32⟩
  | 60 => ⟨S2048x2048, .i32⟩
  | 61 => ⟨S2048x2048, .i1⟩
  | 62 => ⟨S2048x2048, .i1⟩
  | 63 => ⟨S2048x2048, .f32⟩
  | 64 => ⟨S2048x2048, .f32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S2048x2048, .i32⟩
  | 72 => ⟨S2048x2048, .i32⟩
  | 73 => ⟨S_, .i32⟩
  | 74 => ⟨S2048x2048, .i32⟩
  | 75 => ⟨S2048x2048, .i1⟩
  | 76 => ⟨S_, .i32⟩
  | 77 => ⟨S2048x2048, .i32⟩
  | 78 => ⟨S2048x2048, .i1⟩
  | 79 => ⟨S_, .i32⟩
  | 80 => ⟨S_, .i1⟩
  | 81 => ⟨S2048x2048, .i1⟩
  | 82 => ⟨S2048x2048, .i1⟩
  | 83 => ⟨S2048x2048, .i1⟩
  | 84 => ⟨S2048x2048, .i32⟩
  | 85 => ⟨S2048x2048, .i32⟩
  | 86 => ⟨S2048x2048, .i32⟩
  | 87 => ⟨S_, .i32⟩
  | 88 => ⟨S2048x2048, .i32⟩
  | 89 => ⟨S2048x2048, .i1⟩
  | 90 => ⟨S_, .i32⟩
  | 91 => ⟨S_, .i32⟩
  | 92 => ⟨S2048x2048, .i32⟩
  | 93 => ⟨S2048x2048, .i32⟩
  | 94 => ⟨S2048x2048, .i32⟩
  | 95 => ⟨S_, .i32⟩
  | 96 => ⟨S2048x2048, .i32⟩
  | 97 => ⟨S2048x2048, .i1⟩
  | 98 => ⟨S2048x2048, .i32⟩
  | 99 => ⟨S2048x2048, .i32⟩
  | 100 => ⟨S_, .i32⟩
  | 101 => ⟨S2048x2048, .i32⟩
  | 102 => ⟨S2048x2048, .i1⟩
  | 103 => ⟨S2048x2048, .i1⟩
  | 104 => ⟨S_, .i32⟩
  | 105 => ⟨S2048x2048, .i32⟩
  | 106 => ⟨S2048x2048, .i32⟩
  | 107 => ⟨S2048x2048, .i32⟩
  | 108 => ⟨S_, .i32⟩
  | 109 => ⟨S2048x2048, .i32⟩
  | 110 => ⟨S2048x2048, .i1⟩
  | 111 => ⟨S2048x2048, .i1⟩
  | 112 => ⟨S2048x2048, .f32⟩
  | 113 => ⟨S2048x2048, .f32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S2048x2048, .i32⟩
  | 121 => ⟨S2048x2048, .i32⟩
  | 122 => ⟨S_, .i32⟩
  | 123 => ⟨S2048x2048, .i32⟩
  | 124 => ⟨S2048x2048, .i1⟩
  | 125 => ⟨S_, .i32⟩
  | 126 => ⟨S2048x2048, .i32⟩
  | 127 => ⟨S2048x2048, .i1⟩
  | _ => ⟨S16384x512, .bf16⟩

abbrev hbmTy0_1 (i : Nat) : BufTy := match i % 128 with
  | 0 => ⟨S_, .i32⟩
  | 1 => ⟨S_, .i1⟩
  | 2 => ⟨S2048x2048, .i1⟩
  | 3 => ⟨S2048x2048, .i1⟩
  | 4 => ⟨S2048x2048, .i1⟩
  | 5 => ⟨S2048x2048, .i32⟩
  | 6 => ⟨S2048x2048, .i32⟩
  | 7 => ⟨S2048x2048, .i32⟩
  | 8 => ⟨S_, .i32⟩
  | 9 => ⟨S2048x2048, .i32⟩
  | 10 => ⟨S2048x2048, .i1⟩
  | 11 => ⟨S_, .i32⟩
  | 12 => ⟨S_, .i32⟩
  | 13 => ⟨S2048x2048, .i32⟩
  | 14 => ⟨S2048x2048, .i32⟩
  | 15 => ⟨S2048x2048, .i32⟩
  | 16 => ⟨S_, .i32⟩
  | 17 => ⟨S2048x2048, .i32⟩
  | 18 => ⟨S2048x2048, .i1⟩
  | 19 => ⟨S2048x2048, .i32⟩
  | 20 => ⟨S2048x2048, .i32⟩
  | 21 => ⟨S_, .i32⟩
  | 22 => ⟨S2048x2048, .i32⟩
  | 23 => ⟨S2048x2048, .i1⟩
  | 24 => ⟨S2048x2048, .i1⟩
  | 25 => ⟨S_, .i32⟩
  | 26 => ⟨S2048x2048, .i32⟩
  | 27 => ⟨S2048x2048, .i32⟩
  | 28 => ⟨S2048x2048, .i32⟩
  | 29 => ⟨S_, .i32⟩
  | 30 => ⟨S2048x2048, .i32⟩
  | 31 => ⟨S2048x2048, .i1⟩
  | 32 => ⟨S2048x2048, .i1⟩
  | 33 => ⟨S2048x2048, .f32⟩
  | 34 => ⟨S2048x2048, .f32⟩
  | 35 => ⟨S8x2048x512, .f32⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S256x2048, .f32⟩
  | .local _ .vmem, ⟨7, _⟩ => ⟨S256x2048, .f32⟩
  | .local _ .vmem, ⟨8, _⟩ => ⟨S1x256x128, .f32⟩
  | .local _ .vmem, ⟨9, _⟩ => ⟨S1x256x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v12 : Ref sig .tc := ⟨.hbm, 37, rfl⟩
abbrev main_c_0 : Ref sig .tc := ⟨.hbm, 38, rfl⟩
abbrev main_v13 : Ref sig .tc := ⟨.hbm, 39, rfl⟩
abbrev main_v14 : Ref sig .tc := ⟨.hbm, 40, rfl⟩
abbrev main_c_1 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v15 : Ref sig .tc := ⟨.hbm, 58, rfl⟩
abbrev main_c_2 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_c_3 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_1 : Ref sig .tc := ⟨.hbm, 73, rfl⟩
abbrev main_call2_v5 : Ref sig .tc := ⟨.hbm, 74, rfl⟩
abbrev main_call2_v6 : Ref sig .tc := ⟨.hbm, 75, rfl⟩
abbrev main_call2_c_2 : Ref sig .tc := ⟨.hbm, 76, rfl⟩
abbrev main_call2_v7 : Ref sig .tc := ⟨.hbm, 77, rfl⟩
abbrev main_call2_v8 : Ref sig .tc := ⟨.hbm, 78, rfl⟩
abbrev main_call2_c_3 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_v21 : Ref sig .tc := ⟨.hbm, 86, rfl⟩
abbrev main_c_4 : Ref sig .tc := ⟨.hbm, 87, rfl⟩
abbrev main_v22 : Ref sig .tc := ⟨.hbm, 88, rfl⟩
abbrev main_v23 : Ref sig .tc := ⟨.hbm, 89, rfl⟩
abbrev main_c_5 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_c : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_0 : Ref sig .tc := ⟨.hbm, 104, rfl⟩
abbrev main_call3_v12 : Ref sig .tc := ⟨.hbm, 105, rfl⟩
abbrev main_call3_v13 : Ref sig .tc := ⟨.hbm, 106, rfl⟩
abbrev main_v24 : Ref sig .tc := ⟨.hbm, 107, rfl⟩
abbrev main_c_6 : Ref sig .tc := ⟨.hbm, 108, rfl⟩
abbrev main_v25 : Ref sig .tc := ⟨.hbm, 109, rfl⟩
abbrev main_v26 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_c_7 : Ref sig .tc := ⟨.hbm, 114, rfl⟩
abbrev main_call4_v0 : Ref sig .tc := ⟨.hbm, 115, rfl⟩
abbrev main_call4_c : Ref sig .tc := ⟨.hbm, 116, rfl⟩
abbrev main_call4_v1 : Ref sig .tc := ⟨.hbm, 117, rfl⟩
abbrev main_call4_c_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_c_1 : Ref sig .tc := ⟨.hbm, 122, rfl⟩
abbrev main_call4_v5 : Ref sig .tc := ⟨.hbm, 123, rfl⟩
abbrev main_call4_v6 : Ref sig .tc := ⟨.hbm, 124, rfl⟩
abbrev main_call4_c_2 : Ref sig .tc := ⟨.hbm, 125, rfl⟩
abbrev main_call4_v7 : Ref sig .tc := ⟨.hbm, 126, rfl⟩
abbrev main_call4_v8 : Ref sig .tc := ⟨.hbm, 127, rfl⟩
abbrev main_call4_c_3 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_v12 : Ref sig .tc := ⟨.hbm, 132, rfl⟩
abbrev main_call4_v13 : Ref sig .tc := ⟨.hbm, 133, rfl⟩
abbrev main_call4_v14 : Ref sig .tc := ⟨.hbm, 134, rfl⟩
abbrev main_v30 : Ref sig .tc := ⟨.hbm, 135, rfl⟩
abbrev main_c_8 : Ref sig .tc := ⟨.hbm, 136, rfl⟩
abbrev main_v31 : Ref sig .tc := ⟨.hbm, 137, rfl⟩
abbrev main_v32 : Ref sig .tc := ⟨.hbm, 138, rfl⟩
abbrev main_c_9 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_v5 : Ref sig .tc := ⟨.hbm, 145, rfl⟩
abbrev main_call5_v6 : Ref sig .tc := ⟨.hbm, 146, rfl⟩
abbrev main_call5_v7 : Ref sig .tc := ⟨.hbm, 147, rfl⟩
abbrev main_call5_v8 : Ref sig .tc := ⟨.hbm, 148, rfl⟩
abbrev main_call5_c : Ref sig .tc := ⟨.hbm, 149, rfl⟩
abbrev main_call5_v9 : Ref sig .tc := ⟨.hbm, 150, rfl⟩
abbrev main_call5_v10 : Ref sig .tc := ⟨.hbm, 151, rfl⟩
abbrev main_call5_v11 : Ref sig .tc := ⟨.hbm, 152, rfl⟩
abbrev main_call5_c_0 : Ref sig .tc := ⟨.hbm, 153, rfl⟩
abbrev main_call5_v12 : Ref sig .tc := ⟨.hbm, 154, rfl⟩
abbrev main_call5_v13 : Ref sig .tc := ⟨.hbm, 155, rfl⟩
abbrev main_v33 : Ref sig .tc := ⟨.hbm, 156, rfl⟩
abbrev main_c_10 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== DilIdeal.lean ====
variable {F : FTy → Type} [FloatOps F] [Named F]
def κ : String → Option EReal := fun
  | "mask" => some ⊥
  | _ => none
-- ==== DilRefIdeal.lean ====
abbrev S16384x512 : Shape := ⟨2, ![16384, 512]⟩
abbrev S8x2048x8x64 : Shape := ⟨4, ![8, 2048, 8, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x2048x2048 : Shape := ⟨4, ![8, 8, 2048, 2048]⟩
abbrev S_ : Shape := ⟨0, ![]⟩
abbrev S8x8x2048 : Shape := ⟨3, ![8, 8, 2048]⟩
abbrev S8x8x2048x1 : Shape := ⟨4, ![8, 8, 2048, 1]⟩
abbrev S8x8x2048x64 : Shape := ⟨4, ![8, 8, 2048, 64]⟩
abbrev S1x8x8x2048x1 : Shape := ⟨5, ![1, 8, 8, 2048, 1]⟩
abbrev S3x8x8x2048x1 : Shape := ⟨5, ![3, 8, 8, 2048, 1]⟩
abbrev S1x8x8x2048x64 : Shape := ⟨5, ![1, 8, 8, 2048, 64]⟩
abbrev S3x8x8x2048x64 : Shape := ⟨5, ![3, 8, 8, 2048, 64]⟩
abbrev S8x2048x512 : Shape := ⟨3, ![8, 2048, 512]⟩

abbrev nBuf : Space → Nat
  | .hbm => 244
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x512, .f32⟩
  | 4 => ⟨S8x2048x8x64, .f32⟩
  | 5 => ⟨S16384x512, .f32⟩
  | 6 => ⟨S8x2048x8x64, .f32⟩
  | 7 => ⟨S16384x512, .f32⟩
  | 8 => ⟨S8x2048x8x64, .f32⟩
  | 9 => ⟨S2048, .i32⟩
  | 10 => ⟨S2048x1, .i32⟩
  | 11 => ⟨S2048, .i32⟩
  | 12 => ⟨S1x2048, .i32⟩
  | 13 => ⟨S2048x2048, .i32⟩
  | 14 => ⟨S2048x2048, .i32⟩
  | 15 => ⟨S2048x2048, .i32⟩
  | 16 => ⟨S2048x2048, .i32⟩
  | 17 => ⟨S8x8x2048x2048, .f32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S2048x2048, .i32⟩
  | 25 => ⟨S2048x2048, .i32⟩
  | 26 => ⟨S_, .i32⟩
  | 27 => ⟨S2048x2048, .i32⟩
  | 28 => ⟨S2048x2048, .i1⟩
  | 29 => ⟨S_, .i32⟩
  | 30 => ⟨S2048x2048, .i32⟩
  | 31 => ⟨S2048x2048, .i1⟩
  | 32 => ⟨S_, .i32⟩
  | 33 => ⟨S_, .i1⟩
  | 34 => ⟨S2048x2048, .i1⟩
  | 35 => ⟨S2048x2048, .i1⟩
  | 36 => ⟨S2048x2048, .i1⟩
  | 37 => ⟨S2048x2048, .i32⟩
  | 38 => ⟨S2048x2048, .i32⟩
  | 39 => ⟨S2048x2048, .i32⟩
  | 40 => ⟨S_, .i32⟩
  | 41 => ⟨S2048x2048, .i32⟩
  | 42 => ⟨S2048x2048, .i1⟩
  | 43 => ⟨S_, .i32⟩
  | 44 => ⟨S_, .i32⟩
  | 45 => ⟨S2048x2048, .i32⟩
  | 46 => ⟨S2048x2048, .i32⟩
  | 47 => ⟨S2048x2048, .i32⟩
  | 48 => ⟨S_, .i32⟩
  | 49 => ⟨S2048x2048, .i32⟩
  | 50 => ⟨S2048x2048, .i1⟩
  | 51 => ⟨S2048x2048, .i32⟩
  | 52 => ⟨S2048x2048, .i32⟩
  | 53 => ⟨S_, .i32⟩
  | 54 => ⟨S2048x2048, .i32⟩
  | 55 => ⟨S2048x2048, .i1⟩
  | 56 => ⟨S2048x2048, .i1⟩
  | 57 => ⟨S_, .i32⟩
  | 58 => ⟨S2048x2048, .i32⟩
  | 59 => ⟨S2048x2048, .i32⟩
  | 60 => ⟨S2048x2048, .i32⟩
  | 61 => ⟨S_, .i32⟩
  | 62 => ⟨S2048x2048, .i32⟩
  | 63 => ⟨S2048x2048, .i1⟩
  | 64 => ⟨S2048x2048, .i1⟩
  | 65 => ⟨S_, .f32⟩
  | 66 => ⟨S_, .f32⟩
  | 67 => ⟨S8x8x2048x2048, .i1⟩
  | 68 => ⟨S8x8x2048x2048, .f32⟩
  | 69 => ⟨S8x8x2048x2048, .f32⟩
  | 70 => ⟨S_, .f32⟩
  | 71 => ⟨S8x8x2048, .f32⟩
  | 72 => ⟨S8x8x2048x1, .f32⟩
  | 73 => ⟨S8x8x2048x2048, .f32⟩
  | 74 => ⟨S8x8x2048x2048, .f32⟩
  | 75 => ⟨S8x8x2048x2048, .f32⟩
  | 76 => ⟨S_, .f32⟩
  | 77 => ⟨S8x8x2048, .f32⟩
  | 78 => ⟨S8x8x2048x1, .f32⟩
  | 79 => ⟨S8x8x2048x2048, .f32⟩
  | 80 => ⟨S8x8x2048x2048, .f32⟩
  | 81 => ⟨S8x8x2048x64, .f32⟩
  | 82 => ⟨S8x8x2048x1, .f32⟩
  | 83 => ⟨S8x8x2048x1, .f32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S2048x2048, .i32⟩
  | 91 => ⟨S2048x2048, .i32⟩
  | 92 => ⟨S_, .i32⟩
  | 93 => ⟨S2048x2048, .i32⟩
  | 94 => ⟨S2048x2048, .i1⟩
  | 95 => ⟨S_, .i32⟩
  | 96 => ⟨S2048x2048, .i32⟩
  | 97 => ⟨S2048x2048, .i1⟩
  | 98 => ⟨S_, .i32⟩
  | 99 => ⟨S_, .i1⟩
  | 100 => ⟨S2048x2048, .i1⟩
  | 101 => ⟨S2048x2048, .i1⟩
  | 102 => ⟨S2048x2048, .i1⟩
  | 103 => ⟨S2048x2048, .i32⟩
  | 104 => ⟨S2048x2048, .i32⟩
  | 105 => ⟨S2048x2048, .i32⟩
  | 106 => ⟨S_, .i32⟩
  | 107 => ⟨S2048x2048, .i32⟩
  | 108 => ⟨S2048x2048, .i1⟩
  | 109 => ⟨S_, .i32⟩
  | 110 => ⟨S_, .i32⟩
  | 111 => ⟨S2048x2048, .i32⟩
  | 112 => ⟨S2048x2048, .i32⟩
  | 113 => ⟨S2048x2048, .i32⟩
  | 114 => ⟨S_, .i32⟩
  | 115 => ⟨S2048x2048, .i32⟩
  | 116 => ⟨S2048x2048, .i1⟩
  | 117 => ⟨S2048x2048, .i32⟩
  | 118 => ⟨S2048x2048, .i32⟩
  | 119 => ⟨S_, .i32⟩
  | 120 => ⟨S2048x2048, .i32⟩
  | 121 => ⟨S2048x2048, .i1⟩
  | 122 => ⟨S2048x2048, .i1⟩
  | 123 => ⟨S_, .i32⟩
  | 124 => ⟨S2048x2048, .i32⟩
  | 125 => ⟨S2048x2048, .i32⟩
  | 126 => ⟨S2048x2048, .i32⟩
  | 127 => ⟨S_, .i32⟩
  | _ => ⟨S16384x512, .bf16⟩

abbrev hbmTy0_1 (i : Nat) : BufTy := match i % 128 with
  | 0 => ⟨S2048x2048, .i32⟩
  | 1 => ⟨S2048x2048, .i1⟩
  | 2 => ⟨S2048x2048, .i1⟩
  | 3 => ⟨S_, .f32⟩
  | 4 => ⟨S_, .f32⟩
  | 5 => ⟨S8x8x2048x2048, .i1⟩
  | 6 => ⟨S8x8x2048x2048, .f32⟩
  | 7 => ⟨S8x8x2048x2048, .f32⟩
  | 8 => ⟨S_, .f32⟩
  | 9 => ⟨S8x8x2048, .f32⟩
  | 10 => ⟨S8x8x2048x1, .f32⟩
  | 11 => ⟨S8x8x2048x2048, .f32⟩
  | 12 => ⟨S8x8x2048x2048, .f32⟩
  | 13 => ⟨S8x8x2048x2048, .f32⟩
  | 14 => ⟨S_, .f32⟩
  | 15 => ⟨S8x8x2048, .f32⟩
  | 16 => ⟨S8x8x2048x1, .f32⟩
  | 17 => ⟨S8x8x2048x2048, .f32⟩
  | 18 => ⟨S8x8x2048x2048, .f32⟩
  | 19 => ⟨S8x8x2048x64, .f32⟩
  | 20 => ⟨S8x8x2048x1, .f32⟩
  | 21 => ⟨S8x8x2048x1, .f32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S2048x2048, .i32⟩
  | 29 => ⟨S2048x2048, .i32⟩
  | 30 => ⟨S_, .i32⟩
  | 31 => ⟨S2048x2048, .i32⟩
  | 32 => ⟨S2048x2048, .i1⟩
  | 33 => ⟨S_, .i32⟩
  | 34 => ⟨S2048x2048, .i32⟩
  | 35 => ⟨S2048x2048, .i1⟩
  | 36 => ⟨S_, .i32⟩
  | 37 => ⟨S_, .i1⟩
  | 38 => ⟨S2048x2048, .i1⟩
  | 39 => ⟨S2048x2048, .i1⟩
  | 40 => ⟨S2048x2048, .i1⟩
  | 41 => ⟨S2048x2048, .i32⟩
  | 42 => ⟨S2048x2048, .i32⟩
  | 43 => ⟨S2048x2048, .i32⟩
  | 44 => ⟨S_, .i32⟩
  | 45 => ⟨S2048x2048, .i32⟩
  | 46 => ⟨S2048x2048, .i1⟩
  | 47 => ⟨S_, .i32⟩
  | 48 => ⟨S_, .i32⟩
  | 49 => ⟨S2048x2048, .i32⟩
  | 50 => ⟨S2048x2048, .i32⟩
  | 51 => ⟨S2048x2048, .i32⟩
  | 52 => ⟨S_, .i32⟩
  | 53 => ⟨S2048x2048, .i32⟩
  | 54 => ⟨S2048x2048, .i1⟩
  | 55 => ⟨S2048x2048, .i32⟩
  | 56 => ⟨S2048x2048, .i32⟩
  | 57 => ⟨S_, .i32⟩
  | 58 => ⟨S2048x2048, .i32⟩
  | 59 => ⟨S2048x2048, .i1⟩
  | 60 => ⟨S2048x2048, .i1⟩
  | 61 => ⟨S_, .i32⟩
  | 62 => ⟨S2048x2048, .i32⟩
  | 63 => ⟨S2048x2048, .i32⟩
  | 64 => ⟨S2048x2048, .i32⟩
  | 65 => ⟨S_, .i32⟩
  | 66 => ⟨S2048x2048, .i32⟩
  | 67 => ⟨S2048x2048, .i1⟩
  | 68 => ⟨S2048x2048, .i1⟩
  | 69 => ⟨S_, .f32⟩
  | 70 => ⟨S_, .f32⟩
  | 71 => ⟨S8x8x2048x2048, .i1⟩
  | 72 => ⟨S8x8x2048x2048, .f32⟩
  | 73 => ⟨S8x8x2048x2048, .f32⟩
  | 74 => ⟨S_, .f32⟩
  | 75 => ⟨S8x8x2048, .f32⟩
  | 76 => ⟨S8x8x2048x1, .f32⟩
  | 77 => ⟨S8x8x2048x2048, .f32⟩
  | 78 => ⟨S8x8x2048x2048, .f32⟩
  | 79 => ⟨S8x8x2048x2048, .f32⟩
  | 80 => ⟨S_, .f32⟩
  | 81 => ⟨S8x8x2048, .f32⟩
  | 82 => ⟨S8x8x2048x1, .f32⟩
  | 83 => ⟨S8x8x2048x2048, .f32⟩
  | 84 => ⟨S8x8x2048x2048, .f32⟩
  | 85 => ⟨S8x8x2048x64, .f32⟩
  | 86 => ⟨S8x8x2048x1, .f32⟩
  | 87 => ⟨S8x8x2048x1, .f32⟩
  | 88 => ⟨S1x8x8x2048x1, .f32⟩
  | 89 => ⟨S1x8x8x2048x1, .f32⟩
  | 90 => ⟨S1x8x8x2048x1, .f32⟩
  | 91 => ⟨S3x8x8x2048x1, .f32⟩
  | 92 => ⟨S_, .f32⟩
  | 93 => ⟨S8x8x2048x1, .f32⟩
  | 94 => ⟨S_, .f32⟩
  | 95 => ⟨S8x8x2048x1, .f32⟩
  | 96 => ⟨S8x8x2048x1, .f32⟩
  | 97 => ⟨S1x8x8x2048x1, .f32⟩
  | 98 => ⟨S3x8x8x2048x1, .f32⟩
  | 99 => ⟨S3x8x8x2048x1, .f32⟩
  | 100 => ⟨S3x8x8x2048x1, .f32⟩
  | 101 => ⟨S_, .f32⟩
  | 102 => ⟨S8x8x2048x1, .f32⟩
  | 103 => ⟨S1x8x8x2048x1, .f32⟩
  | 104 => ⟨S3x8x8x2048x1, .f32⟩
  | 105 => ⟨S3x8x8x2048x1, .f32⟩
  | 106 => ⟨S1x8x8x2048x64, .f32⟩
  | 107 => ⟨S1x8x8x2048x64, .f32⟩
  | 108 => ⟨S1x8x8x2048x64, .f32⟩
  | 109 => ⟨S3x8x8x2048x64, .f32⟩
  | 110 => ⟨S3x8x8x2048x64, .f32⟩
  | 111 => ⟨S3x8x8x2048x64, .f32⟩
  | 112 => ⟨S_, .f32⟩
  | 113 => ⟨S8x8x2048x64, .f32⟩
  | 114 => ⟨S8x2048x8x64, .f32⟩
  | 115 => ⟨S8x2048x512, .f32⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v15 : Ref sig .tc := ⟨.hbm, 39, rfl⟩
abbrev main_c_0 : Ref sig .tc := ⟨.hbm, 40, rfl⟩
abbrev main_v16 : Ref sig .tc := ⟨.hbm, 41, rfl⟩
abbrev main_v17 : Ref sig .tc := ⟨.hbm, 42, rfl⟩
abbrev main_c_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v18 : Ref sig .tc := ⟨.hbm, 60, rfl⟩
abbrev main_c_2 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v22 : Ref sig .tc := ⟨.hbm, 69, rfl⟩
abbrev main_cst_3 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_cst_4 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_c_5 : Ref sig .tc := ⟨.hbm, 84, rfl⟩
abbrev main_call3_v0 : Ref sig .tc := ⟨.hbm, 85, rfl⟩
abbrev main_call3_c : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_c_1 : Ref sig .tc := ⟨.hbm, 92, rfl⟩
abbrev main_call3_v5 : Ref sig .tc := ⟨.hbm, 93, rfl⟩
abbrev main_call3_v6 : Ref sig .tc := ⟨.hbm, 94, rfl⟩
abbrev main_call3_c_2 : Ref sig .tc := ⟨.hbm, 95, rfl⟩
abbrev main_call3_v7 : Ref sig .tc := ⟨.hbm, 96, rfl⟩
abbrev main_call3_v8 : Ref sig .tc := ⟨.hbm, 97, rfl⟩
abbrev main_call3_c_3 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_v35 : Ref sig .tc := ⟨.hbm, 105, rfl⟩
abbrev main_c_6 : Ref sig .tc := ⟨.hbm, 106, rfl⟩
abbrev main_v36 : Ref sig .tc := ⟨.hbm, 107, rfl⟩
abbrev main_v37 : Ref sig .tc := ⟨.hbm, 108, rfl⟩
abbrev main_c_7 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_v6 : Ref sig .tc := ⟨.hbm, 116, rfl⟩
abbrev main_call4_v7 : Ref sig .tc := ⟨.hbm, 117, rfl⟩
abbrev main_call4_v8 : Ref sig .tc := ⟨.hbm, 118, rfl⟩
abbrev main_call4_c : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_c_0 : Ref sig .tc := ⟨.hbm, 123, rfl⟩
abbrev main_call4_v12 : Ref sig .tc := ⟨.hbm, 124, rfl⟩
abbrev main_call4_v13 : Ref sig .tc := ⟨.hbm, 125, rfl⟩
abbrev main_v38 : Ref sig .tc := ⟨.hbm, 126, rfl⟩
abbrev main_c_8 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_cst_9 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_v42 : Ref sig .tc := ⟨.hbm, 135, rfl⟩
abbrev main_cst_10 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_cst_11 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_v53 : Ref sig .tc := ⟨.hbm, 148, rfl⟩
abbrev main_v54 : Ref sig .tc := ⟨.hbm, 149, rfl⟩
abbrev main_c_12 : Ref sig .tc := ⟨.hbm, 150, rfl⟩
abbrev main_call6_v0 : Ref sig .tc := ⟨.hbm, 151, rfl⟩
abbrev main_call6_c : Ref sig .tc := ⟨.hbm, 152, rfl⟩
abbrev main_call6_v1 : Ref sig .tc := ⟨.hbm, 153, rfl⟩
abbrev main_call6_c_0 : Ref sig .tc := ⟨.hbm, 154, rfl⟩
abbrev main_call6_v2 : Ref sig .tc := ⟨.hbm, 155, rfl⟩
abbrev main_call6_v3 : Ref sig .tc := ⟨.hbm, 156, rfl⟩
abbrev main_call6_v4 : Ref sig .tc := ⟨.hbm, 157, rfl⟩
abbrev main_call6_c_1 : Ref sig .tc := ⟨.hbm, 158, rfl⟩
abbrev main_call6_v5 : Ref sig .tc := ⟨.hbm, 159, rfl⟩
abbrev main_call6_v6 : Ref sig .tc := ⟨.hbm, 160, rfl⟩
abbrev main_call6_c_2 : Ref sig .tc := ⟨.hbm, 161, rfl⟩
abbrev main_call6_v7 : Ref sig .tc := ⟨.hbm, 162, rfl⟩
abbrev main_call6_v8 : Ref sig .tc := ⟨.hbm, 163, rfl⟩
abbrev main_call6_c_3 : Ref sig .tc := ⟨.hbm, 164, rfl⟩
abbrev main_call6_v9 : Ref sig .tc := ⟨.hbm, 165, rfl⟩
abbrev main_call6_v10 : Ref sig .tc := ⟨.hbm, 166, rfl⟩
abbrev main_call6_v11 : Ref sig .tc := ⟨.hbm, 167, rfl⟩
abbrev main_call6_v12 : Ref sig .tc := ⟨.hbm, 168, rfl⟩
abbrev main_call6_v13 : Ref sig .tc := ⟨.hbm, 169, rfl⟩
abbrev main_call6_v14 : Ref sig .tc := ⟨.hbm, 170, rfl⟩
abbrev main_v55 : Ref sig .tc := ⟨.hbm, 171, rfl⟩
abbrev main_c_13 : Ref sig .tc := ⟨.hbm, 172, rfl⟩
abbrev main_v56 : Ref sig .tc := ⟨.hbm, 173, rfl⟩
abbrev main_v57 : Ref sig .tc := ⟨.hbm, 174, rfl⟩
abbrev main_c_14 : Ref sig .tc := ⟨.hbm, 175, rfl⟩
abbrev main_call7_v0 : Ref sig .tc := ⟨.hbm, 176, rfl⟩
abbrev main_call7_v1 : Ref sig .tc := ⟨.hbm, 177, rfl⟩
abbrev main_call7_v2 : Ref sig .tc := ⟨.hbm, 178, rfl⟩
abbrev main_call7_v3 : Ref sig .tc := ⟨.hbm, 179, rfl⟩
abbrev main_call7_v4 : Ref sig .tc := ⟨.hbm, 180, rfl⟩
abbrev main_call7_v5 : Ref sig .tc := ⟨.hbm, 181, rfl⟩
abbrev main_call7_v6 : Ref sig .tc := ⟨.hbm, 182, rfl⟩
abbrev main_call7_v7 : Ref sig .tc := ⟨.hbm, 183, rfl⟩
abbrev main_call7_v8 : Ref sig .tc := ⟨.hbm, 184, rfl⟩
abbrev main_call7_c : Ref sig .tc := ⟨.hbm, 185, rfl⟩
abbrev main_call7_v9 : Ref sig .tc := ⟨.hbm, 186, rfl⟩
abbrev main_call7_v10 : Ref sig .tc := ⟨.hbm, 187, rfl⟩
abbrev main_call7_v11 : Ref sig .tc := ⟨.hbm, 188, rfl⟩
abbrev main_call7_c_0 : Ref sig .tc := ⟨.hbm, 189, rfl⟩
abbrev main_call7_v12 : Ref sig .tc := ⟨.hbm, 190, rfl⟩
abbrev main_call7_v13 : Ref sig .tc := ⟨.hbm, 191, rfl⟩
abbrev main_v58 : Ref sig .tc := ⟨.hbm, 192, rfl⟩
abbrev main_c_15 : Ref sig .tc := ⟨.hbm, 193, rfl⟩
abbrev main_v59 : Ref sig .tc := ⟨.hbm, 194, rfl⟩
abbrev main_v60 : Ref sig .tc := ⟨.hbm, 195, rfl⟩
abbrev main_v61 : Ref sig .tc := ⟨.hbm, 196, rfl⟩
abbrev main_cst_16 : Ref sig .tc := ⟨.hbm, 197, rfl⟩
abbrev main_call8_v0 : Ref sig .tc := ⟨.hbm, 198, rfl⟩
abbrev main_call8_v1 : Ref sig .tc := ⟨.hbm, 199, rfl⟩
abbrev main_call8_v2 : Ref sig .tc := ⟨.hbm, 200, rfl⟩
abbrev main_v62 : Ref sig .tc := ⟨.hbm, 201, rfl⟩
abbrev main_cst_17 : Ref sig .tc := ⟨.hbm, 202, rfl⟩
abbrev main_v63 : Ref sig .tc := ⟨.hbm, 203, rfl⟩
abbrev main_v64 : Ref sig .tc := ⟨.hbm, 204, rfl⟩
abbrev main_v65 : Ref sig .tc := ⟨.hbm, 205, rfl⟩
abbrev main_v66 : Ref sig .tc := ⟨.hbm, 206, rfl⟩
abbrev main_v67 : Ref sig .tc := ⟨.hbm, 207, rfl⟩
abbrev main_cst_18 : Ref sig .tc := ⟨.hbm, 208, rfl⟩
abbrev main_v68 : Ref sig .tc := ⟨.hbm, 209, rfl⟩
abbrev main_v69 : Ref sig .tc := ⟨.hbm, 210, rfl⟩
abbrev main_v70 : Ref sig .tc := ⟨.hbm, 211, rfl⟩
abbrev main_v71 : Ref sig .tc := ⟨.hbm, 212, rfl⟩
abbrev main_v72 : Ref sig .tc := ⟨.hbm, 213, rfl⟩
abbrev main_v73 : Ref sig .tc := ⟨.hbm, 214, rfl⟩
abbrev main_v74 : Ref sig .tc := ⟨.hbm, 215, rfl⟩
abbrev main_v75 : Ref sig .tc := ⟨.hbm, 216, rfl⟩
abbrev main_v76 : Ref sig .tc := ⟨.hbm, 217, rfl⟩
abbrev main_v77 : Ref sig .tc := ⟨.hbm, 218, rfl⟩
abbrev main_v78 : Ref sig .tc := ⟨.hbm, 219, rfl⟩
abbrev main_cst_19 : Ref sig .tc := ⟨.hbm, 220, rfl⟩
abbrev main_v79 : Ref sig .tc := ⟨.hbm, 221, rfl⟩
abbrev main_cst_20 : Ref sig .tc := ⟨.hbm, 222, rfl⟩
abbrev main_v80 : Ref sig .tc := ⟨.hbm, 223, rfl⟩
abbrev main_v81 : Ref sig .tc := ⟨.hbm, 224, rfl⟩
abbrev main_v82 : Ref sig .tc := ⟨.hbm, 225, rfl⟩
abbrev main_v83 : Ref sig .tc := ⟨.hbm, 226, rfl⟩
abbrev main_v84 : Ref sig .tc := ⟨.hbm, 227, rfl⟩
abbrev main_v85 : Ref sig .tc := ⟨.hbm, 228, rfl⟩
abbrev main_cst_21 : Ref sig .tc := ⟨.hbm, 229, rfl⟩
abbrev main_v86 : Ref sig .tc := ⟨.hbm, 230, rfl⟩
abbrev main_v87 : Ref sig .tc := ⟨.hbm, 231, rfl⟩
abbrev main_v88 : Ref sig .tc := ⟨.hbm, 232, rfl⟩
abbrev main_v89 : Ref sig .tc := ⟨.hbm, 233, rfl⟩
abbrev main_v90 : Ref sig .tc := ⟨.hbm, 234, rfl⟩
abbrev main_v91 : Ref sig .tc := ⟨.hbm, 235, rfl⟩
abbrev main_v92 : Ref sig .tc := ⟨.hbm, 236, rfl⟩
abbrev main_v93 : Ref sig .tc := ⟨.hbm, 237, rfl⟩
abbrev main_v94 : Ref sig .tc := ⟨.hbm, 238, rfl⟩
abbrev main_v95 : Ref sig .tc := ⟨.hbm, 239, rfl⟩
abbrev main_cst_22 : Ref sig .tc := ⟨.hbm, 240, rfl⟩
abbrev main_v96 : Ref sig .tc := ⟨.hbm, 241, rfl⟩
abbrev main_v97 : Ref sig .tc := ⟨.hbm, 242, rfl⟩
abbrev main_v98 : Ref sig .tc := ⟨.hbm, 243, rfl⟩

abbrev nD : Nat := 1
abbrev τ : Topo := Topo.v7x

variable {F : FTy → Type} [FloatOps F]
-- ==== Proof.PleValue.lean ====
/- The output layer call (`Ple`): the array its grid of row blocks leaves is the reference's composed term of the same
   arguments. Each of the 32 points writes 512 whole rows; a row of the result depends on the same row of the inputs alone. -/
module

public import proofs.«01_k».proof.Defs
public import proofs.«01_k».proof.Proof.Gen.PleIdeal.Value
public import proofs.«01_k».proof.Proof.Gen.PleRefIdeal.Run
public import proofs.«01_k».proof.Proof.Gen.PleRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleIdeal.Layer

open Cert.PleIdeal Cert.PleIdeal.Gen

variable (m : (ℓ : Loc nD τ sig) → Buf (Elt Ideal) ℓ)

/-- The reference's result as one function of the six arguments. -/
abbrev REF (x0 : FVec Ideal S16384x1024 .f32) (x1 : FVec Ideal S1x8x2048x256 .f32) (x2 : FVec Ideal S1x1024 .f32)
    (x3 : FVec Ideal S1x1024x1024 .f32) (x4 : FVec Ideal S1x256x1024 .f32) (x5 : FVec Ideal S1024 .f32) :
    FVec Ideal S16384x1024 .f32 := Cert.PleRefIdeal.Read.val_main_v40 (F := Ideal) x0 x1 x2 x3 x4 x5

/-- Where each window's block sits at each of the 32 points. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

set_option maxHeartbeats 2000000 in
/-- What a point stores at an index of its block is the reference's term at the index of the array it lies at. -/
theorem point (c : Dev nD) (t : Fin cfg0.N) (y) :
    k0_pay1 (k0_pay2 (iblk m c 0 t) (iblk m c 2 t) (iblk m c 3 t) (iblk m c 1 t) (iblk m c 4 t)) (k0_pay3 (iblk m c 5 t))
      (k0_pay4 (iblk m c 0 t) (iblk m c 2 t) (iblk m c 3 t) (iblk m c 1 t) (iblk m c 4 t)) y
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb y) := by
  open Cert.PleRefIdeal.Read in
  pointwise [Idealize.ShloMosaic.Ideal.logistic, k0_pay1, k0_pay2, k0_pay3, k0_pay4, val_main_v0, val_main_v1, val_main_cst, val_main_v2, val_main_v3, val_main_cst_0,
    val_main_v4, val_main_v5, val_main_cst_1, val_main_v6, val_main_v7, val_main_v8, val_main_v9, val_main_v10, val_main_v11,
    val_main_v12, val_main_v13, val_main_v14, val_main_v15, val_main_v16, val_main_v17, val_main_cst_2, val_main_v18,
    val_main_v19, val_main_cst_3, val_main_v20, val_main_v21, val_main_v22, val_main_v23, val_main_v24, val_main_v25,
    val_main_v26, val_main_v27, val_main_v28, val_main_v29, val_main_v30, val_main_v31, val_main_v32, val_main_v33,
    val_main_v34, val_main_v35, val_main_v36, val_main_v37, val_main_v38, val_main_v39, val_main_v40, val_main_cst_4,
    val_main_cst_5, val_main_cst_6]
  blk_point [iblk, V, idx t]

/-- The result array after the run. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

/-- The claim: the call's result is the reference's, whatever the arguments. -/
theorem algebraic : Cert.algebraic_PleIdeal_PleRefIdeal := by
  pair_intro
  · run_from Cert.PleIdeal.Gen.run_main m g
  · run_from Cert.PleRefIdeal.Value.run m' g'
    rw [Cert.PleRefIdeal.Read.val_main_v40_eq]
    obtain ⟨h0, h1, h2, h3, h4, h5⟩ := hagree c
    rw [h0, h1, h2, h3, h4, h5]
    exact (final m c).symm

end Cert.PleIdeal.Layer

end
-- ==== Proof.RouteValue.lean ====
/- The route call (`Route`): the residual stream after the output projection, and its norm, are the reference's composed
   terms of the same arguments. Each of the 64 points writes 256 whole rows; a row of either result depends on the same row
   of the inputs alone. The reference multiplies the two branches, laid side by side, with the whole projection; the kernel
   multiplies each branch with its own half and adds, so one sum over 1024 is split in two of 512. -/
module

public import proofs.«01_k».proof.Defs
public import proofs.«01_k».proof.Proof.Gen.RouteIdeal.Value
public import proofs.«01_k».proof.Proof.Gen.RouteRefIdeal.Run
public import proofs.«01_k».proof.Proof.Gen.RouteRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RouteIdeal.Layer

open Cert.RouteIdeal Cert.RouteIdeal.Gen
open Cert.RouteRefIdeal.Read

/-! ## The kernel's two stores, at an index of the block -/

/-- A row normalised by its root mean square and scaled. -/
def nrm (w : Nat) (n e : BitVec 32) (x g : Fin w → EReal) (k : Fin w) : EReal :=
  x k * Ideal.rsqrt (Ideal.div (∑ q, x q * x q) (Scalar.ofBits (F := Ideal) .f32 n) + Scalar.ofBits (F := Ideal) .f32 e) * g k

theorem pay260_at (X : FVec Ideal S256x512 .f32) (g : FVec Ideal S1x512 .f32) (r : Fin 256) (k : Fin 512) :
    k0_pay260 (F := Ideal) X g (ix2 r k) = nrm 512 0x44000000#32 0x358637BD#32 (fun q => X (ix2 r q)) (fun q => g (ix2 0 q)) k := by
  unfold nrm
  pointwise [k0_pay260]

theorem pay262_at (X Y : FVec Ideal S256x512 .f32) (g g' : FVec Ideal S1x512 .f32) (H : FVec Ideal S256x1024 .f32)
    (A B : FVec Ideal S512x1024 .bf16) (r : Fin 256) (j : Fin 1024) :
    k0_pay262 (F := Ideal) (k0_pay260 Y g') (k0_pay261 X g H A) B (ix2 r j)
      = H (ix2 r j) + ∑ k : Fin 512, k0_pay260 (F := Ideal) X g (ix2 r k) * A (ix2 k j)
          + ∑ k : Fin 512, k0_pay260 (F := Ideal) Y g' (ix2 r k) * B (ix2 k j) := by
  rw [show k0_pay261 (F := Ideal) X g H A = addf H (matmul dot_S256x512_S512x1024_S256x1024_1_0_0_1_n_n none (k0_pay260 X g)
    (shapeCast S512x1024 A shapeCasts_S512x1024_S512x1024) (constant S256x1024 .f32 0x00000000#32)) from rfl]
  generalize k0_pay260 (F := Ideal) X g = U
  generalize k0_pay260 (F := Ideal) Y g' = W
  pointwise [k0_pay262]

theorem pay263_at (U : FVec Ideal S256x512 .bf16) (W : FVec Ideal S256x1024 .f32) (B : FVec Ideal S512x1024 .bf16)
    (g : FVec Ideal S1x1024 .f32) (r : Fin 256) (j : Fin 1024) :
    k0_pay263 (F := Ideal) U W B g (ix2 r j)
      = nrm 1024 0x44800000#32 0x358637BD#32 (fun q => k0_pay262 (F := Ideal) U W B (ix2 r q)) (fun q => g (ix2 0 q)) j := by
  unfold nrm k0_pay263
  generalize k0_pay262 (F := Ideal) U W B = V
  pointwise

/-! ## The reference's two results, at an index -/

section
variable (x0 x1 : FVec Ideal S16384x512 .f32) (x2 : FVec Ideal S16384x1024 .f32) (x3 x4 : FVec Ideal S1x512 .f32)
  (x5 : FVec Ideal S1x1024x1024 .f32) (x6 : FVec Ideal S1x1024 .f32)

theorem v13_at (R : Fin 16384) (k : Fin 512) :
    val_main_v13 (F := Ideal) x0 x3 (ix2 R k) = nrm 512 0x44000000#32 0x358637BD#32 (fun q => x0 (ix2 R q)) (fun q => x3 (ix2 0 q)) k := by
  unfold nrm
  pointwise [val_main_v0, val_main_v1, val_main_cst, val_main_v2, val_main_v3, val_main_cst_0, val_main_v4, val_main_v5, val_main_cst_1,
    val_main_v6, val_main_v7, val_main_v8, val_main_v9, val_main_v10, val_main_v11, val_main_v12, val_main_v13]

theorem v27_at (R : Fin 16384) (k : Fin 512) :
    val_main_v27 (F := Ideal) x1 x4 (ix2 R k) = nrm 512 0x44000000#32 0x358637BD#32 (fun q => x1 (ix2 R q)) (fun q => x4 (ix2 0 q)) k := by
  unfold nrm
  pointwise [val_main_v14, val_main_v15, val_main_cst_2, val_main_v16, val_main_v17, val_main_cst_3, val_main_v18, val_main_v19,
    val_main_cst_4, val_main_v20, val_main_v21, val_main_v22, val_main_v23, val_main_v24, val_main_v25, val_main_v26, val_main_v27]

theorem v28_left (R : Fin 16384) (k : Fin 512) :
    val_main_v28 (F := Ideal) x0 x1 x3 x4 (ix2 R (Fin.castAdd 512 k)) = val_main_v13 (F := Ideal) x0 x3 (ix2 R k) := by
  unfold val_main_v28
  refine concatenate_pair_apply_left (s₁ := Cert.RouteRefIdeal.S16384x512) (t := Cert.RouteRefIdeal.S16384x1024) 1 _ _ _ _ rfl (ix2 R k) ?_
  intro b
  match b with
  | ⟨0, _⟩ => rfl
  | ⟨1, _⟩ => rfl

theorem v28_right (R : Fin 16384) (k : Fin 512) :
    val_main_v28 (F := Ideal) x0 x1 x3 x4 (ix2 R (Fin.natAdd 512 k)) = val_main_v27 (F := Ideal) x1 x4 (ix2 R k) := by
  unfold val_main_v28
  refine concatenate_pair_apply_right (s₁ := Cert.RouteRefIdeal.S16384x512) (s₂ := Cert.RouteRefIdeal.S16384x512)
    (t := Cert.RouteRefIdeal.S16384x1024) 1 _ _ _ _ rfl rfl (ix2 R k) ?_ (Nat.add_comm k.val 512)
  intro b hb
  match b with
  | ⟨0, _⟩ => rfl
  | ⟨1, _⟩ => exact absurd rfl hb

theorem v31_at (R : Fin 16384) (j : Fin 1024) :
    val_main_v31 (F := Ideal) x0 x1 x2 x3 x4 x5 (ix2 R j)
      = x2 (ix2 R j) + ∑ k : Fin 512, val_main_v13 (F := Ideal) x0 x3 (ix2 R k) * x5 (ix3 0 (Fin.castAdd 512 k) j)
          + ∑ k : Fin 512, val_main_v27 (F := Ideal) x1 x4 (ix2 R k) * x5 (ix3 0 (Fin.natAdd 512 k) j) := by
  have e : val_main_v31 (F := Ideal) x0 x1 x2 x3 x4 x5 (ix2 R j)
      = x2 (ix2 R j) + ∑ k : Fin (512 + 512), val_main_v28 (F := Ideal) x0 x1 x3 x4 (ix2 R k) * x5 (ix3 0 k j) := by
    unfold val_main_v31 val_main_v30
    generalize val_main_v28 (F := Ideal) x0 x1 x3 x4 = y
    pointwise [val_main_v29]
  rw [e, Fin.sum_univ_add, ← add_assoc]
  simp only [v28_left, v28_right]

theorem v46_at (R : Fin 16384) (j : Fin 1024) :
    val_main_v46 (F := Ideal) x0 x1 x2 x3 x4 x5 x6 (ix2 R j)
      = nrm 1024 0x44800000#32 0x358637BD#32 (fun q => val_main_v31 (F := Ideal) x0 x1 x2 x3 x4 x5 (ix2 R q)) (fun q => x6 (ix2 0 q)) j := by
  unfold nrm val_main_v46 val_main_v45 val_main_v42 val_main_v41 val_main_v40 val_main_v39 val_main_v37 val_main_v35 val_main_v34 val_main_v33
  generalize val_main_v31 (F := Ideal) x0 x1 x2 x3 x4 x5 = y
  pointwise [val_main_v32, val_main_cst_5, val_main_cst_6, val_main_v36, val_main_cst_7, val_main_v38, val_main_v43, val_main_v44]

end

/-! ## The blocks a point reads -/

variable (m : (ℓ : Loc nD τ sig) → Buf (Elt Ideal) ℓ)

abbrev a0 (c : Dev nD) : FVec Ideal S16384x512 .f32 := m ((c : Thread nD τ).loc main_arg0)
abbrev a1 (c : Dev nD) : FVec Ideal S16384x512 .f32 := m ((c : Thread nD τ).loc main_arg1)
abbrev a2 (c : Dev nD) : FVec Ideal S16384x1024 .f32 := m ((c : Thread nD τ).loc main_arg2)
abbrev a3 (c : Dev nD) : FVec Ideal S1x512 .f32 := m ((c : Thread nD τ).loc main_arg3)
abbrev a4 (c : Dev nD) : FVec Ideal S1x512 .f32 := m ((c : Thread nD τ).loc main_arg4)
abbrev a5 (c : Dev nD) : FVec Ideal S1x1024x1024 .f32 := m ((c : Thread nD τ).loc main_arg5)
abbrev a6 (c : Dev nD) : FVec Ideal S1x1024 .f32 := m ((c : Thread nD τ).loc main_arg6)

/-- Where each window's block sits at each of the 64 points. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_10.index t = ![t.val, 0] ∧ win0_11.index t = ![t.val, 0] :=
  (by decide +kernel : ∀ t : Fin grid0.N, _)

section
variable (c : Dev nD) (t : Fin cfg0.N) (ht : t.val < 64)

theorem b0 (r : Fin 256) (k : Fin 512) : (show FVec Ideal S256x512 .f32 from iblk m c 0 t) (ix2 r k) = a0 m c (ix2 ⟨t.val * 256 + r.val, by omega⟩ k) := by
  blk_point [iblk, V, idx t]
theorem b1 (r : Fin 256) (k : Fin 512) : (show FVec Ideal S256x512 .f32 from iblk m c 1 t) (ix2 r k) = a1 m c (ix2 ⟨t.val * 256 + r.val, by omega⟩ k) := by
  blk_point [iblk, V, idx t]
theorem b2 (r : Fin 256) (k : Fin 1024) : (show FVec Ideal S256x1024 .f32 from iblk m c 2 t) (ix2 r k) = a2 m c (ix2 ⟨t.val * 256 + r.val, by omega⟩ k) := by
  blk_point [iblk, V, idx t]
theorem b3 (k : Fin 512) : (show FVec Ideal S1x512 .f32 from iblk m c 3 t) (ix2 0 k) = a3 m c (ix2 0 k) := by
  blk_point [iblk, V, idx t]
theorem b4 (k : Fin 512) : (show FVec Ideal S1x512 .f32 from iblk m c 4 t) (ix2 0 k) = a4 m c (ix2 0 k) := by
  blk_point [iblk, V, idx t]
theorem b5 (k : Fin 512) (j : Fin 1024) : (show FVec Ideal S512x1024 .bf16 from iblk m c 5 t) (ix2 k j) = a5 m c (ix3 0 (Fin.castAdd 512 k) j) := by
  blk_point [iblk, V, idx t]
  rfl
theorem b6 (k : Fin 512) (j : Fin 1024) : (show FVec Ideal S512x1024 .bf16 from iblk m c 6 t) (ix2 k j) = a5 m c (ix3 0 (Fin.natAdd 512 k) j) := by
  blk_point [iblk, V, idx t]
  rfl
theorem b7 (k : Fin 1024) : (show FVec Ideal S1x1024 .f32 from iblk m c 7 t) (ix2 0 k) = a6 m c (ix2 0 k) := by
  blk_point [iblk, V, idx t]

/-! ## A point's stores are the reference's rows -/

/-- The residual block a point stores. -/
abbrev h1 : FVec Ideal S256x1024 .f32 :=
  k0_pay262 (F := Ideal) (k0_pay260 (iblk m c 1 t) (iblk m c 4 t)) (k0_pay261 (iblk m c 0 t) (iblk m c 3 t) (iblk m c 2 t) (iblk m c 5 t)) (iblk m c 6 t)

theorem h1_at (r : Fin 256) (j : Fin 1024) : h1 m c t (ix2 r j)
    = val_main_v31 (F := Ideal) (a0 m c) (a1 m c) (a2 m c) (a3 m c) (a4 m c) (a5 m c) (ix2 ⟨t.val * 256 + r.val, by omega⟩ j) := by
  refine (pay262_at (iblk m c 0 t) (iblk m c 1 t) (iblk m c 3 t) (iblk m c 4 t) (iblk m c 2 t) (iblk m c 5 t) (iblk m c 6 t) r j).trans ?_
  rw [v31_at]
  refine congrArg₂ (· + ·) (congrArg₂ (· + ·) (b2 m c t ht r j) ?_) ?_
  · refine Finset.sum_congr rfl fun k _ => congrArg₂ (· * ·) ?_ (b5 m c t k j)
    refine (pay260_at _ _ r k).trans ((v13_at _ _ _ k).trans ?_).symm
    exact congrArg₂ (fun f g => nrm 512 _ _ f g k) (funext fun q => (b0 m c t ht r q).symm) (funext fun q => (b3 m c t q).symm)
  · refine Finset.sum_congr rfl fun k _ => congrArg₂ (· * ·) ?_ (b6 m c t k j)
    refine (pay260_at _ _ r k).trans ((v27_at _ _ _ k).trans ?_).symm
    exact congrArg₂ (fun f g => nrm 512 _ _ f g k) (funext fun q => (b1 m c t ht r q).symm) (funext fun q => (b4 m c t q).symm)

theorem xn_at (r : Fin 256) (j : Fin 1024) :
    k0_pay263 (F := Ideal) (k0_pay260 (iblk m c 1 t) (iblk m c 4 t)) (k0_pay261 (iblk m c 0 t) (iblk m c 3 t) (iblk m c 2 t) (iblk m c 5 t)) (iblk m c 6 t)
        (iblk m c 7 t) (ix2 r j)
      = val_main_v46 (F := Ideal) (a0 m c) (a1 m c) (a2 m c) (a3 m c) (a4 m c) (a5 m c) (a6 m c) (ix2 ⟨t.val * 256 + r.val, by omega⟩ j) := by
  refine (pay263_at _ _ _ _ r j).trans ((v46_at _ _ _ _ _ _ _ _ j).trans ?_).symm
  exact congrArg₂ (fun f g => nrm 1024 _ _ f g j) (funext fun q => (h1_at m c t ht r q).symm) (funext fun q => (b7 m c t q).symm)

end

/-! ## The two arrays after the run -/

theorem point10 (c : Dev nD) (t : Fin cfg0.N) (y : S256x1024.Idx) (i : S16384x1024.Idx) (h0 : (i 0 : ℕ) = t.val * 256 + y 0) (h1' : (i 1 : ℕ) = y 1) :
    h1 m c t y = val_main_v31 (F := Ideal) (a0 m c) (a1 m c) (a2 m c) (a3 m c) (a4 m c) (a5 m c) i := by
  have ht : t.val < 64 := t.isLt
  have hy : y = ix2 (show Fin 256 from y 0) (show Fin 1024 from y 1) := by blk_ext
  have hi : ix2 ⟨t.val * 256 + (show Fin 256 from y 0).val, by have := (show Fin 256 from y 0).isLt; omega⟩ (show Fin 1024 from y 1) = i := by
    funext a; fin_cases a
    · exact Fin.ext h0.symm
    · exact Fin.ext h1'.symm
  exact (congrArg (h1 m c t) hy).trans ((h1_at m c t ht _ _).trans (congrArg _ hi))

theorem point11 (c : Dev nD) (t : Fin cfg0.N) (y : S256x1024.Idx) (i : S16384x1024.Idx) (h0 : (i 0 : ℕ) = t.val * 256 + y 0) (h1' : (i 1 : ℕ) = y 1) :
    k0_pay263 (F := Ideal) (k0_pay260 (iblk m c 1 t) (iblk m c 4 t)) (k0_pay261 (iblk m c 0 t) (iblk m c 3 t) (iblk m c 2 t) (iblk m c 5 t)) (iblk m c 6 t)
        (iblk m c 7 t) y
      = val_main_v46 (F := Ideal) (a0 m c) (a1 m c) (a2 m c) (a3 m c) (a4 m c) (a5 m c) (a6 m c) i := by
  have ht : t.val < 64 := t.isLt
  have hy : y = ix2 (show Fin 256 from y 0) (show Fin 1024 from y 1) := by blk_ext
  have hi : ix2 ⟨t.val * 256 + (show Fin 256 from y 0).val, by have := (show Fin 256 from y 0).isLt; omega⟩ (show Fin 1024 from y 1) = i := by
    funext a; fin_cases a
    · exact Fin.ext h0.symm
    · exact Fin.ext h1'.symm
  exact (congrArg _ hy).trans ((xn_at m c t ht _ _).trans (congrArg _ hi))

/-- What a point leaves in the residual's block. -/
theorem outs10 (c : Dev nD) (t : Fin cfg0.N) : (outsAt0 m c t).1 = h1 m c t := by
  rw [outsAt0]
  dsimp only
  frame_out

/-- What a point leaves in the normed residual's block. -/
theorem outs11 (c : Dev nD) (t : Fin cfg0.N) : (outsAt0 m c t).2.1
    = k0_pay263 (F := Ideal) (k0_pay260 (iblk m c 1 t) (iblk m c 4 t)) (k0_pay261 (iblk m c 0 t) (iblk m c 3 t) (iblk m c 2 t) (iblk m c 5 t)) (iblk m c 6 t)
        (iblk m c 7 t) := by
  rw [outsAt0]
  dsimp only
  frame_out

theorem final10 (c : Dev nD) : (dats m 0 c).arrAt 10 cfg0.N = val_main_v31 (F := Ideal) (a0 m c) (a1 m c) (a2 m c) (a3 m c) (a4 m c) (a5 m c) := by
  refine (dats m 0 c).arrAt_eq_of_covers 10 _ (by decide +kernel) fun t _ y => ?_
  blk_simp
  rw [after0_10, outs10]
  refine point10 m c t y _ ?_ ?_
  all_goals blk_simp [idx t]

theorem final11 (c : Dev nD) : (dats m 0 c).arrAt 11 cfg0.N = val_main_v46 (F := Ideal) (a0 m c) (a1 m c) (a2 m c) (a3 m c) (a4 m c) (a5 m c) (a6 m c) := by
  refine (dats m 0 c).arrAt_eq_of_covers 11 _ (by decide +kernel) fun t _ y => ?_
  blk_simp
  rw [after0_11, outs11]
  refine point11 m c t y _ ?_ ?_
  all_goals blk_simp [idx t]

/-- The claim: the call's two results are the reference's, whatever the arguments. -/
theorem algebraic : Cert.algebraic_RouteIdeal_RouteRefIdeal := by
  intro m g m' g' _ hagree
  refine ⟨fun c => val_main_v31 (F := Ideal) (a0 m c) (a1 m c) (a2 m c) (a3 m c) (a4 m c) (a5 m c),
    fun c => val_main_v46 (F := Ideal) (a0 m c) (a1 m c) (a2 m c) (a3 m c) (a4 m c) (a5 m c) (a6 m c), ?_, ?_⟩
  · refine (θ_run _ _ _).mono (fun r h c => ?_) (Cert.RouteIdeal.Value.run_blocks m g)
    obtain ⟨r0, r1, _, _, _, hr⟩ := h c
    exact ⟨r0.trans (final10 m c), r1.trans (final11 m c), hr⟩
  · refine (θ_run _ _ _).mono (fun r h c => ?_) (Cert.RouteRefIdeal.Value.run (F := Ideal) m' g')
    obtain ⟨r0, r1, hr⟩ := h c
    obtain ⟨h0, h1, h2, h3, h4, h5, h6, _⟩ := hagree c
    have e0 := r0.trans (Cert.RouteRefIdeal.Read.val_main_v31_eq (F := Ideal) _ _ _ _ _ _)
    have e1 := r1.trans (Cert.RouteRefIdeal.Read.val_main_v46_eq (F := Ideal) m' c)
    refine ⟨e0.trans ?_, e1.trans ?_, hr⟩
    · exact congr (congr (congr (congr (congr (congrArg (val_main_v31 (F := Ideal)) h0) h1) h2) h3) h4) h5
    · exact congr (congr (congr (congr (congr (congr (congrArg (val_main_v46 (F := Ideal)) h0) h1) h2) h3) h4) h5) h6

end Cert.RouteIdeal.Layer

end
-- ==== Proof.AttnMath.lean ====
/- Arithmetic over the extended reals for the attention claim: which values are real, a real factor moved through a sum,
   and the quotient of a softmax-weighted sum. Nothing here speaks of a program. -/
module

public import Idealize.ShloMosaic.Lib.Pointwise

@[expose] public section

noncomputable section

open Idealize.ShloMosaic

namespace Cert.AttnIdeal.Layer

/-- `x` is a real number. -/
def Fin' (x : EReal) : Prop := ∃ r : ℝ, x = (r : EReal)

theorem fin_coe (r : ℝ) : Fin' (r : EReal) := ⟨r, rfl⟩
theorem fin_zero : Fin' 0 := ⟨0, by simp⟩
theorem fin_add {x y : EReal} (hx : Fin' x) (hy : Fin' y) : Fin' (x + y) := by
  obtain ⟨a, rfl⟩ := hx; obtain ⟨b, rfl⟩ := hy; exact ⟨a + b, (EReal.coe_add a b).symm⟩
theorem fin_mul {x y : EReal} (hx : Fin' x) (hy : Fin' y) : Fin' (x * y) := by
  obtain ⟨a, rfl⟩ := hx; obtain ⟨b, rfl⟩ := hy; exact ⟨a * b, (EReal.coe_mul a b).symm⟩
theorem fin_neg {x : EReal} (hx : Fin' x) : Fin' (-x) := by
  obtain ⟨a, rfl⟩ := hx; exact ⟨-a, (EReal.coe_neg a).symm⟩
theorem fin_sub {x y : EReal} (hx : Fin' x) (hy : Fin' y) : Fin' (x - y) := by
  obtain ⟨a, rfl⟩ := hx; obtain ⟨b, rfl⟩ := hy; exact ⟨a - b, (EReal.coe_sub a b).symm⟩
theorem fin_sum {n : ℕ} {f : Fin n → EReal} (h : ∀ k, Fin' (f k)) : Fin' (∑ k, f k) := by
  choose g hg using h
  refine ⟨∑ k, g k, ?_⟩
  rw [Finset.sum_congr rfl fun k _ => hg k]
  exact (map_sum (⟨⟨Real.toEReal, EReal.coe_zero⟩, EReal.coe_add⟩ : ℝ →+ EReal) g Finset.univ).symm

/-- What is below `⊤` in absolute value is real. -/
theorem fin_of_abs_lt {x : EReal} (h : max x (-x) < ⊤) : Fin' x := by
  induction x with
  | bot => simp at h
  | coe r => exact ⟨r, rfl⟩
  | top => simp at h

theorem fin_cos {x : EReal} (hx : Fin' x) : Fin' (Ideal.cos x) := by obtain ⟨a, rfl⟩ := hx; exact ⟨_, rfl⟩
theorem fin_sin {x : EReal} (hx : Fin' x) : Fin' (Ideal.sin x) := by obtain ⟨a, rfl⟩ := hx; exact ⟨_, rfl⟩
theorem fin_pow {x y : EReal} (hx : Fin' x) (hy : Fin' y) : Fin' (Ideal.pow x y) := by
  obtain ⟨a, rfl⟩ := hx; obtain ⟨b, rfl⟩ := hy; exact ⟨_, rfl⟩
theorem fin_div {x : EReal} (hx : Fin' x) {r : ℝ} (hr : r ≠ 0) : Fin' (Ideal.div x (r : EReal)) := by
  rw [Ideal.div_coe hr]; exact fin_mul hx (fin_coe _)

/-- A square of a real, divided by a positive real, plus a positive real: the root mean square's reciprocal is real. -/
theorem fin_rms {n : ℕ} {x : Fin n → EReal} (hx : ∀ k, Fin' (x k)) {N e : ℝ} (hN : 0 < N) (he : 0 < e) :
    Fin' (Ideal.rsqrt (Ideal.div (∑ k, x k * x k) (N : EReal) + (e : EReal))) := by
  choose g hg using hx
  have hs : ∑ k, x k * x k = ((∑ k, g k * g k : ℝ) : EReal) := by
    rw [Finset.sum_congr rfl fun k _ => show x k * x k = ((g k * g k : ℝ) : EReal) by rw [hg k]; exact (EReal.coe_mul _ _).symm]
    exact (map_sum (⟨⟨Real.toEReal, EReal.coe_zero⟩, EReal.coe_add⟩ : ℝ →+ EReal) (fun k => g k * g k) Finset.univ).symm
  have h0 : 0 ≤ ∑ k, g k * g k := Finset.sum_nonneg fun k _ => mul_self_nonneg _
  rw [hs, Ideal.div_coe hN.ne', ← EReal.coe_mul, ← EReal.coe_add, Ideal.rsqrt_coe]
  have hp : 0 < (∑ k, g k * g k) * (1 / N) + e := by positivity
  rw [if_neg (not_lt.2 hp.le), if_neg hp.ne']
  exact fin_coe _

/-! ## A nonnegative real factor through sums -/

theorem add_mul_coe (x y : EReal) {c : ℝ} (hc : 0 ≤ c) : (x + y) * (c : EReal) = x * c + y * c :=
  EReal.right_distrib_of_nonneg_of_ne_top (EReal.coe_nonneg.2 hc) (EReal.coe_ne_top c) x y

theorem sum_mul_coe {n : ℕ} (f : Fin n → EReal) {c : ℝ} (hc : 0 ≤ c) : (∑ k, f k) * (c : EReal) = ∑ k, f k * c := by
  induction n with
  | zero => simp
  | succ n ih => rw [Fin.sum_univ_castSucc, Fin.sum_univ_castSucc, add_mul_coe _ _ hc, ih]

/-! ## The softmax quotient -/

/-- The maximum of a nonempty family of reals is real, and it is one of them. -/
theorem fold_max_mem {n : ℕ} (s : Fin n → EReal) (hn : 0 < n) :
    ∃ k, Finset.univ.fold max ⊥ s = s k ∧ ∀ j, s j ≤ s k := by
  obtain ⟨k, -, hk⟩ := Finset.exists_max_image Finset.univ s ⟨⟨0, hn⟩, Finset.mem_univ _⟩
  refine ⟨k, le_antisymm (Finset.fold_max_le _ |>.2 ⟨bot_le, fun j hj => hk j hj⟩)
    (Finset.le_fold_max _ |>.2 (Or.inr ⟨k, Finset.mem_univ _, le_rfl⟩)), fun j => hk j (Finset.mem_univ _)⟩

/-- The denominator of a softmax over real scores is a positive real. -/
theorem softmax_den {n : ℕ} (s : Fin n → EReal) (hn : 0 < n) (hs : ∀ k, Fin' (s k)) :
    ∃ d : ℝ, 0 < d ∧ ∑ k, Ideal.exp (s k - Finset.univ.fold max ⊥ s) = (d : EReal) := by
  obtain ⟨k₀, hk₀, -⟩ := fold_max_mem s hn
  choose g hg using hs
  rw [hk₀]
  refine ⟨∑ k, Real.exp (g k - g k₀), Finset.sum_pos (fun k _ => Real.exp_pos _) ⟨k₀, Finset.mem_univ _⟩, ?_⟩
  rw [Finset.sum_congr rfl fun k _ => show Ideal.exp (s k - s k₀) = ((Real.exp (g k - g k₀) : ℝ) : EReal) by
    rw [hg k, hg k₀, ← EReal.coe_sub]; rfl]
  exact (map_sum (⟨⟨Real.toEReal, EReal.coe_zero⟩, EReal.coe_add⟩ : ℝ →+ EReal) (fun k => Real.exp (g k - g k₀)) Finset.univ).symm

/-- Dividing the weighted sum by the denominator is weighting by the quotients: the scores are real, the weighted values
    may be anything. -/
theorem softmax_quot {n : ℕ} (s v : Fin n → EReal) (hn : 0 < n) (hs : ∀ k, Fin' (s k)) :
    Ideal.div (∑ k, Ideal.exp (s k - Finset.univ.fold max ⊥ s) * v k) (∑ k, Ideal.exp (s k - Finset.univ.fold max ⊥ s))
    = ∑ k, v k * Ideal.div (Ideal.exp (s k - Finset.univ.fold max ⊥ s)) (∑ j, Ideal.exp (s j - Finset.univ.fold max ⊥ s)) := by
  obtain ⟨d, hd, he⟩ := softmax_den s hn hs
  rw [he, Ideal.div_coe hd.ne', sum_mul_coe _ (by positivity)]
  refine Finset.sum_congr rfl fun k _ => ?_
  rw [Ideal.div_coe hd.ne', mul_comm (Ideal.exp _) (v k), mul_assoc]

end Cert.AttnIdeal.Layer

end
-- ==== Proof.DilMath.lean ====
/- Arithmetic over the extended reals for the dilated attention claim: a softmax over the keys a mask keeps, three of them
   mixed by a softmax of their log-denominators, and the one softmax with each key counted as often as a mask keeps it.
   Nothing here speaks of a program. -/
module

public import proofs.«01_k».proof.Proof.AttnMath

@[expose] public section

noncomputable section

open Idealize.ShloMosaic

namespace Cert.DilIdeal.Layer

open Cert.AttnIdeal.Layer (Fin' fold_max_mem sum_mul_coe add_mul_coe)

theorem minus_inf : Ideal.ofBits .f32 0xFF800000#32 = ⊥ := by simp [Ideal.ofBits, Ideal.ieee]

theorem coe_sum {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

/-- The scores a mask keeps: `⊥` where it does not. -/
def keep {n : ℕ} (b : Fin n → Prop) [DecidablePred b] (g : Fin n → ℝ) (k : Fin n) : EReal := if b k then (g k : EReal) else ⊥

section
variable {n : ℕ} (b : Fin n → Prop) [DecidablePred b] (g : Fin n → ℝ)

/-- The maximum of the kept scores is real when one is kept. -/
theorem keep_max (k₀ : Fin n) (h₀ : b k₀) : ∃ m : ℝ, Finset.univ.fold max ⊥ (keep b g) = (m : EReal) := by
  obtain ⟨k, hk, hle⟩ := fold_max_mem (keep b g) (Fin.pos k₀)
  rw [hk]
  have h := hle k₀
  by_cases hb : b k
  · exact ⟨g k, if_pos hb⟩
  · rw [keep, if_pos h₀, keep, if_neg hb] at h
    exact absurd (le_bot_iff.1 h) (EReal.coe_ne_bot _)

theorem keep_exp (m : ℝ) (k : Fin n) :
    Ideal.exp (keep b g k - (m : EReal)) = (((if b k then Real.exp (g k) else 0) * Real.exp (-m) : ℝ) : EReal) := by
  by_cases hb : b k
  · rw [keep, if_pos hb, if_pos hb, ← EReal.coe_sub, Ideal.exp_coe, ← Real.exp_add, sub_eq_add_neg]
  · rw [keep, if_neg hb, if_neg hb, zero_mul, EReal.bot_sub, Ideal.exp_bot, EReal.coe_zero]

/-- What the kept scores' exponentials add up to. -/
def tot : ℝ := ∑ k, if b k then Real.exp (g k) else 0

theorem tot_pos (k₀ : Fin n) (h₀ : b k₀) : 0 < tot b g :=
  Finset.sum_pos' (fun k _ => by split <;> positivity) ⟨k₀, Finset.mem_univ _, by rw [if_pos h₀]; positivity⟩

theorem keep_den (m : ℝ) : ∑ k, Ideal.exp (keep b g k - (m : EReal)) = ((tot b g * Real.exp (-m) : ℝ) : EReal) := by
  rw [Finset.sum_congr rfl fun k _ => keep_exp b g m k, coe_sum, ← Finset.sum_mul, tot]

/-- The maximum plus the log of the denominator is the log of what the exponentials add up to. -/
theorem keep_lse (k₀ : Fin n) (h₀ : b k₀) :
    Finset.univ.fold max ⊥ (keep b g) + Ideal.log (∑ k, Ideal.exp (keep b g k - Finset.univ.fold max ⊥ (keep b g)))
    = ((Real.log (tot b g) : ℝ) : EReal) := by
  obtain ⟨m, hm⟩ := keep_max b g k₀ h₀
  have ht := tot_pos b g k₀ h₀
  rw [hm, keep_den, Ideal.log_coe, if_neg (not_le.2 (by positivity)), ← EReal.coe_add,
    Real.log_mul ht.ne' (Real.exp_pos _).ne', Real.log_exp]
  congr 1; ring

/-- One key's weight within the mask. -/
theorem keep_quot (k₀ : Fin n) (h₀ : b k₀) (k : Fin n) :
    Ideal.div (Ideal.exp (keep b g k - Finset.univ.fold max ⊥ (keep b g)))
      (∑ j, Ideal.exp (keep b g j - Finset.univ.fold max ⊥ (keep b g)))
    = (((if b k then Real.exp (g k) else 0) / tot b g : ℝ) : EReal) := by
  obtain ⟨m, hm⟩ := keep_max b g k₀ h₀
  have ht := tot_pos b g k₀ h₀
  have he := Real.exp_pos (-m)
  rw [hm, keep_den, keep_exp, Ideal.div_coe (by positivity), ← EReal.coe_mul]
  congr 1; field_simp

end

/-- A softmax over three logarithms of positive reals: each one's share of their sum. -/
theorem soft3 (z : Fin 3 → ℝ) (hz : ∀ p, 0 < z p) (p : Fin 3) :
    Ideal.div (Ideal.exp (((Real.log (z p) : ℝ) : EReal) - Finset.univ.fold max ⊥ fun q => ((Real.log (z q) : ℝ) : EReal)))
      (∑ r, Ideal.exp (((Real.log (z r) : ℝ) : EReal) - Finset.univ.fold max ⊥ fun q => ((Real.log (z q) : ℝ) : EReal)))
    = ((z p / ∑ q, z q : ℝ) : EReal) := by
  have h := keep_quot (fun _ => True) (fun q => Real.log (z q)) p trivial p
  have hk : keep (fun _ => True) (fun q => Real.log (z q)) = fun q => ((Real.log (z q) : ℝ) : EReal) := by
    funext q; exact if_pos trivial
  rw [hk] at h
  refine h.trans ?_
  rw [tot]
  congr 1
  simp only [if_true]
  rw [Real.exp_log (hz p), Finset.sum_congr rfl fun q _ => Real.exp_log (hz q)]

/-- A nonnegative real factor into a sum from the left. -/
theorem coe_mul_sum {n : ℕ} (f : Fin n → EReal) {c : ℝ} (hc : 0 ≤ c) : (c : EReal) * ∑ k, f k = ∑ k, (c : EReal) * f k := by
  rw [mul_comm, sum_mul_coe f hc]
  exact Finset.sum_congr rfl fun k _ => mul_comm _ _

/-- Nonnegative real factors of one value add up. -/
theorem coe_add_mul {a c : ℝ} (ha : 0 ≤ a) (hc : 0 ≤ c) (x : EReal) :
    (a : EReal) * x + (c : EReal) * x = ((a + c : ℝ) : EReal) * x := by
  rw [EReal.coe_add, EReal.right_distrib_of_nonneg (EReal.coe_nonneg.2 ha) (EReal.coe_nonneg.2 hc)]

/-- How often a key is kept. -/
def cnt {n : ℕ} (b : Fin 3 → Fin n → Prop) [∀ p, DecidablePred (b p)] (k : Fin n) : ℝ := ∑ p, if b p k then (1 : ℝ) else 0

/-- A key's share: its exponential, as often as it is kept, of the sum of all. -/
def share {n : ℕ} (b : Fin 3 → Fin n → Prop) [∀ p, DecidablePred (b p)] (g : Fin n → ℝ) (k : Fin n) : ℝ :=
  Real.exp (g k) * cnt b k / ∑ j, Real.exp (g j) * cnt b j

section
variable {n : ℕ} (b : Fin 3 → Fin n → Prop) [∀ p, DecidablePred (b p)] (g : Fin n → ℝ) (v : Fin n → EReal)

theorem cnt_nonneg (k : Fin n) : 0 ≤ cnt b k := Finset.sum_nonneg fun p _ => by split <;> norm_num

theorem cnt_pos (p : Fin 3) (k : Fin n) (h : b p k) : 0 < cnt b k :=
  Finset.sum_pos' (fun q _ => by split <;> norm_num) ⟨p, Finset.mem_univ _, by rw [if_pos h]; norm_num⟩

theorem tot_sum : ∑ p, tot (b p) g = ∑ j, Real.exp (g j) * cnt b j := by
  simp only [tot, cnt]
  rw [Finset.sum_comm]
  refine Finset.sum_congr rfl fun j _ => ?_
  rw [Finset.mul_sum]
  exact Finset.sum_congr rfl fun p _ => by split <;> simp

/-- The three masked softmaxes, mixed by the softmax of their log-denominators, weight the values by the shares. -/
theorem mixed (k₀ : Fin n) (h₀ : ∀ p, b p k₀) :
    ∑ p, ((tot (b p) g / ∑ q, tot (b q) g : ℝ) : EReal)
      * ∑ k, (((if b p k then Real.exp (g k) else 0) / tot (b p) g : ℝ) : EReal) * v k
    = ∑ k, ((share b g k : ℝ) : EReal) * v k := by
  have ht : ∀ p, 0 < tot (b p) g := fun p => tot_pos (b p) g k₀ (h₀ p)
  have hT : 0 < ∑ q, tot (b q) g := Finset.sum_pos (fun q _ => ht q) ⟨0, Finset.mem_univ _⟩
  have hp : ∀ p, ((tot (b p) g / ∑ q, tot (b q) g : ℝ) : EReal)
      * ∑ k, (((if b p k then Real.exp (g k) else 0) / tot (b p) g : ℝ) : EReal) * v k
      = ∑ k, (((if b p k then Real.exp (g k) else 0) / ∑ q, tot (b q) g : ℝ) : EReal) * v k := by
    intro p
    have := ht p
    rw [coe_mul_sum _ (by positivity)]
    refine Finset.sum_congr rfl fun k _ => ?_
    rw [← mul_assoc, ← EReal.coe_mul]
    congr 2
    field_simp
  have hn : ∀ (p : Fin 3) (k : Fin n), 0 ≤ (if b p k then Real.exp (g k) else 0) / ∑ q, tot (b q) g := by
    intro p k
    split <;> positivity
  rw [Finset.sum_congr rfl fun p _ => hp p, Finset.sum_comm]
  refine Finset.sum_congr rfl fun k _ => ?_
  rw [Fin.sum_univ_three, coe_add_mul (hn 0 k) (hn 1 k), coe_add_mul (add_nonneg (hn 0 k) (hn 1 k)) (hn 2 k)]
  congr 2
  rw [share, ← tot_sum, cnt, ← add_div, ← add_div, Fin.sum_univ_three (fun p => if b p k then (1 : ℝ) else 0), mul_add, mul_add]
  congr 2
  · congr 1 <;> split <;> simp
  · split <;> simp

/-- The one softmax with every key counted as often as it is kept weights the values by the shares. -/
theorem counted (k₀ : Fin n) (h₀ : ∀ p, b p k₀) :
    Ideal.div (∑ k, Ideal.exp (keep (fun k => 0 < cnt b k) g k - Finset.univ.fold max ⊥ (keep (fun k => 0 < cnt b k) g))
        * ((cnt b k : ℝ) : EReal) * v k)
      (∑ k, Ideal.exp (keep (fun k => 0 < cnt b k) g k - Finset.univ.fold max ⊥ (keep (fun k => 0 < cnt b k) g))
        * ((cnt b k : ℝ) : EReal))
    = ∑ k, ((share b g k : ℝ) : EReal) * v k := by
  obtain ⟨m, hm⟩ := keep_max (fun k => 0 < cnt b k) g k₀ (cnt_pos b 0 k₀ (h₀ 0))
  have he : ∀ k, Ideal.exp (keep (fun k => 0 < cnt b k) g k - (m : EReal)) * ((cnt b k : ℝ) : EReal)
      = ((Real.exp (g k) * cnt b k * Real.exp (-m) : ℝ) : EReal) := by
    intro k
    rw [keep_exp, ← EReal.coe_mul]
    congr 1
    by_cases h : 0 < cnt b k
    · rw [if_pos h]; ring
    · rw [if_neg h, le_antisymm (not_lt.1 h) (cnt_nonneg b k)]; ring
  have hT : 0 < ∑ j, Real.exp (g j) * cnt b j := by
    rw [← tot_sum]
    exact Finset.sum_pos (fun q _ => tot_pos (b q) g k₀ (h₀ q)) ⟨0, Finset.mem_univ _⟩
  have hem := Real.exp_pos (-m)
  rw [hm, Finset.sum_congr rfl fun k _ => he k, Finset.sum_congr rfl fun k _ => congrArg (· * v k) (he k),
    coe_sum, ← Finset.sum_mul, Ideal.div_coe (by positivity), sum_mul_coe _ (by positivity)]
  refine Finset.sum_congr rfl fun k _ => ?_
  rw [mul_comm _ (v k), mul_assoc, ← EReal.coe_mul, mul_comm (v k)]
  congr 2
  rw [share]
  field_simp

end

end Cert.DilIdeal.Layer

end
-- ==== Proof.DilMask.lean ====
/- The dilated attention reference: its three masks. -/
module

public import proofs.«01_k».proof.Defs
public import proofs.«01_k».proof.Proof.Gen.DilRefIdeal.Run
public import proofs.«01_k».proof.Proof.Gen.DilRefIdeal.Read
public import proofs.«01_k».proof.Proof.DilMath
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DilIdeal.Layer

open Cert.DilRefIdeal.Read

/-! ## The masks keep a query's own position -/

theorem v13_diag (t : Fin 2048) : (val_main_v13 (F := Ideal) : IVec Cert.DilRefIdeal.S2048x2048 32) (ix2 t t) = 0#32 := by
  pointwise [val_main_v13, val_main_v12, val_main_v11, val_main_v10, val_main_v9, val_main_v8, val_main_v7, val_main_v6]
  simp [IntOp.subi, IntOp.absi]

theorem v21_diag (t : Fin 2048) : (val_main_v21 (F := Ideal) : IVec Cert.DilRefIdeal.S2048x2048 1) (ix2 t t) = 1#1 := by
  have e := v13_diag t
  unfold val_main_v21 val_main_v20 val_main_v19 val_main_v18 val_main_v17 val_main_v16 val_main_v15 val_main_call0_v14 val_main_call0_v13 val_main_call0_v12 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_call0_c val_main_call0_c_0 val_main_call0_c_1 val_main_call0_c_2 val_main_call0_c_3 val_main_call1_v13 val_main_call1_v12 val_main_call1_v11 val_main_call1_v10 val_main_call1_v9 val_main_call1_v8 val_main_call1_v7 val_main_call1_v6 val_main_call1_v5 val_main_call1_v4 val_main_call1_v3 val_main_call1_v2 val_main_call1_v1 val_main_call1_v0 val_main_call1_c val_main_call1_c_0 val_main_c val_main_c_0 val_main_c_1 val_main_c_2
  generalize (val_main_v13 (F := Ideal) : IVec Cert.DilRefIdeal.S2048x2048 32) = D at e ⊢
  pointwise
  rw [e]
  decide

theorem v41_diag (t : Fin 2048) : (val_main_v41 (F := Ideal) : IVec Cert.DilRefIdeal.S2048x2048 1) (ix2 t t) = 1#1 := by
  have e := v13_diag t
  unfold val_main_v41 val_main_v40 val_main_v39 val_main_v38 val_main_v37 val_main_v36 val_main_v35 val_main_call3_v14 val_main_call3_v13 val_main_call3_v12 val_main_call3_v11 val_main_call3_v10 val_main_call3_v9 val_main_call3_v8 val_main_call3_v7 val_main_call3_v6 val_main_call3_v5 val_main_call3_v4 val_main_call3_v3 val_main_call3_v2 val_main_call3_v1 val_main_call3_v0 val_main_call3_c val_main_call3_c_0 val_main_call3_c_1 val_main_call3_c_2 val_main_call3_c_3 val_main_call4_v13 val_main_call4_v12 val_main_call4_v11 val_main_call4_v10 val_main_call4_v9 val_main_call4_v8 val_main_call4_v7 val_main_call4_v6 val_main_call4_v5 val_main_call4_v4 val_main_call4_v3 val_main_call4_v2 val_main_call4_v1 val_main_call4_v0 val_main_call4_c val_main_call4_c_0 val_main_c_5 val_main_c_6 val_main_c_7 val_main_c_8
  generalize (val_main_v13 (F := Ideal) : IVec Cert.DilRefIdeal.S2048x2048 32) = D at e ⊢
  pointwise
  rw [e]
  decide

theorem v61_diag (t : Fin 2048) : (val_main_v61 (F := Ideal) : IVec Cert.DilRefIdeal.S2048x2048 1) (ix2 t t) = 1#1 := by
  have e := v13_diag t
  unfold val_main_v61 val_main_v60 val_main_v59 val_main_v58 val_main_v57 val_main_v56 val_main_v55 val_main_call6_v14 val_main_call6_v13 val_main_call6_v12 val_main_call6_v11 val_main_call6_v10 val_main_call6_v9 val_main_call6_v8 val_main_call6_v7 val_main_call6_v6 val_main_call6_v5 val_main_call6_v4 val_main_call6_v3 val_main_call6_v2 val_main_call6_v1 val_main_call6_v0 val_main_call6_c val_main_call6_c_0 val_main_call6_c_1 val_main_call6_c_2 val_main_call6_c_3 val_main_call7_v13 val_main_call7_v12 val_main_call7_v11 val_main_call7_v10 val_main_call7_v9 val_main_call7_v8 val_main_call7_v7 val_main_call7_v6 val_main_call7_v5 val_main_call7_v4 val_main_call7_v3 val_main_call7_v2 val_main_call7_v1 val_main_call7_v0 val_main_call7_c val_main_call7_c_0 val_main_c_12 val_main_c_13 val_main_c_14 val_main_c_15
  generalize (val_main_v13 (F := Ideal) : IVec Cert.DilRefIdeal.S2048x2048 32) = D at e ⊢
  pointwise
  rw [e]
  decide

/-- Whether a pattern's mask keeps the key `u` for the query `t`. -/
def kept (t : Fin 2048) (p : Fin 3) (u : Fin 2048) : Prop :=
  (match p with
    | 0 => (val_main_v21 (F := Ideal) : IVec Cert.DilRefIdeal.S2048x2048 1) (ix2 t u)
    | 1 => (val_main_v41 (F := Ideal) : IVec Cert.DilRefIdeal.S2048x2048 1) (ix2 t u)
    | 2 => (val_main_v61 (F := Ideal) : IVec Cert.DilRefIdeal.S2048x2048 1) (ix2 t u)) = 1#1

instance (t : Fin 2048) (p : Fin 3) : DecidablePred (kept t p) := fun u => inferInstanceAs (Decidable (_ = 1#1))

theorem kept_diag (t : Fin 2048) (p : Fin 3) : kept t p t := by
  fin_cases p
  · exact v21_diag t
  · exact v41_diag t
  · exact v61_diag t

end Cert.DilIdeal.Layer

end
-- ==== Proof.DilStage.lean ====
/- The dilated attention reference, stage by stage. -/
module

public import proofs.«01_k».proof.Defs
public import proofs.«01_k».proof.Proof.Gen.DilRefIdeal.Run
public import proofs.«01_k».proof.Proof.Gen.DilRefIdeal.Read
public import proofs.«01_k».proof.Proof.DilMask
public import proofs.«01_k».proof.Proof.DilMath
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DilIdeal.Layer

open Cert.DilRefIdeal.Read

/-! ## The reference's stages -/

section
variable (x0 x1 x2 : FVec Ideal Cert.DilRefIdeal.S16384x512 .bf16)

/-- A score: the product of a query's head with a key's. -/
theorem v14_at (b h : Fin 8) (t u : Fin 2048) :
    val_main_v14 (F := Ideal) x0 x1 (ix4 b h t u)
      = ∑ k : Fin 64, x0 (ix2 ⟨b.val * 2048 + t.val, by omega⟩ ⟨h.val * 64 + k.val, by omega⟩) * x1 (ix2 ⟨b.val * 2048 + u.val, by omega⟩ ⟨h.val * 64 + k.val, by omega⟩) := by
  pointwise [val_main_v14, val_main_v1, val_main_v0, val_main_v3, val_main_v2]

theorem v22_bit (b h : Fin 8) (t u : Fin 2048) :
    val_main_v22 (F := Ideal) x0 x1 (ix4 b h t u)
      = if (val_main_v21 (F := Ideal) : IVec Cert.DilRefIdeal.S2048x2048 1) (ix2 t u) = 1#1 then val_main_v14 (F := Ideal) x0 x1 (ix4 b h t u) else ⊥ := by
  unfold val_main_v22 val_main_call2_v1 val_main_call2_v2 val_main_call2_v0 val_main_cst
  generalize val_main_v14 (F := Ideal) x0 x1 = A
  generalize (val_main_v21 (F := Ideal) : IVec Cert.DilRefIdeal.S2048x2048 1) = B
  pointwise
  show Scalar.select (B (ix2 t u)) (A (ix4 b h t u)) (Ideal.ofBits .f32 0xFF800000#32) = _
  rw [minus_inf]
  rfl
theorem v22_at (b h : Fin 8) (t u : Fin 2048) :
    val_main_v22 (F := Ideal) x0 x1 (ix4 b h t u) = if kept t 0 u then val_main_v14 (F := Ideal) x0 x1 (ix4 b h t u) else ⊥ :=
  (v22_bit x0 x1 b h t u).trans (if_congr Iff.rfl rfl rfl)
theorem v23_at (b h : Fin 8) (t : Fin 2048) :
    val_main_v23 (F := Ideal) x0 x1 (ix3 b h t) = Finset.univ.fold max ⊥ fun u => val_main_v22 (F := Ideal) x0 x1 (ix4 b h t u) := by
  unfold val_main_v23 val_main_cst_3
  generalize val_main_v22 (F := Ideal) x0 x1 = A
  pointwise
  rw [minus_inf]
theorem v27_at (b h : Fin 8) (t u : Fin 2048) :
    val_main_v27 (F := Ideal) x0 x1 (ix4 b h t u)
      = Ideal.exp (val_main_v22 (F := Ideal) x0 x1 (ix4 b h t u) - val_main_v23 (F := Ideal) x0 x1 (ix3 b h t)) := by
  unfold val_main_v27 val_main_v26 val_main_v25 val_main_v24
  generalize val_main_v22 (F := Ideal) x0 x1 = A
  generalize val_main_v23 (F := Ideal) x0 x1 = B
  pointwise
theorem v28_at (b h : Fin 8) (t : Fin 2048) :
    val_main_v28 (F := Ideal) x0 x1 (ix3 b h t) = ∑ u, val_main_v27 (F := Ideal) x0 x1 (ix4 b h t u) := by
  unfold val_main_v28 val_main_cst_4
  generalize val_main_v27 (F := Ideal) x0 x1 = A
  pointwise
theorem v31_at (b h : Fin 8) (t u : Fin 2048) :
    val_main_v31 (F := Ideal) x0 x1 (ix4 b h t u)
      = Ideal.div (val_main_v27 (F := Ideal) x0 x1 (ix4 b h t u)) (val_main_v28 (F := Ideal) x0 x1 (ix3 b h t)) := by
  unfold val_main_v31 val_main_v30 val_main_v29
  generalize val_main_v27 (F := Ideal) x0 x1 = A
  generalize val_main_v28 (F := Ideal) x0 x1 = B
  pointwise
theorem v32_at (b h : Fin 8) (t : Fin 2048) (d : Fin 64) :
    val_main_v32 (F := Ideal) x0 x1 x2 (ix4 b h t d)
      = ∑ u, val_main_v31 (F := Ideal) x0 x1 (ix4 b h t u) * x2 (ix2 ⟨b.val * 2048 + u.val, by omega⟩ ⟨h.val * 64 + d.val, by omega⟩) := by
  unfold val_main_v32 val_main_v5 val_main_v4
  generalize val_main_v31 (F := Ideal) x0 x1 = A
  pointwise
theorem v34_at (b h : Fin 8) (t : Fin 2048) :
    val_main_v34 (F := Ideal) x0 x1 (ix4 b h t 0)
      = val_main_v23 (F := Ideal) x0 x1 (ix3 b h t) + Ideal.log (val_main_v28 (F := Ideal) x0 x1 (ix3 b h t)) := by
  rw [val_main_v34_apply, val_main_v33_apply, val_main_v29_apply, val_main_v24_apply]
  have e₁ : idx_main_v24 (ix4 b h t (0 : Fin 1)) = ix3 b h t := by
    funext a; fin_cases a <;> rfl
  have e₂ : idx_main_v29 (ix4 b h t (0 : Fin 1)) = ix3 b h t := by
    funext a; fin_cases a <;> rfl
  rw [e₁, e₂]
  generalize val_main_v23 (F := Ideal) x0 x1 (ix3 b h t) = A
  generalize val_main_v28 (F := Ideal) x0 x1 (ix3 b h t) = B
  rfl

theorem v42_bit (b h : Fin 8) (t u : Fin 2048) :
    val_main_v42 (F := Ideal) x0 x1 (ix4 b h t u)
      = if (val_main_v41 (F := Ideal) : IVec Cert.DilRefIdeal.S2048x2048 1) (ix2 t u) = 1#1 then val_main_v14 (F := Ideal) x0 x1 (ix4 b h t u) else ⊥ := by
  unfold val_main_v42 val_main_call5_v1 val_main_call5_v2 val_main_call5_v0 val_main_cst_9
  generalize val_main_v14 (F := Ideal) x0 x1 = A
  generalize (val_main_v41 (F := Ideal) : IVec Cert.DilRefIdeal.S2048x2048 1) = B
  pointwise
  show Scalar.select (B (ix2 t u)) (A (ix4 b h t u)) (Ideal.ofBits .f32 0xFF800000#32) = _
  rw [minus_inf]
  rfl
theorem v42_at (b h : Fin 8) (t u : Fin 2048) :
    val_main_v42 (F := Ideal) x0 x1 (ix4 b h t u) = if kept t 1 u then val_main_v14 (F := Ideal) x0 x1 (ix4 b h t u) else ⊥ :=
  (v42_bit x0 x1 b h t u).trans (if_congr Iff.rfl rfl rfl)
theorem v43_at (b h : Fin 8) (t : Fin 2048) :
    val_main_v43 (F := Ideal) x0 x1 (ix3 b h t) = Finset.univ.fold max ⊥ fun u => val_main_v42 (F := Ideal) x0 x1 (ix4 b h t u) := by
  unfold val_main_v43 val_main_cst_10
  generalize val_main_v42 (F := Ideal) x0 x1 = A
  pointwise
  rw [minus_inf]
theorem v47_at (b h : Fin 8) (t u : Fin 2048) :
    val_main_v47 (F := Ideal) x0 x1 (ix4 b h t u)
      = Ideal.exp (val_main_v42 (F := Ideal) x0 x1 (ix4 b h t u) - val_main_v43 (F := Ideal) x0 x1 (ix3 b h t)) := by
  unfold val_main_v47 val_main_v46 val_main_v45 val_main_v44
  generalize val_main_v42 (F := Ideal) x0 x1 = A
  generalize val_main_v43 (F := Ideal) x0 x1 = B
  pointwise
theorem v48_at (b h : Fin 8) (t : Fin 2048) :
    val_main_v48 (F := Ideal) x0 x1 (ix3 b h t) = ∑ u, val_main_v47 (F := Ideal) x0 x1 (ix4 b h t u) := by
  unfold val_main_v48 val_main_cst_11
  generalize val_main_v47 (F := Ideal) x0 x1 = A
  pointwise
theorem v51_at (b h : Fin 8) (t u : Fin 2048) :
    val_main_v51 (F := Ideal) x0 x1 (ix4 b h t u)
      = Ideal.div (val_main_v47 (F := Ideal) x0 x1 (ix4 b h t u)) (val_main_v48 (F := Ideal) x0 x1 (ix3 b h t)) := by
  unfold val_main_v51 val_main_v50 val_main_v49
  generalize val_main_v47 (F := Ideal) x0 x1 = A
  generalize val_main_v48 (F := Ideal) x0 x1 = B
  pointwise
theorem v52_at (b h : Fin 8) (t : Fin 2048) (d : Fin 64) :
    val_main_v52 (F := Ideal) x0 x1 x2 (ix4 b h t d)
      = ∑ u, val_main_v51 (F := Ideal) x0 x1 (ix4 b h t u) * x2 (ix2 ⟨b.val * 2048 + u.val, by omega⟩ ⟨h.val * 64 + d.val, by omega⟩) := by
  unfold val_main_v52 val_main_v5 val_main_v4
  generalize val_main_v51 (F := Ideal) x0 x1 = A
  pointwise
theorem v54_at (b h : Fin 8) (t : Fin 2048) :
    val_main_v54 (F := Ideal) x0 x1 (ix4 b h t 0)
      = val_main_v43 (F := Ideal) x0 x1 (ix3 b h t) + Ideal.log (val_main_v48 (F := Ideal) x0 x1 (ix3 b h t)) := by
  rw [val_main_v54_apply, val_main_v53_apply, val_main_v49_apply, val_main_v44_apply]
  have e₁ : idx_main_v44 (ix4 b h t (0 : Fin 1)) = ix3 b h t := by
    funext a; fin_cases a <;> rfl
  have e₂ : idx_main_v49 (ix4 b h t (0 : Fin 1)) = ix3 b h t := by
    funext a; fin_cases a <;> rfl
  rw [e₁, e₂]
  generalize val_main_v43 (F := Ideal) x0 x1 (ix3 b h t) = A
  generalize val_main_v48 (F := Ideal) x0 x1 (ix3 b h t) = B
  rfl

theorem v62_bit (b h : Fin 8) (t u : Fin 2048) :
    val_main_v62 (F := Ideal) x0 x1 (ix4 b h t u)
      = if (val_main_v61 (F := Ideal) : IVec Cert.DilRefIdeal.S2048x2048 1) (ix2 t u) = 1#1 then val_main_v14 (F := Ideal) x0 x1 (ix4 b h t u) else ⊥ := by
  unfold val_main_v62 val_main_call8_v1 val_main_call8_v2 val_main_call8_v0 val_main_cst_16
  generalize val_main_v14 (F := Ideal) x0 x1 = A
  generalize (val_main_v61 (F := Ideal) : IVec Cert.DilRefIdeal.S2048x2048 1) = B
  pointwise
  show Scalar.select (B (ix2 t u)) (A (ix4 b h t u)) (Ideal.ofBits .f32 0xFF800000#32) = _
  rw [minus_inf]
  rfl
theorem v62_at (b h : Fin 8) (t u : Fin 2048) :
    val_main_v62 (F := Ideal) x0 x1 (ix4 b h t u) = if kept t 2 u then val_main_v14 (F := Ideal) x0 x1 (ix4 b h t u) else ⊥ :=
  (v62_bit x0 x1 b h t u).trans (if_congr Iff.rfl rfl rfl)
theorem v63_at (b h : Fin 8) (t : Fin 2048) :
    val_main_v63 (F := Ideal) x0 x1 (ix3 b h t) = Finset.univ.fold max ⊥ fun u => val_main_v62 (F := Ideal) x0 x1 (ix4 b h t u) := by
  unfold val_main_v63 val_main_cst_17
  generalize val_main_v62 (F := Ideal) x0 x1 = A
  pointwise
  rw [minus_inf]
theorem v67_at (b h : Fin 8) (t u : Fin 2048) :
    val_main_v67 (F := Ideal) x0 x1 (ix4 b h t u)
      = Ideal.exp (val_main_v62 (F := Ideal) x0 x1 (ix4 b h t u) - val_main_v63 (F := Ideal) x0 x1 (ix3 b h t)) := by
  unfold val_main_v67 val_main_v66 val_main_v65 val_main_v64
  generalize val_main_v62 (F := Ideal) x0 x1 = A
  generalize val_main_v63 (F := Ideal) x0 x1 = B
  pointwise
theorem v68_at (b h : Fin 8) (t : Fin 2048) :
    val_main_v68 (F := Ideal) x0 x1 (ix3 b h t) = ∑ u, val_main_v67 (F := Ideal) x0 x1 (ix4 b h t u) := by
  unfold val_main_v68 val_main_cst_18
  generalize val_main_v67 (F := Ideal) x0 x1 = A
  pointwise
theorem v71_at (b h : Fin 8) (t u : Fin 2048) :
    val_main_v71 (F := Ideal) x0 x1 (ix4 b h t u)
      = Ideal.div (val_main_v67 (F := Ideal) x0 x1 (ix4 b h t u)) (val_main_v68 (F := Ideal) x0 x1 (ix3 b h t)) := by
  unfold val_main_v71 val_main_v70 val_main_v69
  generalize val_main_v67 (F := Ideal) x0 x1 = A
  generalize val_main_v68 (F := Ideal) x0 x1 = B
  pointwise
theorem v72_at (b h : Fin 8) (t : Fin 2048) (d : Fin 64) :
    val_main_v72 (F := Ideal) x0 x1 x2 (ix4 b h t d)
      = ∑ u, val_main_v71 (F := Ideal) x0 x1 (ix4 b h t u) * x2 (ix2 ⟨b.val * 2048 + u.val, by omega⟩ ⟨h.val * 64 + d.val, by omega⟩) := by
  unfold val_main_v72 val_main_v5 val_main_v4
  generalize val_main_v71 (F := Ideal) x0 x1 = A
  pointwise
theorem v74_at (b h : Fin 8) (t : Fin 2048) :
    val_main_v74 (F := Ideal) x0 x1 (ix4 b h t 0)
      = val_main_v63 (F := Ideal) x0 x1 (ix3 b h t) + Ideal.log (val_main_v68 (F := Ideal) x0 x1 (ix3 b h t)) := by
  rw [val_main_v74_apply, val_main_v73_apply, val_main_v69_apply, val_main_v64_apply]
  have e₁ : idx_main_v64 (ix4 b h t (0 : Fin 1)) = ix3 b h t := by
    funext a; fin_cases a <;> rfl
  have e₂ : idx_main_v69 (ix4 b h t (0 : Fin 1)) = ix3 b h t := by
    funext a; fin_cases a <;> rfl
  rw [e₁, e₂]
  generalize val_main_v63 (F := Ideal) x0 x1 (ix3 b h t) = A
  generalize val_main_v68 (F := Ideal) x0 x1 (ix3 b h t) = B
  rfl
end

end Cert.DilIdeal.Layer

end
-- ==== Proof.DilRef.lean ====
/- The dilated attention reference: the three patterns mixed. -/
module

public import proofs.«01_k».proof.Defs
public import proofs.«01_k».proof.Proof.Gen.DilRefIdeal.Run
public import proofs.«01_k».proof.Proof.Gen.DilRefIdeal.Read
public import proofs.«01_k».proof.Proof.DilStage
public import proofs.«01_k».proof.Proof.DilMath
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DilIdeal.Layer

open Cert.DilRefIdeal.Read

section
variable (x0 x1 x2 : FVec Ideal Cert.DilRefIdeal.S16384x512 .bf16)

/-! ## The three patterns laid side by side -/

theorem pick3 {α : Type} (p : Fin 3) (a b c : α) :
    (if _h : p.val < 1 then a else if _h : p.val - 1 < 1 then b else c) = match p with | 0 => a | 1 => b | 2 => c := by
  fin_cases p <;> rfl

theorem v78_at (p : Fin 3) (b h : Fin 8) (t : Fin 2048) :
    val_main_v78 (F := Ideal) x0 x1 (ix5 p b h t 0) = match p with
      | 0 => val_main_v34 (F := Ideal) x0 x1 (ix4 b h t 0)
      | 1 => val_main_v54 (F := Ideal) x0 x1 (ix4 b h t 0)
      | 2 => val_main_v74 (F := Ideal) x0 x1 (ix4 b h t 0) := by
  unfold val_main_v78 val_main_v75 val_main_v76 val_main_v77
  generalize val_main_v34 (F := Ideal) x0 x1 = A
  generalize val_main_v54 (F := Ideal) x0 x1 = B
  generalize val_main_v74 (F := Ideal) x0 x1 = C
  pointwise
  exact pick3 p _ _ _

theorem v93_at (p : Fin 3) (b h : Fin 8) (t : Fin 2048) (d : Fin 64) :
    val_main_v93 (F := Ideal) x0 x1 x2 (ix5 p b h t d) = match p with
      | 0 => val_main_v32 (F := Ideal) x0 x1 x2 (ix4 b h t d)
      | 1 => val_main_v52 (F := Ideal) x0 x1 x2 (ix4 b h t d)
      | 2 => val_main_v72 (F := Ideal) x0 x1 x2 (ix4 b h t d) := by
  unfold val_main_v93 val_main_v90 val_main_v91 val_main_v92
  generalize val_main_v32 (F := Ideal) x0 x1 x2 = A
  generalize val_main_v52 (F := Ideal) x0 x1 x2 = B
  generalize val_main_v72 (F := Ideal) x0 x1 x2 = C
  pointwise
  exact pick3 p _ _ _

theorem v81_at (b h : Fin 8) (t : Fin 2048) :
    val_main_v81 (F := Ideal) x0 x1 (ix4 b h t 0) = Finset.univ.fold max ⊥ fun q => val_main_v78 (F := Ideal) x0 x1 (ix5 q b h t 0) := by
  unfold val_main_v81 val_main_v80 val_main_v79 val_main_cst_19 val_main_cst_20
  generalize val_main_v78 (F := Ideal) x0 x1 = A
  pointwise
  rw [minus_inf, max_eq_right bot_le]
theorem v85_at (p : Fin 3) (b h : Fin 8) (t : Fin 2048) :
    val_main_v85 (F := Ideal) x0 x1 (ix5 p b h t 0)
      = Ideal.exp (val_main_v78 (F := Ideal) x0 x1 (ix5 p b h t 0) - val_main_v81 (F := Ideal) x0 x1 (ix4 b h t 0)) := by
  unfold val_main_v85 val_main_v84 val_main_v83 val_main_v82
  generalize val_main_v78 (F := Ideal) x0 x1 = A
  generalize val_main_v81 (F := Ideal) x0 x1 = B
  pointwise
theorem v86_at (b h : Fin 8) (t : Fin 2048) :
    val_main_v86 (F := Ideal) x0 x1 (ix4 b h t 0) = ∑ p, val_main_v85 (F := Ideal) x0 x1 (ix5 p b h t 0) := by
  unfold val_main_v86 val_main_cst_21
  generalize val_main_v85 (F := Ideal) x0 x1 = A
  pointwise
theorem v89_at (p : Fin 3) (b h : Fin 8) (t : Fin 2048) :
    val_main_v89 (F := Ideal) x0 x1 (ix5 p b h t 0)
      = Ideal.div (val_main_v85 (F := Ideal) x0 x1 (ix5 p b h t 0)) (val_main_v86 (F := Ideal) x0 x1 (ix4 b h t 0)) := by
  unfold val_main_v89 val_main_v88 val_main_v87
  generalize val_main_v85 (F := Ideal) x0 x1 = A
  generalize val_main_v86 (F := Ideal) x0 x1 = B
  pointwise
theorem v98_at (b h : Fin 8) (t : Fin 2048) (d : Fin 64) :
    val_main_v98 (F := Ideal) x0 x1 x2 (ix3 b t ⟨h.val * 64 + d.val, by omega⟩)
      = ∑ p : Fin 3, val_main_v89 (F := Ideal) x0 x1 (ix5 p b h t 0) * val_main_v93 (F := Ideal) x0 x1 x2 (ix5 p b h t d) := by
  unfold val_main_v98 val_main_v97 val_main_v96 val_main_v95 val_main_v94 val_main_cst_22
  generalize val_main_v89 (F := Ideal) x0 x1 = A
  generalize val_main_v93 (F := Ideal) x0 x1 x2 = B
  pointwise

/-! ## The reference's result, the scores being real -/

variable (b h : Fin 8) (t : Fin 2048) (g : Fin 2048 → ℝ) (hg : ∀ u, val_main_v14 (F := Ideal) x0 x1 (ix4 b h t u) = ((g u : ℝ) : EReal))
include hg

theorem row0 : (fun u => val_main_v22 (F := Ideal) x0 x1 (ix4 b h t u)) = keep (kept t 0) g := by
  funext u
  rw [v22_at, hg]
  rfl
theorem lse0 : val_main_v34 (F := Ideal) x0 x1 (ix4 b h t 0) = ((Real.log (tot (kept t 0) g) : ℝ) : EReal) := by
  have hr := row0 x0 x1 b h t g hg
  rw [v34_at, v28_at, v23_at, hr, ← keep_lse (kept t 0) g t (kept_diag t 0)]
  refine congrArg (fun z => _ + Ideal.log z) (Finset.sum_congr rfl fun u _ => ?_)
  rw [v27_at, v23_at, hr]
  exact congrArg (fun z => Ideal.exp (z - _)) (congrFun hr u)
theorem part0 (d : Fin 64) : val_main_v32 (F := Ideal) x0 x1 x2 (ix4 b h t d)
    = ∑ u, (((if kept t 0 u then Real.exp (g u) else 0) / tot (kept t 0) g : ℝ) : EReal)
        * x2 (ix2 ⟨b.val * 2048 + u.val, by omega⟩ ⟨h.val * 64 + d.val, by omega⟩) := by
  have hr := row0 x0 x1 b h t g hg
  have he : ∀ u, val_main_v27 (F := Ideal) x0 x1 (ix4 b h t u)
      = Ideal.exp (keep (kept t 0) g u - Finset.univ.fold max ⊥ (keep (kept t 0) g)) := by
    intro u
    rw [v27_at, v23_at, hr]
    exact congrArg (fun z => Ideal.exp (z - _)) (congrFun hr u)
  rw [v32_at]
  refine Finset.sum_congr rfl fun u _ => congrArg (· * _) ?_
  rw [v31_at, v28_at, he, Finset.sum_congr rfl fun j _ => he j]
  exact keep_quot (kept t 0) g t (kept_diag t 0) u

theorem row1 : (fun u => val_main_v42 (F := Ideal) x0 x1 (ix4 b h t u)) = keep (kept t 1) g := by
  funext u
  rw [v42_at, hg]
  rfl
theorem lse1 : val_main_v54 (F := Ideal) x0 x1 (ix4 b h t 0) = ((Real.log (tot (kept t 1) g) : ℝ) : EReal) := by
  have hr := row1 x0 x1 b h t g hg
  rw [v54_at, v48_at, v43_at, hr, ← keep_lse (kept t 1) g t (kept_diag t 1)]
  refine congrArg (fun z => _ + Ideal.log z) (Finset.sum_congr rfl fun u _ => ?_)
  rw [v47_at, v43_at, hr]
  exact congrArg (fun z => Ideal.exp (z - _)) (congrFun hr u)
theorem part1 (d : Fin 64) : val_main_v52 (F := Ideal) x0 x1 x2 (ix4 b h t d)
    = ∑ u, (((if kept t 1 u then Real.exp (g u) else 0) / tot (kept t 1) g : ℝ) : EReal)
        * x2 (ix2 ⟨b.val * 2048 + u.val, by omega⟩ ⟨h.val * 64 + d.val, by omega⟩) := by
  have hr := row1 x0 x1 b h t g hg
  have he : ∀ u, val_main_v47 (F := Ideal) x0 x1 (ix4 b h t u)
      = Ideal.exp (keep (kept t 1) g u - Finset.univ.fold max ⊥ (keep (kept t 1) g)) := by
    intro u
    rw [v47_at, v43_at, hr]
    exact congrArg (fun z => Ideal.exp (z - _)) (congrFun hr u)
  rw [v52_at]
  refine Finset.sum_congr rfl fun u _ => congrArg (· * _) ?_
  rw [v51_at, v48_at, he, Finset.sum_congr rfl fun j _ => he j]
  exact keep_quot (kept t 1) g t (kept_diag t 1) u

theorem row2 : (fun u => val_main_v62 (F := Ideal) x0 x1 (ix4 b h t u)) = keep (kept t 2) g := by
  funext u
  rw [v62_at, hg]
  rfl
theorem lse2 : val_main_v74 (F := Ideal) x0 x1 (ix4 b h t 0) = ((Real.log (tot (kept t 2) g) : ℝ) : EReal) := by
  have hr := row2 x0 x1 b h t g hg
  rw [v74_at, v68_at, v63_at, hr, ← keep_lse (kept t 2) g t (kept_diag t 2)]
  refine congrArg (fun z => _ + Ideal.log z) (Finset.sum_congr rfl fun u _ => ?_)
  rw [v67_at, v63_at, hr]
  exact congrArg (fun z => Ideal.exp (z - _)) (congrFun hr u)
theorem part2 (d : Fin 64) : val_main_v72 (F := Ideal) x0 x1 x2 (ix4 b h t d)
    = ∑ u, (((if kept t 2 u then Real.exp (g u) else 0) / tot (kept t 2) g : ℝ) : EReal)
        * x2 (ix2 ⟨b.val * 2048 + u.val, by omega⟩ ⟨h.val * 64 + d.val, by omega⟩) := by
  have hr := row2 x0 x1 b h t g hg
  have he : ∀ u, val_main_v67 (F := Ideal) x0 x1 (ix4 b h t u)
      = Ideal.exp (keep (kept t 2) g u - Finset.univ.fold max ⊥ (keep (kept t 2) g)) := by
    intro u
    rw [v67_at, v63_at, hr]
    exact congrArg (fun z => Ideal.exp (z - _)) (congrFun hr u)
  rw [v72_at]
  refine Finset.sum_congr rfl fun u _ => congrArg (· * _) ?_
  rw [v71_at, v68_at, he, Finset.sum_congr rfl fun j _ => he j]
  exact keep_quot (kept t 2) g t (kept_diag t 2) u

theorem lses (p : Fin 3) : val_main_v78 (F := Ideal) x0 x1 (ix5 p b h t 0) = ((Real.log (tot (kept t p) g) : ℝ) : EReal) := by
  rw [v78_at]
  fin_cases p
  · exact lse0 x0 x1 b h t g hg
  · exact lse1 x0 x1 b h t g hg
  · exact lse2 x0 x1 b h t g hg

theorem weight (p : Fin 3) : val_main_v89 (F := Ideal) x0 x1 (ix5 p b h t 0) = ((tot (kept t p) g / ∑ q, tot (kept t q) g : ℝ) : EReal) := by
  have hl := lses x0 x1 b h t g hg
  have he : ∀ q, val_main_v85 (F := Ideal) x0 x1 (ix5 q b h t 0)
      = Ideal.exp (((Real.log (tot (kept t q) g) : ℝ) : EReal) - Finset.univ.fold max ⊥ fun r => ((Real.log (tot (kept t r) g) : ℝ) : EReal)) := by
    intro q
    rw [v85_at, v81_at, hl q, show (fun r => val_main_v78 (F := Ideal) x0 x1 (ix5 r b h t 0)) = _ from funext hl]
  rw [v89_at, v86_at, he, Finset.sum_congr rfl fun q _ => he q]
  exact soft3 (fun q => tot (kept t q) g) (fun q => tot_pos (kept t q) g t (kept_diag t q)) p

/-- The reference's result: each key's value by its share. -/
theorem ref_at (d : Fin 64) :
    val_main_v98 (F := Ideal) x0 x1 x2 (ix3 b t ⟨h.val * 64 + d.val, by omega⟩)
      = ∑ u, ((share (kept t) g u : ℝ) : EReal) * x2 (ix2 ⟨b.val * 2048 + u.val, by omega⟩ ⟨h.val * 64 + d.val, by omega⟩) := by
  rw [v98_at, ← mixed (kept t) g _ t (kept_diag t)]
  refine Finset.sum_congr rfl fun p _ => congrArg₂ (· * ·) (weight x0 x1 b h t g hg p) ?_
  rw [v93_at]
  fin_cases p
  · exact part0 x0 x1 x2 b h t g hg d
  · exact part1 x0 x1 x2 b h t g hg d
  · exact part2 x0 x1 x2 b h t g hg d

end

end Cert.DilIdeal.Layer

end
-- ==== Proof.DilK.lean ====
/- The dilated attention kernel's block, entry by entry. -/
module

public import proofs.«01_k».proof.Defs
public import proofs.«01_k».proof.Proof.Gen.DilIdeal.Value
public import proofs.«01_k».proof.Proof.DilMath
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DilIdeal.Layer

open Cert.DilIdeal Cert.DilIdeal.Gen

/-- The named mask is minus infinity. -/
theorem mask_bot : (Named.named (F := Ideal) (φ := .f32) κ "mask" 0xF149F2CA#32 : EReal) = ⊥ :=
  IdealRules.named_const.ideal_named_scalar _ _ _ _ rfl

/-- One row of the kernel: the softmax of the scores a positive count keeps, each exponential times its count. -/
def rowOf (c s v : Fin 2048 → EReal) : EReal :=
  Ideal.div (∑ u, Ideal.exp ((if 0 < c u then s u else ⊥) - Finset.univ.fold max ⊥ fun w => if 0 < c w then s w else ⊥) * c u * v u)
    (∑ u, Ideal.exp ((if 0 < c u then s u else ⊥) - Finset.univ.fold max ⊥ fun w => if 0 < c w then s w else ⊥) * c u)

/-- A score from the lanes of one of the pair's heads. -/
def headScore (x0 : FVec Ideal S1x256x128 .bf16) (x1 : FVec Ideal S1x2048x128 .bf16) (r : Fin 256) (h : Fin 2) (u : Fin 2048) : EReal :=
  ∑ k : Fin 64, x0 (ix3 0 r ⟨h.val * 64 + k.val, by omega⟩) * x1 (ix3 0 u ⟨h.val * 64 + k.val, by omega⟩)

theorem low_lt : ∀ l : Fin 128, IntOp.andi (IntOp.cmpi CmpIPredicate.sge (BitVec.ofNat 32 l.val) 0#32)
    (IntOp.cmpi CmpIPredicate.slt (BitVec.ofNat 32 l.val) 64#32) = if l.val < 64 then 1#1 else 0#1 := by decide
theorem high_lt : ∀ l : Fin 128, IntOp.andi (IntOp.cmpi CmpIPredicate.sge (BitVec.ofNat 32 l.val) 64#32)
    (IntOp.cmpi CmpIPredicate.slt (BitVec.ofNat 32 l.val) 128#32) = if l.val < 64 then 0#1 else 1#1 := by decide
theorem lane_lt : ∀ l : Fin 128, IntOp.cmpi CmpIPredicate.slt (BitVec.ofNat 32 l.val) 64#32 = if l.val < 64 then 1#1 else 0#1 := by decide

theorem sum_halves (f : Fin 128 → EReal) : ∑ k, f k = ∑ k : Fin 64, f ⟨k.val, by omega⟩ + ∑ k : Fin 64, f ⟨64 + k.val, by omega⟩ :=
  Fin.sum_univ_add (a := 64) (b := 64) f

/-- The lanes outside the head contribute nothing. -/
theorem low_sum (f : Fin 128 → EReal) :
    ∑ k : Fin 128, Scalar.select (IntOp.andi (IntOp.cmpi CmpIPredicate.sge (BitVec.ofNat 32 k.val) 0#32)
      (IntOp.cmpi CmpIPredicate.slt (BitVec.ofNat 32 k.val) 64#32)) (f k) 0 = ∑ k : Fin 64, f ⟨(0 : Fin 2).val * 64 + k.val, by simp; omega⟩ := by
  rw [sum_halves]
  refine (congrArg₂ (· + ·) (Finset.sum_congr rfl fun k _ => ?_) (Finset.sum_eq_zero fun k _ => ?_)).trans (add_zero _)
  · rw [low_lt, if_pos (show k.val < 64 from k.isLt)]
    exact congrArg f (Fin.ext (by simp))
  · rw [low_lt, if_neg (show ¬ 64 + k.val < 64 by omega)]
    rfl
theorem high_sum (f : Fin 128 → EReal) :
    ∑ k : Fin 128, Scalar.select (IntOp.andi (IntOp.cmpi CmpIPredicate.sge (BitVec.ofNat 32 k.val) 64#32)
      (IntOp.cmpi CmpIPredicate.slt (BitVec.ofNat 32 k.val) 128#32)) (f k) 0 = ∑ k : Fin 64, f ⟨(1 : Fin 2).val * 64 + k.val, by simp; omega⟩ := by
  rw [sum_halves]
  refine (congrArg₂ (· + ·) (Finset.sum_eq_zero fun k _ => ?_) (Finset.sum_congr rfl fun k _ => ?_)).trans (zero_add _)
  · rw [high_lt, if_pos (show k.val < 64 from k.isLt)]
    rfl
  · rw [high_lt, if_neg (show ¬ 64 + k.val < 64 by omega)]
    exact congrArg f (Fin.ext (by simp))

theorem pay6_at (x0 : Vec Ideal S1x256x128 .bf16) (x1 x2 : Vec Ideal S1x2048x128 .bf16) (x3 : Vec Ideal S256x2048 .f32) (r : Fin 256) (l : Fin 128) :
    k0_pay6 (F := Ideal) x0 x1 x2 x3 (ix2 r l) = rowOf (fun u => x3 (ix2 r u)) (headScore x0 x1 r 0) (fun u => x2 (ix3 0 u l)) := by
  pointwise [k0_pay6, k0_pay5, k0_pay4, k0_pay3, k0_pay2]
  simp only [minus_inf, mask_bot, low_sum]
  rfl

theorem pay1_at (x0 : Vec Ideal S1x256x128 .bf16) (x1 x2 : Vec Ideal S1x2048x128 .bf16) (x3 : Vec Ideal S256x2048 .f32) (W : FVec Ideal S256x128 .f32)
    (r : Fin 256) (l : Fin 128) :
    k0_pay1 (F := Ideal) (k0_pay2 x0) (k0_pay3 x1) (k0_pay4 x2) (k0_pay5 x3) (iota .tc S256x128 32 [1] iota_S256x128_d1_w32) W k0_pay7 128#32 (ix3 0 r l)
      = if l.val < 64 then W (ix2 r l) else rowOf (fun u => x3 (ix2 r u)) (headScore x0 x1 r 1) (fun u => x2 (ix3 0 u l)) := by
  pointwise [k0_pay1, k0_pay7, k0_pay5, k0_pay4, k0_pay3, k0_pay2]
  simp only [minus_inf, mask_bot, high_sum]
  rw [lane_lt]
  by_cases h : l.val < 64
  · rw [if_pos h, if_pos h]; rfl
  · rw [if_neg h, if_neg h]; rfl

/-- The block of outputs: lane `l` belongs to the pair's head `l / 64`. -/
theorem out_at (x0 : Vec Ideal S1x256x128 .bf16) (x1 x2 : Vec Ideal S1x2048x128 .bf16) (x3 : Vec Ideal S256x2048 .f32) (r : Fin 256) (l : Fin 128) :
    (show FVec Ideal S1x256x128 .f32 from out0_4 x0 x1 x2 x3) (ix3 0 r l)
      = rowOf (fun u => x3 (ix2 r u)) (headScore x0 x1 r ⟨l.val / 64, by omega⟩) (fun u => x2 (ix3 0 u l)) := by
  have e : out0_4 (F := Ideal) x0 x1 x2 x3 = k0_pay1 (F := Ideal) (k0_pay2 x0) (k0_pay3 x1) (k0_pay4 x2) (k0_pay5 x3)
      (iota .tc S256x128 32 [1] iota_S256x128_d1_w32) (k0_pay6 x0 x1 x2 x3) k0_pay7 128#32 := by
    unfold out0_4
    frame_out
  refine (congrFun e _).trans ((pay1_at x0 x1 x2 x3 _ r l).trans ?_)
  by_cases h : l.val < 64
  · rw [if_pos h, pay6_at]
    exact congrArg (fun z => rowOf _ (headScore x0 x1 r z) _) (Fin.ext (by show 0 = l.val / 64; omega))
  · rw [if_neg h]
    exact congrArg (fun z => rowOf _ (headScore x0 x1 r z) _) (Fin.ext (by show 1 = l.val / 64; omega))

end Cert.DilIdeal.Layer

end
-- ==== Proof.DilTab.lean ====
/- What the host operations leave in the kernel's operands. -/
module

public import proofs.«01_k».proof.Defs
public import proofs.«01_k».proof.Proof.Gen.DilIdeal.Value
public import proofs.«01_k».proof.Proof.Gen.DilRefIdeal.Run
public import proofs.«01_k».proof.Proof.Gen.DilRefIdeal.Read
public import proofs.«01_k».proof.Proof.DilMask
public import Idealize.ShloMosaic.Lib.StableHlo.RunRead
public import proofs.«01_k».proof.Proof.DilMath
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DilIdeal.Layer

open Cert.DilIdeal Cert.DilIdeal.Gen
open Cert.DilRefIdeal.Read

variable (m : (ℓ : Loc nD τ sig) → Buf (Elt Ideal) ℓ)

/-- The three arguments. -/
abbrev a0 (c : Dev nD) : FVec Ideal S16384x512 .bf16 := m ((c.tc : Thread nD τ).loc main_arg0)
abbrev a1 (c : Dev nD) : FVec Ideal S16384x512 .bf16 := m ((c.tc : Thread nD τ).loc main_arg1)
abbrev a2 (c : Dev nD) : FVec Ideal S16384x512 .bf16 := m ((c.tc : Thread nD τ).loc main_arg2)

/-- The operands are the arguments, cut into batch entries. -/
theorem q_eq (c : Dev nD) : (show FVec Ideal S8x2048x512 .bf16 from V m c main_v0) = shapeCast S8x2048x512 (a0 m c) (by decide) := by
  unfold V
  after_reads_simp
  rfl
theorem k_eq (c : Dev nD) : (show FVec Ideal S8x2048x512 .bf16 from V m c main_v1) = shapeCast S8x2048x512 (a1 m c) (by decide) := by
  unfold V
  after_reads_simp
  rfl
theorem v_eq (c : Dev nD) : (show FVec Ideal S8x2048x512 .bf16 from V m c main_v2) = shapeCast S8x2048x512 (a2 m c) (by decide) := by
  unfold V
  after_reads_simp
  rfl
/-- The table adds the three patterns' masks. -/
theorem table_eq (c : Dev nD) : (show FVec Ideal S2048x2048 .f32 from V m c main_v38)
    = addf (addf (addf (broadcastInDim S2048x2048 ![] bcast_S_S2048x2048 (constant S_ .f32 0x00000000#32 : FVec Ideal S_ .f32)) (uitofp .f32 (val_main_v21 (F := Ideal) : IVec S2048x2048 1)))
      (uitofp .f32 (val_main_v41 (F := Ideal) : IVec S2048x2048 1))) (uitofp .f32 (val_main_v61 (F := Ideal) : IVec S2048x2048 1)) := by
  unfold V
  after_reads_simp
  simp -implicitDefEqProofs only [StableHlo.TRef.toBuf, StableHlo.TRef.ofBuf, cast_cast, cast_eq]
  rfl

theorem q_at (c : Dev nD) (b : Fin 8) (t : Fin 2048) (j : Fin 512) :
    (show FVec Ideal S8x2048x512 .bf16 from V m c main_v0) (ix3 b t j) = a0 m c (ix2 ⟨b.val * 2048 + t.val, by omega⟩ j) := by
  rw [q_eq]
  pointwise
theorem k_at (c : Dev nD) (b : Fin 8) (t : Fin 2048) (j : Fin 512) :
    (show FVec Ideal S8x2048x512 .bf16 from V m c main_v1) (ix3 b t j) = a1 m c (ix2 ⟨b.val * 2048 + t.val, by omega⟩ j) := by
  rw [k_eq]
  pointwise
theorem v_at (c : Dev nD) (b : Fin 8) (t : Fin 2048) (j : Fin 512) :
    (show FVec Ideal S8x2048x512 .bf16 from V m c main_v2) (ix3 b t j) = a2 m c (ix2 ⟨b.val * 2048 + t.val, by omega⟩ j) := by
  rw [v_eq]
  pointwise

/-- A mask bit as a number. -/
theorem bit_num (x : BitVec 1) : (((x.toNat : ℝ)) : EReal) = ((if x = 1#1 then (1 : ℝ) else 0 : ℝ) : EReal) := by
  rcases (by decide : ∀ x : BitVec 1, x = 0#1 ∨ x = 1#1) x with rfl | rfl <;> simp

/-- An entry of the table is the number of patterns that keep the key. -/
theorem tab_at (c : Dev nD) (t u : Fin 2048) :
    (show FVec Ideal S2048x2048 .f32 from V m c main_v38) (ix2 t u) = ((cnt (kept t) u : ℝ) : EReal) := by
  rw [table_eq]
  have e : cnt (kept t) u = (if (val_main_v21 (F := Ideal) : IVec S2048x2048 1) (ix2 t u) = 1#1 then (1 : ℝ) else 0)
      + (if (val_main_v41 (F := Ideal) : IVec S2048x2048 1) (ix2 t u) = 1#1 then (1 : ℝ) else 0)
      + (if (val_main_v61 (F := Ideal) : IVec S2048x2048 1) (ix2 t u) = 1#1 then (1 : ℝ) else 0) := by
    unfold cnt
    rw [Fin.sum_univ_three]
    rfl
  rw [e]
  generalize (val_main_v21 (F := Ideal) : IVec S2048x2048 1) = A
  generalize (val_main_v41 (F := Ideal) : IVec S2048x2048 1) = B
  generalize (val_main_v61 (F := Ideal) : IVec S2048x2048 1) = C
  pointwise
  rw [EReal.coe_add, EReal.coe_add, ← bit_num, ← bit_num, ← bit_num]
  rfl

end Cert.DilIdeal.Layer

end
-- ==== Proof.DilValue.lean ====
/- The dilated attention call: the kernel's result is the reference's. -/
module

public import proofs.«01_k».proof.Defs
public import proofs.«01_k».proof.Proof.Gen.DilIdeal
public import proofs.«01_k».proof.Proof.Gen.DilIdeal.Value
public import proofs.«01_k».proof.Proof.Gen.DilRefIdeal
public import proofs.«01_k».proof.Proof.Gen.DilRefIdeal.Run
public import proofs.«01_k».proof.Proof.Gen.DilRefIdeal.Read
public import proofs.«01_k».proof.Proof.Gen.Pre_finite_scores
public import proofs.«01_k».proof.Proof.AttnMath
public import proofs.«01_k».proof.Proof.DilRef
public import proofs.«01_k».proof.Proof.DilK
public import proofs.«01_k».proof.Proof.DilTab

@[expose] public section

set_option maxRecDepth 16384

noncomputable section

open Idealize.ShloMosaic Idealize.ShloMosaic.TcCoe Idealize.SL.Sem
open Idealize.ShloMosaic.Pipeline (Dat)
open Cert.AttnIdeal.Layer (Fin' fin_sum fin_mul fin_of_abs_lt)

namespace Cert.DilIdeal.Layer

open Cert.DilIdeal Cert.DilIdeal.Gen
open Cert.DilRefIdeal.Read

/-- Where each window's block sits at each of the 256 points. -/
theorem idx : ∀ t : Fin cfg0.N, win0_0.index t = ![t.val / 4 % 8, t.val / 32, t.val % 4] ∧ win0_1.index t = ![t.val / 4 % 8, 0, t.val % 4]
    ∧ win0_2.index t = ![t.val / 4 % 8, 0, t.val % 4] ∧ win0_3.index t = ![t.val / 32, 0] ∧ win0_4.index t = ![t.val / 4 % 8, t.val / 32, t.val % 4] :=
  (by decide +kernel : ∀ t : Fin grid0.N, _)

variable (m : (ℓ : Loc nD τ sig) → Buf (Elt Ideal) ℓ)

theorem rq (c : Dev nD) (t : Fin cfg0.N) (ht : t.val < 256) (r : Fin 256) (k : Fin 128) :
    (show FVec Ideal S1x256x128 .bf16 from iblk m c 0 t) (ix3 0 r k)
      = (show FVec Ideal S8x2048x512 .bf16 from V m c main_v0) (ix3 ⟨t.val / 4 % 8, by omega⟩ ⟨t.val / 32 * 256 + r.val, by omega⟩ ⟨t.val % 4 * 128 + k.val, by omega⟩) := by
  unfold iblk
  generalize V m c = W
  blk_point [idx t]
theorem rk (c : Dev nD) (t : Fin cfg0.N) (ht : t.val < 256) (u : Fin 2048) (k : Fin 128) :
    (show FVec Ideal S1x2048x128 .bf16 from iblk m c 1 t) (ix3 0 u k)
      = (show FVec Ideal S8x2048x512 .bf16 from V m c main_v1) (ix3 ⟨t.val / 4 % 8, by omega⟩ u ⟨t.val % 4 * 128 + k.val, by omega⟩) := by
  unfold iblk
  generalize V m c = W
  blk_point [idx t]
theorem rv (c : Dev nD) (t : Fin cfg0.N) (ht : t.val < 256) (u : Fin 2048) (k : Fin 128) :
    (show FVec Ideal S1x2048x128 .bf16 from iblk m c 2 t) (ix3 0 u k)
      = (show FVec Ideal S8x2048x512 .bf16 from V m c main_v2) (ix3 ⟨t.val / 4 % 8, by omega⟩ u ⟨t.val % 4 * 128 + k.val, by omega⟩) := by
  unfold iblk
  generalize V m c = W
  blk_point [idx t]
theorem rt (c : Dev nD) (t : Fin cfg0.N) (ht : t.val < 256) (r : Fin 256) (u : Fin 2048) :
    (show FVec Ideal S256x2048 .f32 from iblk m c 3 t) (ix2 r u)
      = (show FVec Ideal S2048x2048 .f32 from V m c main_v38) (ix2 ⟨t.val / 32 * 256 + r.val, by omega⟩ u) := by
  unfold iblk
  generalize V m c = W
  blk_point [idx t]

/-- One row of the kernel over real scores is the sum of the values by their shares. -/
theorem row_share (b : Fin 3 → Fin 2048 → Prop) [∀ p, DecidablePred (b p)] (g : Fin 2048 → ℝ) (v : Fin 2048 → EReal) (k₀ : Fin 2048) (h₀ : ∀ p, b p k₀) :
    rowOf (fun u => ((cnt b u : ℝ) : EReal)) (fun u => ((g u : ℝ) : EReal)) v = ∑ u, ((share b g u : ℝ) : EReal) * v u := by
  rw [← counted b g v k₀ h₀]
  have e : (fun u => if 0 < ((cnt b u : ℝ) : EReal) then ((g u : ℝ) : EReal) else ⊥) = keep (fun k => 0 < cnt b k) g := by
    funext u
    unfold keep
    exact if_congr EReal.coe_pos rfl rfl
  unfold rowOf
  rw [← e]

/-- What a point stores is the reference's result at the index of the array it lies at. -/
theorem point4 (c : Dev nD) (hs : ∀ b h t u, Fin' (val_main_v14 (F := Ideal) (a0 m c) (a1 m c) (ix4 b h t u)))
    (t : Fin cfg0.N) (ht : t.val < 256) (y : S1x256x128.Idx) (i : S8x2048x512.Idx)
    (h0 : (i 0 : ℕ) = t.val / 4 % 8) (h1 : (i 1 : ℕ) = t.val / 32 * 256 + y 1) (h2 : (i 2 : ℕ) = t.val % 4 * 128 + y 2) :
    (show FVec Ideal S1x256x128 .f32 from out0_4 (iblk m c 0 t) (iblk m c 1 t) (iblk m c 2 t) (iblk m c 3 t)) y
      = val_main_v98 (F := Ideal) (a0 m c) (a1 m c) (a2 m c) i := by
  have hy0 : (y 0 : ℕ) < 1 := (y 0).isLt
  have hy1 : (y 1 : ℕ) < 256 := (y 1).isLt
  have hy2 : (y 2 : ℕ) < 128 := (y 2).isLt
  have hy : y = ix3 0 (show Fin 256 from y 1) (show Fin 128 from y 2) := by
    funext a; fin_cases a
    · exact Fin.ext (by show (y 0 : ℕ) = 0; omega)
    · rfl
    · rfl
  refine (congrArg _ hy).trans ((out_at _ _ _ _ _ _).trans ?_)
  have hi : i = ix3 (⟨t.val / 4 % 8, by omega⟩ : Fin 8) (⟨t.val / 32 * 256 + (y 1 : ℕ), by omega⟩ : Fin 2048)
      (⟨(t.val % 4 * 2 + (y 2 : ℕ) / 64) * 64 + (y 2 : ℕ) % 64, by omega⟩ : Fin 512) := by
    funext a; fin_cases a
    · exact Fin.ext h0
    · exact Fin.ext h1
    · exact Fin.ext (by show (i 2 : ℕ) = (t.val % 4 * 2 + (y 2 : ℕ) / 64) * 64 + (y 2 : ℕ) % 64; omega)
  rw [hi]
  choose g hg using hs (⟨t.val / 4 % 8, by omega⟩ : Fin 8) (⟨t.val % 4 * 2 + (y 2 : ℕ) / 64, by omega⟩ : Fin 8) (⟨t.val / 32 * 256 + (y 1 : ℕ), by omega⟩ : Fin 2048)
  refine Eq.trans ?_ (ref_at (a0 m c) (a1 m c) (a2 m c) ⟨t.val / 4 % 8, by omega⟩ ⟨t.val % 4 * 2 + (y 2 : ℕ) / 64, by omega⟩
    ⟨t.val / 32 * 256 + (y 1 : ℕ), by omega⟩ g hg ⟨(y 2 : ℕ) % 64, by omega⟩).symm
  refine Eq.trans ?_ (row_share (kept ⟨t.val / 32 * 256 + (y 1 : ℕ), by omega⟩) g _ ⟨t.val / 32 * 256 + (y 1 : ℕ), by omega⟩ (kept_diag _))
  refine congr (congrArg₂ rowOf (funext fun u => ?_) (funext fun u => ?_)) (funext fun u => ?_)
  · exact (rt m c t ht _ _).trans (tab_at m c _ _)
  · refine Eq.trans (Finset.sum_congr rfl fun k _ => congrArg₂ (· * ·) ?_ ?_) ((v14_at (a0 m c) (a1 m c) _ _ _ u).symm.trans (hg u))
    · refine (rq m c t ht _ _).trans ((q_at m c _ _ _).trans (congrArg (fun z => a0 m c (ix2 _ z)) ?_))
      exact Fin.ext (by show t.val % 4 * 128 + ((y 2 : ℕ) / 64 * 64 + k.val) = (t.val % 4 * 2 + (y 2 : ℕ) / 64) * 64 + k.val; omega)
    · refine (rk m c t ht _ _).trans ((k_at m c _ _ _).trans (congrArg (fun z => a1 m c (ix2 _ z)) ?_))
      exact Fin.ext (by show t.val % 4 * 128 + ((y 2 : ℕ) / 64 * 64 + k.val) = (t.val % 4 * 2 + (y 2 : ℕ) / 64) * 64 + k.val; omega)
  · refine (rv m c t ht _ _).trans ((v_at m c _ _ _).trans (congrArg (fun z => a2 m c (ix2 _ z)) ?_))
    exact Fin.ext (by show t.val % 4 * 128 + (y 2 : ℕ) = (t.val % 4 * 2 + (y 2 : ℕ) / 64) * 64 + (y 2 : ℕ) % 64; omega)

theorem final4 (c : Dev nD) (hs : ∀ b h t u, Fin' (val_main_v14 (F := Ideal) (a0 m c) (a1 m c) (ix4 b h t u))) :
    (dats m 0 c).arrAt 4 cfg0.N = val_main_v98 (F := Ideal) (a0 m c) (a1 m c) (a2 m c) := by
  refine (dats m 0 c).arrAt_eq_of_covers 4 _ (by decide +kernel) fun t _ y => ?_
  have ht : t.val < 256 := t.isLt
  blk_simp
  rw [after0_4]
  refine point4 m c hs t ht y _ ?_ ?_ ?_
  all_goals (blk_simp [idx t] <;> try omega)

/-- The test "below infinity in absolute value" answers yes only at a real number. -/
theorem real_of_test {x : EReal} (h : Ideal.cmp .olt (max x (-x)) (Ideal.ofBits .f32 0x7F800000#32) = 1#1) : Fin' x := by
  rw [show Ideal.ofBits .f32 0x7F800000#32 = ⊤ by simp [Ideal.ofBits, Ideal.ieee]] at h
  refine fin_of_abs_lt ?_
  by_contra hn
  simp [Ideal.cmp, hn] at h

theorem fin_q (hp : Cert.Pre_DilIdeal_finite_scores m) (c : Dev nD) : ∀ i, Fin' (a0 m c i) := fun i => real_of_test (congrFun (hp c).1 i)
theorem fin_k (hp : Cert.Pre_DilIdeal_finite_scores m) (c : Dev nD) : ∀ i, Fin' (a1 m c i) := fun i => real_of_test (congrFun (hp c).2 i)

/-- Every score is real under the precondition. -/
theorem scores (hp : Cert.Pre_DilIdeal_finite_scores m) (c : Dev nD) (b h : Fin 8) (t u : Fin 2048) :
    Fin' (val_main_v14 (F := Ideal) (a0 m c) (a1 m c) (ix4 b h t u)) := by
  rw [v14_at]
  exact fin_sum fun k => fin_mul (fin_q m hp c _) (fin_k m hp c _)

/-- The named constant stands for minus infinity. -/
theorem preserves : Cert.preserves_Dil_DilIdeal := IdealRules.named_const.statement _ _ _ _ _ rfl

/-- The claim: the call's result is the reference's where the queries and keys are finite. -/
theorem algebraic : Cert.algebraic_DilIdeal_DilRefIdeal_pre_finite_scores := by
  intro m g m' g' hp hagree
  refine ⟨fun c => val_main_v98 (F := Ideal) (a0 m c) (a1 m c) (a2 m c), ?_, ?_⟩
  · refine (θ_run _ _ _).mono (fun r h c => ?_) (Cert.DilIdeal.Value.run_blocks m g)
    exact ⟨(h c).1.trans (final4 m c (scores m hp c)), (h c).2⟩
  · refine (θ_run _ _ _).mono (fun r h c => ?_) (Cert.DilRefIdeal.Value.run (F := Ideal) m' g')
    obtain ⟨r0, hr⟩ := h c
    obtain ⟨h0, h1, h2⟩ := hagree c
    have e0 := r0.trans (Cert.DilRefIdeal.Read.val_main_v98_eq (F := Ideal) (StableHlo.launchContents m' c))
    refine ⟨e0.trans ?_, hr⟩
    exact congr (congr (congrArg (val_main_v98 (F := Ideal)) h0) h1) h2

end Cert.DilIdeal.Layer

end
-- ==== Proof.AttnScatter.lean ====
/- A block of whole columns written into a matrix, read at an entry: the rotary tables' lanes are set this way. -/
module

public import Idealize.ShloMosaic.Lib.Routing.OpsSet
public import Idealize.ShloMosaic.Lib.Routing.OpsPair

@[expose] public section

namespace Cert.AttnIdeal.Layer

open Idealize.ShloMosaic Idealize.ShloMosaic.ValueIdx Idealize.ShloMosaic.Routing

/-- Where update `(a, b)` of a block of columns starting at the one index word lands. -/
theorem lands_block {A N U : ℕ} (d : ScatterDims (shape2 A N) (shape1 1) (shape2 A U)) (hu : d.updateWindowDims = [0, 1])
    (hi : d.insertedWindowDims = []) (hs : d.scatterDimsToOperandDims = [1]) (idx : IVec (shape1 1) 32) (n : ℕ)
    (hn : (idx (ix1 0)).toInt = (n : ℤ)) (a : Fin A) (b : Fin U) (r : Fin A) (l : Fin N) :
    d.resultIdx? (ix2 a b) idx = some (ix2 r l) ↔ a = r ∧ n + b.val = l.val := by
  have hk : d.sKept = [0, 1] := by
    show (shape2 A N).kept d.insertedWindowDims = _
    rw [hi]; rfl
  have h0 : d.window (ix2 a b) 0 = a.val := by
    unfold ScatterDims.window
    rw [dif_pos (by rw [hk]; simp)]
    have q : ∀ X : Fin 2, X = 0 → ((ix2 a b : (shape2 A U).Idx) X).val = a.val := by rintro X rfl; rfl
    exact q _ (Option.some.inj (by rw [← List.getElem?_eq_getElem, hu, hk]; rfl))
  have h1 : d.window (ix2 a b) 1 = b.val := by
    unfold ScatterDims.window
    rw [dif_pos (by rw [hk]; simp)]
    have q : ∀ X : Fin 2, X = 1 → ((ix2 a b : (shape2 A U).Idx) X).val = b.val := by rintro X rfl; rfl
    exact q _ (Option.some.inj (by rw [← List.getElem?_eq_getElem, hu, hk]; rfl))
  have s0 : d.start (ix2 a b) idx 0 = 0 := by
    unfold ScatterDims.start
    rw [dif_neg (by rw [hs]; simp)]
  have s1 : d.start (ix2 a b) idx 1 = (n : ℤ) := by
    unfold ScatterDims.start
    rw [dif_pos (by rw [hs]; simp), ← hn]
    refine congrArg (fun t => (idx t).toInt) (funext fun c => ?_)
    match c with
    | ⟨0, _⟩ => exact Subsingleton.elim (α := Fin 1) _ _
  rw [resultIdx?_ix2, h0, h1, s0, s1, Fin.ext_iff]
  omega

/-- Columns `n … n + U - 1` set to the block, every other entry the operand's. -/
theorem scatter_block {α : Type} {A N U : ℕ} (d : ScatterDims (shape2 A N) (shape1 1) (shape2 A U)) (hu : d.updateWindowDims = [0, 1])
    (hi : d.insertedWindowDims = []) (hs : d.scatterDimsToOperandDims = [1]) (x : (shape2 A N).Idx → α) (idx : IVec (shape1 1) 32)
    (upd : (shape2 A U).Idx → α) (n : ℕ) (hn : (idx (ix1 0)).toInt = (n : ℤ)) (r : Fin A) (l : Fin N) :
    Host.scatter d (fun _ b => b) x idx upd (ix2 r l)
      = if h : n ≤ l.val ∧ l.val < n + U then upd (ix2 r ⟨l.val - n, by omega⟩) else x (ix2 r l) := by
  have key : ∀ j : (shape2 A U).Idx, d.resultIdx? j idx = some (ix2 r l) → j 0 = r ∧ n + (j 1 : Fin U).val = l.val := fun j hj =>
    (lands_block d hu hi hs idx n hn (j 0) (j 1) r l).1 ((congrArg (fun t => d.resultIdx? t idx) (eq_ix2 j).symm).trans hj)
  split
  · next h =>
    refine scatter_set_hit d x idx upd _ _ (fun j hj => ?_) (ix2 r ⟨l.val - n, by omega⟩)
      ((lands_block d hu hi hs idx n hn _ _ r l).2 ⟨rfl, by show n + (l.val - n) = l.val; omega⟩)
    obtain ⟨e0, e1⟩ := key j hj
    rw [eq_ix2 j]
    have e2 : (j 1 : Fin U) = ⟨l.val - n, by omega⟩ := Fin.ext (by show (j 1 : Fin U).val = l.val - n; omega)
    exact congrArg₂ (fun p q => upd (ix2 p q)) e0 e2
  · next h =>
    refine scatter_set_miss d x idx upd _ fun j hj => h ?_
    obtain ⟨-, e1⟩ := key j hj
    have hb : (j 1 : Fin U).val < U := (j 1).isLt
    omega

end Cert.AttnIdeal.Layer
-- ==== Proof.AttnTables.lean ====
/- The kernel's rotary tables, read at an entry: three planes of a cosine plane (1 off the rotated lanes), a sine plane for the
   upper half of the rotated lanes and a negated sine plane for the lower half, each entry scaled by one constant. -/
module

public import proofs.«01_k».proof.Proof.Gen.AttnIdeal.Frame
public import proofs.«01_k».proof.Proof.AttnScatter
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.AttnIdeal.Layer

open Cert.AttnIdeal Cert.AttnIdeal.Gen

/-- The latent heads' table: lanes 64 … 95 of 128 are rotated, in halves of 16. -/
def tabM (cs sn : FVec Ideal S2048x16 .f32) (p : Fin 3) (s : Fin 2048) (l : Fin 128) : EReal :=
  if p.val = 0 then (if 64 ≤ l.val ∧ l.val < 96 then cs (ix2 s ⟨(l.val - 64) % 16, Nat.mod_lt _ (by decide)⟩) else 1)
  else if p.val = 1 then (if 80 ≤ l.val ∧ l.val < 96 then sn (ix2 s ⟨(l.val - 64) % 16, Nat.mod_lt _ (by decide)⟩) else 0)
  else (if 64 ≤ l.val ∧ l.val < 80 then -sn (ix2 s ⟨(l.val - 64) % 16, Nat.mod_lt _ (by decide)⟩) else 0)

/-- The dilated heads' table: two heads of 64 lanes beside each other, lanes 0 … 15 of each rotated, in halves of 8. -/
def tabD (cs sn : FVec Ideal S2048x8 .f32) (p : Fin 3) (s : Fin 2048) (l : Fin 128) : EReal :=
  if p.val = 0 then (if l.val % 64 < 16 then cs (ix2 s ⟨l.val % 64 % 8, Nat.mod_lt _ (by decide)⟩) else 1)
  else if p.val = 1 then (if 8 ≤ l.val % 64 ∧ l.val % 64 < 16 then sn (ix2 s ⟨l.val % 64 % 8, Nat.mod_lt _ (by decide)⟩) else 0)
  else (if l.val % 64 < 8 then -sn (ix2 s ⟨l.val % 64 % 8, Nat.mod_lt _ (by decide)⟩) else 0)

theorem set16_64 (x : FVec Ideal S2048x128 .f32) (u : FVec Ideal S2048x16 .f32) (r : Fin 2048) (l : Fin 128) :
    Host.scatter scatter_S2048x128_S1_S2048x16_01_n_1_0 (fun _ b => b) x (broadcastInDim S1 ![] bcast_S_S1 (constantI S_ 32 64#32)) u (ix2 r l)
      = if h : 64 ≤ l.val ∧ l.val < 64 + 16 then u (ix2 r ⟨l.val - 64, by omega⟩) else x (ix2 r l) :=
  scatter_block _ rfl rfl rfl x _ u 64 (by rfl) r l
theorem set16_80 (x : FVec Ideal S2048x128 .f32) (u : FVec Ideal S2048x16 .f32) (r : Fin 2048) (l : Fin 128) :
    Host.scatter scatter_S2048x128_S1_S2048x16_01_n_1_0 (fun _ b => b) x (broadcastInDim S1 ![] bcast_S_S1 (constantI S_ 32 80#32)) u (ix2 r l)
      = if h : 80 ≤ l.val ∧ l.val < 80 + 16 then u (ix2 r ⟨l.val - 80, by omega⟩) else x (ix2 r l) :=
  scatter_block _ rfl rfl rfl x _ u 80 (by rfl) r l
theorem set8_0 (x : FVec Ideal S2048x64 .f32) (u : FVec Ideal S2048x8 .f32) (r : Fin 2048) (l : Fin 64) :
    Host.scatter scatter_S2048x64_S1_S2048x8_01_n_1_0 (fun _ b => b) x (broadcastInDim S1 ![] bcast_S_S1 (constantI S_ 32 0#32)) u (ix2 r l)
      = if h : 0 ≤ l.val ∧ l.val < 0 + 8 then u (ix2 r ⟨l.val - 0, by omega⟩) else x (ix2 r l) :=
  scatter_block _ rfl rfl rfl x _ u 0 (by rfl) r l
theorem set8_8 (x : FVec Ideal S2048x64 .f32) (u : FVec Ideal S2048x8 .f32) (r : Fin 2048) (l : Fin 64) :
    Host.scatter scatter_S2048x64_S1_S2048x8_01_n_1_0 (fun _ b => b) x (broadcastInDim S1 ![] bcast_S_S1 (constantI S_ 32 8#32)) u (ix2 r l)
      = if h : 8 ≤ l.val ∧ l.val < 8 + 8 then u (ix2 r ⟨l.val - 8, by omega⟩) else x (ix2 r l) :=
  scatter_block _ rfl rfl rfl x _ u 8 (by rfl) r l

theorem one_bits : (constant S_ FTy.f32 1065353216#32 : FVec Ideal S_ .f32) ix0 = 1 := by
  pointwise

theorem tabM_eq (cs sn : FVec Ideal S2048x16 .f32) (p : Fin 3) (s : Fin 2048) (l : Fin 128) :
    (if h : p.val < 1 then
        Host.scatter scatter_S2048x128_S1_S2048x16_01_n_1_0 (fun x b => b)
          (Host.scatter scatter_S2048x128_S1_S2048x16_01_n_1_0 (fun x b => b)
            (broadcastInDim S2048x128 ![] bcast_S_S2048x128 (constant S_ FTy.f32 1065353216#32))
            (broadcastInDim S1 ![] bcast_S_S1 (constantI S_ 32 64#32)) cs)
          (broadcastInDim S1 ![] bcast_S_S1 (constantI S_ 32 80#32)) cs (ix2 s l)
      else
        if h : p.val - 1 < 1 then
          Host.scatter scatter_S2048x128_S1_S2048x16_01_n_1_0 (fun x b => b)
            (broadcastInDim S2048x128 ![] bcast_S_S2048x128 (constant S_ FTy.f32 0#32))
            (broadcastInDim S1 ![] bcast_S_S1 (constantI S_ 32 80#32)) sn (ix2 s l)
        else
          Host.scatter scatter_S2048x128_S1_S2048x16_01_n_1_0 (fun x b => b)
            (broadcastInDim S2048x128 ![] bcast_S_S2048x128 (constant S_ FTy.f32 0#32))
            (broadcastInDim S1 ![] bcast_S_S1 (constantI S_ 32 64#32)) (Host.negf sn) (ix2 s l))
      = tabM cs sn p s l := by
  unfold tabM
  by_cases h0 : p.val < 1
  · rw [dif_pos h0, if_pos (by omega), set16_80, set16_64]
    split_ifs <;> first | (exfalso; omega) | exact congrArg (fun a => cs (ix2 s a)) (Fin.ext (by dsimp only; omega)) | exact congrArg (fun a => sn (ix2 s a)) (Fin.ext (by dsimp only; omega)) | (pointwise; exact congrArg (fun a => -sn (ix2 s a)) (Fin.ext (by dsimp only; omega))) | pointwise
  by_cases h1 : p.val - 1 < 1
  · rw [dif_neg h0, dif_pos h1, if_neg (by omega), if_pos (by omega), set16_80]
    split_ifs <;> first | (exfalso; omega) | exact congrArg (fun a => cs (ix2 s a)) (Fin.ext (by dsimp only; omega)) | exact congrArg (fun a => sn (ix2 s a)) (Fin.ext (by dsimp only; omega)) | (pointwise; exact congrArg (fun a => -sn (ix2 s a)) (Fin.ext (by dsimp only; omega))) | pointwise
  · rw [dif_neg h0, dif_neg h1, if_neg (by omega), if_neg (by omega), set16_64]
    split_ifs <;> first | (exfalso; omega) | exact congrArg (fun a => cs (ix2 s a)) (Fin.ext (by dsimp only; omega)) | exact congrArg (fun a => sn (ix2 s a)) (Fin.ext (by dsimp only; omega)) | (pointwise; exact congrArg (fun a => -sn (ix2 s a)) (Fin.ext (by dsimp only; omega))) | pointwise

theorem tabD_eq (cs sn : FVec Ideal S2048x8 .f32) (p : Fin 3) (s : Fin 2048) (l : Fin 128) :
    (if h : p.val < 1 then
        Host.scatter scatter_S2048x64_S1_S2048x8_01_n_1_0 (fun x b => b)
          (Host.scatter scatter_S2048x64_S1_S2048x8_01_n_1_0 (fun x b => b)
            (broadcastInDim S2048x64 ![] bcast_S_S2048x64 (constant S_ FTy.f32 1065353216#32))
            (broadcastInDim S1 ![] bcast_S_S1 (constantI S_ 32 0#32)) cs)
          (broadcastInDim S1 ![] bcast_S_S1 (constantI S_ 32 8#32)) cs (ix2 s ⟨l.val % 64, Nat.mod_lt _ (by decide)⟩)
      else
        if h : p.val - 1 < 1 then
          Host.scatter scatter_S2048x64_S1_S2048x8_01_n_1_0 (fun x b => b)
            (broadcastInDim S2048x64 ![] bcast_S_S2048x64 (constant S_ FTy.f32 0#32))
            (broadcastInDim S1 ![] bcast_S_S1 (constantI S_ 32 8#32)) sn (ix2 s ⟨l.val % 64, Nat.mod_lt _ (by decide)⟩)
        else
          Host.scatter scatter_S2048x64_S1_S2048x8_01_n_1_0 (fun x b => b)
            (broadcastInDim S2048x64 ![] bcast_S_S2048x64 (constant S_ FTy.f32 0#32))
            (broadcastInDim S1 ![] bcast_S_S1 (constantI S_ 32 0#32)) (Host.negf sn) (ix2 s ⟨l.val % 64, Nat.mod_lt _ (by decide)⟩))
      = tabD cs sn p s l := by
  obtain ⟨u, hu⟩ : ∃ u : Fin 64, u = ⟨l.val % 64, Nat.mod_lt _ (by decide)⟩ := ⟨_, rfl⟩
  have hv : u.val = l.val % 64 := by rw [hu]
  rw [← hu]
  unfold tabD
  by_cases h0 : p.val < 1
  · rw [dif_pos h0, if_pos (by omega), set8_8, set8_0]
    split_ifs <;> first | (exfalso; omega) | exact congrArg (fun a => cs (ix2 s a)) (Fin.ext (by dsimp only; omega)) | exact congrArg (fun a => sn (ix2 s a)) (Fin.ext (by dsimp only; omega)) | (pointwise; exact congrArg (fun a => -sn (ix2 s a)) (Fin.ext (by dsimp only; omega))) | pointwise
  by_cases h1 : p.val - 1 < 1
  · rw [dif_neg h0, dif_pos h1, if_neg (by omega), if_pos (by omega), set8_8]
    split_ifs <;> first | (exfalso; omega) | exact congrArg (fun a => cs (ix2 s a)) (Fin.ext (by dsimp only; omega)) | exact congrArg (fun a => sn (ix2 s a)) (Fin.ext (by dsimp only; omega)) | (pointwise; exact congrArg (fun a => -sn (ix2 s a)) (Fin.ext (by dsimp only; omega))) | pointwise
  · rw [dif_neg h0, dif_neg h1, if_neg (by omega), if_neg (by omega), set8_0]
    split_ifs <;> first | (exfalso; omega) | exact congrArg (fun a => cs (ix2 s a)) (Fin.ext (by dsimp only; omega)) | exact congrArg (fun a => sn (ix2 s a)) (Fin.ext (by dsimp only; omega)) | (pointwise; exact congrArg (fun a => -sn (ix2 s a)) (Fin.ext (by dsimp only; omega))) | pointwise

variable (m : (ℓ : Loc nD τ sig) → Buf (Elt Ideal) ℓ) (ρ : Dev nD → PrngReg)

set_option maxHeartbeats 4000000 in
theorem tmq_at (c : Dev nD) (p : Fin 3) (s : Fin 2048) (l : Fin 128) :
    (show FVec Ideal S3x2048x128 .f32 from W1 m ρ c (Proc.devRef .tc main_v38)) (ix3 p s l)
      = tabM (W1 m ρ c (Proc.devRef .tc main_v16)) (W1 m ρ c (Proc.devRef .tc main_v17)) p s l * Ideal.ofBits .f32 0x3DD105EC#32 := by
  unfold W1
  after_reads_simp
  dsimp only [Matrix.cons_val_zero, Matrix.cons_val_one, Matrix.cons_val]
  pointwise
  after_reads_simp
  pointwise
  generalize Host.cos (F := Ideal) _ = cs
  generalize Host.sin (F := Ideal) _ = sn
  exact congrArg (fun z => z * Ideal.ofBits .f32 0x3DD105EC#32) (tabM_eq cs sn p s l)

set_option maxHeartbeats 4000000 in
theorem tmk_at (c : Dev nD) (p : Fin 3) (s : Fin 2048) (l : Fin 128) :
    (show FVec Ideal S3x2048x128 .f32 from W1 m ρ c (Proc.devRef .tc main_v77)) (ix3 p s l)
      = tabM (W1 m ρ c (Proc.devRef .tc main_v55)) (W1 m ρ c (Proc.devRef .tc main_v56)) p s l := by
  unfold W1
  after_reads_simp
  dsimp only [Matrix.cons_val_zero, Matrix.cons_val_one, Matrix.cons_val]
  pointwise
  after_reads_simp
  pointwise
  generalize Host.cos (F := Ideal) _ = cs
  generalize Host.sin (F := Ideal) _ = sn
  exact tabM_eq cs sn p s l

set_option maxHeartbeats 4000000 in
theorem tdq_at (c : Dev nD) (p : Fin 3) (s : Fin 2048) (l : Fin 128) :
    (show FVec Ideal S3x2048x128 .f32 from W1 m ρ c (Proc.devRef .tc main_v116)) (ix3 p s l)
      = tabD (W1 m ρ c (Proc.devRef .tc main_v94)) (W1 m ρ c (Proc.devRef .tc main_v95)) p s l * Ideal.ofBits .f32 0x3E000000#32 := by
  unfold W1
  after_reads_simp
  dsimp only [Matrix.cons_val_zero, Matrix.cons_val_one, Matrix.cons_val]
  pointwise
  after_reads_simp
  pointwise
  generalize Host.cos (F := Ideal) _ = cs
  generalize Host.sin (F := Ideal) _ = sn
  exact congrArg (fun z => z * Ideal.ofBits .f32 0x3E000000#32) (tabD_eq cs sn p s l)

set_option maxHeartbeats 4000000 in
theorem tdk_at (c : Dev nD) (p : Fin 3) (s : Fin 2048) (l : Fin 128) :
    (show FVec Ideal S3x2048x128 .f32 from W1 m ρ c (Proc.devRef .tc main_v155)) (ix3 p s l)
      = tabD (W1 m ρ c (Proc.devRef .tc main_v133)) (W1 m ρ c (Proc.devRef .tc main_v134)) p s l := by
  unfold W1
  after_reads_simp
  dsimp only [Matrix.cons_val_zero, Matrix.cons_val_one, Matrix.cons_val]
  pointwise
  after_reads_simp
  pointwise
  generalize Host.cos (F := Ideal) _ = cs
  generalize Host.sin (F := Ideal) _ = sn
  exact tabD_eq cs sn p s l

theorem cosM_eq (c : Dev nD) : W1 m ρ c (Proc.devRef .tc main_v55) = W1 m ρ c (Proc.devRef .tc main_v16) := by
  unfold W1
  after_reads_simp
theorem sinM_eq (c : Dev nD) : W1 m ρ c (Proc.devRef .tc main_v56) = W1 m ρ c (Proc.devRef .tc main_v17) := by
  unfold W1
  after_reads_simp
theorem cosD_eq (c : Dev nD) : W1 m ρ c (Proc.devRef .tc main_v133) = W1 m ρ c (Proc.devRef .tc main_v94) := by
  unfold W1
  after_reads_simp
theorem sinD_eq (c : Dev nD) : W1 m ρ c (Proc.devRef .tc main_v134) = W1 m ρ c (Proc.devRef .tc main_v95) := by
  unfold W1
  after_reads_simp

end Cert.AttnIdeal.Layer
end
-- ==== Proof.AttnStage.lean ====
/- The first kernel's stages against the reference's: on one block of 512 rows (batch `b`, row `s r`) the fused projection holds
   the reference's projection, its two latent vectors and the head tensors, zero on the padding lanes. -/
module

public import proofs.«01_k».proof.Proof.AttnTables
public import proofs.«01_k».proof.Proof.Gen.AttnRefIdeal.Read

@[expose] public section

set_option maxRecDepth 16384

noncomputable section

open Idealize.ShloMosaic Idealize.ShloMosaic.TcCoe Idealize.SL.Sem

namespace Cert.AttnIdeal.Layer

open Cert.AttnIdeal Cert.AttnIdeal.Gen
open Cert.AttnRefIdeal.Read

section
variable {A0 : FVec Ideal S8x2048x1024 .f32} {A1 : FVec Ideal S1x1024 .f32} {A2 : FVec Ideal S1x1024x2208 .f32}
  {A3 : FVec Ideal S1x384 .f32} {A4 : FVec Ideal S1x384x768 .f32} {A5 : FVec Ideal S1x256 .f32} {A6 : FVec Ideal S1x256x1024 .f32}
  {v0 : Vec Ideal S512x1024 .f32} {v2 : Vec Ideal S1x1024 .f32} {v17 : Vec Ideal S1024x2304 .bf16} {v26 : Vec Ideal S1x384 .f32}
  {v41 : Vec Ideal S384x1024 .bf16} {v44 : Vec Ideal S1x256 .f32} {v59 : Vec Ideal S256x1024 .bf16} {v62 : Vec Ideal S256x512 .bf16}
  {b : Fin 8} {s : Fin 512 → Fin 2048}

/-- The padded projection weight, entry by entry. -/
def winAt (A2 : FVec Ideal S1x1024x2208 .f32) (k : Fin 1024) (l : Fin 2304) : EReal :=
  if h : l.val < 640 then A2 (ix3 0 k ⟨l.val, by omega⟩) else if h : l.val < 704 then 0
  else if h : l.val < 736 then A2 (ix3 0 k ⟨l.val - 64, by omega⟩) else if h : l.val < 768 then 0
  else A2 (ix3 0 k ⟨l.val - 96, by omega⟩)

/-- The reference's projection, read with the kernel's padding lanes. -/
def projAt (A0 : FVec Ideal S8x2048x1024 .f32) (A1 : FVec Ideal S1x1024 .f32) (A2 : FVec Ideal S1x1024x2208 .f32)
    (b : Fin 8) (t : Fin 2048) (l : Fin 2304) : EReal :=
  if h : l.val < 640 then val_main_v51 (F := Ideal) A0 A1 A2 (ix3 b t ⟨l.val, by omega⟩) else if h : l.val < 704 then 0
  else if h : l.val < 736 then val_main_v51 (F := Ideal) A0 A1 A2 (ix3 b t ⟨l.val - 64, by omega⟩) else if h : l.val < 768 then 0
  else val_main_v51 (F := Ideal) A0 A1 A2 (ix3 b t ⟨l.val - 96, by omega⟩)

theorem v49_at (t : Fin 2048) (k : Fin 1024) :
    val_main_v49 (F := Ideal) A0 A1 (ix3 b t k)
      = A0 (ix3 b t k) * Ideal.rsqrt (Ideal.div (∑ j : Fin 1024, A0 (ix3 b t j) * A0 (ix3 b t j)) (Ideal.ofBits .f32 0x44800000#32) + Ideal.ofBits .f32 0x358637BD#32) * A1 (ix2 0 k) := by
  pointwise [val_main_v49, val_main_v48, val_main_v47, val_main_v46, val_main_v45, val_main_v44, val_main_v43, val_main_v42, val_main_v41, val_main_v40, val_main_v39, val_main_v38, val_main_v37, val_main_v36, val_main_cst_7, val_main_cst_8, val_main_cst_9]

theorem v51_at (t : Fin 2048) (l : Fin 2208) :
    val_main_v51 (F := Ideal) A0 A1 A2 (ix3 b t l) = ∑ k : Fin 1024, val_main_v49 (F := Ideal) A0 A1 (ix3 b t k) * A2 (ix3 0 k l) := by
  pointwise [val_main_v51, val_main_v50]

theorem proj_at (h0 : ∀ r k, v0 (ix2 r k) = A0 (ix3 b (s r) k)) (h1 : ∀ k, v2 (ix2 0 k) = A1 (ix2 0 k))
    (h2 : ∀ k l, v17 (ix2 k l) = winAt A2 k l) (r : Fin 512) (l : Fin 2304) :
    k0_pay2 (F := Ideal) v0 v2 v17 (ix2 r l) = projAt A0 A1 A2 b (s r) l := by
  have e : k0_pay2 (F := Ideal) v0 v2 v17 (ix2 r l) = ∑ k : Fin 1024, val_main_v49 (F := Ideal) A0 A1 (ix3 b (s r) k) * winAt A2 k l := by
    simp only [v49_at]
    pointwise [k0_pay2]
    simp only [h0, h1, h2]
  rw [e]
  unfold projAt winAt
  simp only [v51_at]
  split_ifs <;> first | rfl | simp only [mul_zero, Finset.sum_const_zero]

theorem v71_at (t : Fin 2048) (k : Fin 384) :
    val_main_v71 (F := Ideal) A0 A1 A2 A3 (ix3 b t k)
      = val_main_v51 (F := Ideal) A0 A1 A2 (ix3 b t ⟨k.val, by omega⟩) * Ideal.rsqrt (Ideal.div (∑ j : Fin 384, val_main_v51 (F := Ideal) A0 A1 A2 (ix3 b t ⟨j.val, by omega⟩) * val_main_v51 (F := Ideal) A0 A1 A2 (ix3 b t ⟨j.val, by omega⟩)) (Ideal.ofBits .f32 0x43C00000#32) + Ideal.ofBits .f32 0x358637BD#32) * A3 (ix2 0 k) := by
  pointwise [val_main_v71, val_main_v70, val_main_v69, val_main_v68, val_main_v67, val_main_v66, val_main_v65, val_main_v64, val_main_v63, val_main_v62, val_main_v61, val_main_v60, val_main_v59, val_main_v58, val_main_v52, val_main_cst_10, val_main_cst_11, val_main_cst_12]

theorem v110_at (t : Fin 2048) (k : Fin 256) :
    val_main_v110 (F := Ideal) A0 A1 A2 A5 (ix3 b t k)
      = val_main_v51 (F := Ideal) A0 A1 A2 (ix3 b t ⟨384 + k.val, by omega⟩) * Ideal.rsqrt (Ideal.div (∑ j : Fin 256, val_main_v51 (F := Ideal) A0 A1 A2 (ix3 b t ⟨384 + j.val, by omega⟩) * val_main_v51 (F := Ideal) A0 A1 A2 (ix3 b t ⟨384 + j.val, by omega⟩)) (Ideal.ofBits .f32 0x43800000#32) + Ideal.ofBits .f32 0x358637BD#32) * A5 (ix2 0 k) := by
  pointwise [val_main_v110, val_main_v109, val_main_v108, val_main_v107, val_main_v106, val_main_v105, val_main_v104, val_main_v103, val_main_v102, val_main_v101, val_main_v100, val_main_v99, val_main_v98, val_main_v97, val_main_v53, val_main_cst_13, val_main_cst_14, val_main_cst_15]

theorem cq_at (h0 : ∀ r k, v0 (ix2 r k) = A0 (ix3 b (s r) k)) (h1 : ∀ k, v2 (ix2 0 k) = A1 (ix2 0 k))
    (h2 : ∀ k l, v17 (ix2 k l) = winAt A2 k l) (h3 : ∀ k, v26 (ix2 0 k) = A3 (ix2 0 k)) (r : Fin 512) (k : Fin 384) :
    k0_pay8 (F := Ideal) v0 v2 v17 v26 (ix2 r k) = val_main_v71 (F := Ideal) A0 A1 A2 A3 (ix3 b (s r) k) := by
  rw [v71_at]
  pointwise [k0_pay8]
  have hp : ∀ j : Fin 384, k0_pay2 (F := Ideal) v0 v2 v17 (ix2 r ⟨j.val, by omega⟩) = val_main_v51 (F := Ideal) A0 A1 A2 (ix3 b (s r) ⟨j.val, by omega⟩) := fun j => by
    rw [proj_at h0 h1 h2]; unfold projAt; rw [dif_pos (show j.val < 640 by omega)]
  simp only [hp, h3]

theorem ckv_at (h0 : ∀ r k, v0 (ix2 r k) = A0 (ix3 b (s r) k)) (h1 : ∀ k, v2 (ix2 0 k) = A1 (ix2 0 k))
    (h2 : ∀ k l, v17 (ix2 k l) = winAt A2 k l) (h5 : ∀ k, v44 (ix2 0 k) = A5 (ix2 0 k)) (r : Fin 512) (k : Fin 256) :
    k0_pay10 (F := Ideal) (k0_pay3 v0 v2 v17) v44 (ix2 r k) = val_main_v110 (F := Ideal) A0 A1 A2 A5 (ix3 b (s r) k) := by
  rw [v110_at]
  pointwise [k0_pay10, k0_pay3]
  have hp : ∀ j : Fin 256, k0_pay2 (F := Ideal) v0 v2 v17 (ix2 r ⟨384 + j.val, by omega⟩) = val_main_v51 (F := Ideal) A0 A1 A2 (ix3 b (s r) ⟨384 + j.val, by omega⟩) := fun j => by
    rw [proj_at h0 h1 h2]; unfold projAt; rw [dif_pos (show (⟨384 + j.val, by omega⟩ : Fin 2304).val < 640 by dsimp only; omega)]
  simp only [hp, h5]

theorem v74_at (t : Fin 2048) (h : Fin 8) (d : Fin 96) :
    val_main_v74 (F := Ideal) A0 A1 A2 A3 A4 (ix4 b t h d)
      = ∑ k : Fin 384, val_main_v71 (F := Ideal) A0 A1 A2 A3 (ix3 b t k) * A4 (ix3 0 k ⟨h.val * 96 + d.val, by omega⟩) := by
  pointwise [val_main_v74, val_main_v73, val_main_v72]
theorem v113_at (t : Fin 2048) (h : Fin 8) (d : Fin 128) :
    val_main_v113 (F := Ideal) A0 A1 A2 A5 A6 (ix4 b t h d)
      = ∑ k : Fin 256, val_main_v110 (F := Ideal) A0 A1 A2 A5 (ix3 b t k) * A6 (ix3 0 k ⟨h.val * 128 + d.val, by omega⟩) := by
  pointwise [val_main_v113, val_main_v112, val_main_v111]

/-- The queries: 96 lanes of each head, zero on the other 32. -/
theorem q_at (h0 : ∀ r k, v0 (ix2 r k) = A0 (ix3 b (s r) k)) (h1 : ∀ k, v2 (ix2 0 k) = A1 (ix2 0 k))
    (h2 : ∀ k l, v17 (ix2 k l) = winAt A2 k l) (h3 : ∀ k, v26 (ix2 0 k) = A3 (ix2 0 k))
    (h4 : ∀ k (h : Fin 8) (d : Fin 128), v41 (ix2 k ⟨h.val * 128 + d.val, by omega⟩) = if e : d.val < 96 then A4 (ix3 0 k ⟨h.val * 96 + d.val, by omega⟩) else 0)
    (r : Fin 512) (h : Fin 8) (d : Fin 128) :
    k0_pay9 (F := Ideal) (k0_pay8 v0 v2 v17 v26) v41 (ix2 r ⟨h.val * 128 + d.val, by omega⟩)
      = if e : d.val < 96 then val_main_v74 (F := Ideal) A0 A1 A2 A3 A4 (ix4 b (s r) h ⟨d.val, e⟩) else 0 := by
  have e : k0_pay9 (F := Ideal) (k0_pay8 v0 v2 v17 v26) v41 (ix2 r ⟨h.val * 128 + d.val, by omega⟩)
      = ∑ k : Fin 384, k0_pay8 (F := Ideal) v0 v2 v17 v26 (ix2 r k) * v41 (ix2 k ⟨h.val * 128 + d.val, by omega⟩) := by
    pointwise [k0_pay9]
  rw [e]
  simp only [cq_at h0 h1 h2 h3, h4, v74_at]
  split_ifs <;> first | rfl | simp only [mul_zero, Finset.sum_const_zero]

/-- The keys without position: 64 lanes of each head, zero on the other 64. -/
theorem kn_at (h0 : ∀ r k, v0 (ix2 r k) = A0 (ix3 b (s r) k)) (h1 : ∀ k, v2 (ix2 0 k) = A1 (ix2 0 k))
    (h2 : ∀ k l, v17 (ix2 k l) = winAt A2 k l) (h5 : ∀ k, v44 (ix2 0 k) = A5 (ix2 0 k))
    (h6 : ∀ k (h : Fin 8) (d : Fin 128), v59 (ix2 k ⟨h.val * 128 + d.val, by omega⟩) = if e : d.val < 64 then A6 (ix3 0 k ⟨h.val * 128 + d.val, by omega⟩) else 0)
    (r : Fin 512) (h : Fin 8) (d : Fin 128) :
    k0_pay11 (F := Ideal) (k0_pay3 v0 v2 v17) v44 v59 (ix2 r ⟨h.val * 128 + d.val, by omega⟩)
      = if e : d.val < 64 then val_main_v113 (F := Ideal) A0 A1 A2 A5 A6 (ix4 b (s r) h d) else 0 := by
  have e : k0_pay11 (F := Ideal) (k0_pay3 v0 v2 v17) v44 v59 (ix2 r ⟨h.val * 128 + d.val, by omega⟩)
      = ∑ k : Fin 256, k0_pay10 (F := Ideal) (k0_pay3 v0 v2 v17) v44 (ix2 r k) * v59 (ix2 k ⟨h.val * 128 + d.val, by omega⟩) := by
    pointwise [k0_pay11]
  rw [e]
  simp only [ckv_at h0 h1 h2 h5, h6, v113_at]
  split_ifs <;> first | rfl | simp only [mul_zero, Finset.sum_const_zero]

/-- The values: the upper 64 lanes of each head of the second latent projection. -/
theorem vm_at (h0 : ∀ r k, v0 (ix2 r k) = A0 (ix3 b (s r) k)) (h1 : ∀ k, v2 (ix2 0 k) = A1 (ix2 0 k))
    (h2 : ∀ k l, v17 (ix2 k l) = winAt A2 k l) (h5 : ∀ k, v44 (ix2 0 k) = A5 (ix2 0 k))
    (h7 : ∀ k (h : Fin 8) (d : Fin 64), v62 (ix2 k ⟨h.val * 64 + d.val, by omega⟩) = A6 (ix3 0 k ⟨h.val * 128 + (64 + d.val), by omega⟩))
    (r : Fin 512) (h : Fin 8) (d : Fin 64) :
    k0_pay12 (F := Ideal) (k0_pay3 v0 v2 v17) v44 v62 (ix2 r ⟨h.val * 64 + d.val, by omega⟩)
      = val_main_v113 (F := Ideal) A0 A1 A2 A5 A6 (ix4 b (s r) h ⟨64 + d.val, by omega⟩) := by
  have e : k0_pay12 (F := Ideal) (k0_pay3 v0 v2 v17) v44 v62 (ix2 r ⟨h.val * 64 + d.val, by omega⟩)
      = ∑ k : Fin 256, k0_pay10 (F := Ideal) (k0_pay3 v0 v2 v17) v44 (ix2 r k) * v62 (ix2 k ⟨h.val * 64 + d.val, by omega⟩) := by
    pointwise [k0_pay12]
  rw [e]
  simp only [ckv_at h0 h1 h2 h5, h7, v113_at]

end
end Cert.AttnIdeal.Layer
end
-- ==== Proof.AttnRope.lean ====
/- The rotary embedding: the kernel's three-table form over 128 lanes against the reference's halves form. -/
module

public import Idealize.ShloMosaic.Lib.Pipeline.ValueKit
public import proofs.«01_k».proof.Proof.AttnStage
public import proofs.«01_k».proof.Proof.AttnMath

@[expose] public section

set_option maxRecDepth 16384

noncomputable section

open Idealize.ShloMosaic Idealize.ShloMosaic.TcCoe Idealize.SL.Sem

namespace Cert.AttnIdeal.Layer

open Cert.AttnIdeal Cert.AttnIdeal.Gen
open Cert.AttnRefIdeal.Read

/-- Lanes 64 … 95 rotated in halves of 16, the others kept. -/
def rotM (cs sn : FVec Ideal S2048x16 .f32) (t : Fin 2048) (z : Fin 128 → EReal) (l : Fin 128) : EReal :=
  if h : 64 ≤ l.val ∧ l.val < 80 then z l * cs (ix2 t ⟨l.val - 64, by omega⟩) - z ⟨l.val + 16, by omega⟩ * sn (ix2 t ⟨l.val - 64, by omega⟩)
  else if h : 80 ≤ l.val ∧ l.val < 96 then z l * cs (ix2 t ⟨l.val - 80, by omega⟩) + z ⟨l.val - 16, by omega⟩ * sn (ix2 t ⟨l.val - 80, by omega⟩)
  else z l

/-- Lanes 0 … 15 of each of the two 64-lane heads rotated in halves of 8, the others kept. -/
def rotD (cs sn : FVec Ideal S2048x8 .f32) (t : Fin 2048) (z : Fin 128 → EReal) (l : Fin 128) : EReal :=
  if h : l.val % 64 < 8 then z l * cs (ix2 t ⟨l.val % 64, by omega⟩) - z ⟨l.val + 8, by omega⟩ * sn (ix2 t ⟨l.val % 64, by omega⟩)
  else if h : l.val % 64 < 16 then z l * cs (ix2 t ⟨l.val % 64 - 8, by omega⟩) + z ⟨l.val - 8, by omega⟩ * sn (ix2 t ⟨l.val % 64 - 8, by omega⟩)
  else z l

theorem tab_low (x y a b K : EReal) {k : ℝ} (hk : 0 ≤ k) (e : K = (k : EReal)) (w : EReal) :
    x * (a * K) + w * (0 * K) + y * (-b * K) = (x * a - y * b) * K := by
  subst e
  rw [zero_mul, mul_zero, add_zero, sub_eq_add_neg, add_mul_coe _ _ hk, mul_assoc, ← neg_mul_eq_neg_mul, mul_neg, ← neg_mul_eq_neg_mul, mul_assoc]
theorem tab_high (x y a b K : EReal) {k : ℝ} (hk : 0 ≤ k) (e : K = (k : EReal)) (w : EReal) :
    x * (a * K) + y * (b * K) + w * (0 * K) = (x * a + y * b) * K := by
  subst e
  rw [zero_mul, mul_zero, add_zero, add_mul_coe _ _ hk, mul_assoc, mul_assoc]
theorem tab_off (x w y K : EReal) : x * (1 * K) + w * (0 * K) + y * (0 * K) = x * K := by
  rw [zero_mul, mul_zero, mul_zero, add_zero, add_zero, one_mul]

theorem rotM_eq (cs sn : FVec Ideal S2048x16 .f32) (t : Fin 2048) (z : Fin 128 → EReal) (K : EReal) {k : ℝ} (hk : 0 ≤ k) (e : K = (k : EReal)) (l : Fin 128) :
    z l * (tabM cs sn 0 t l * K) + z ⟨(l.val + 128 - 16) % 128, Nat.mod_lt _ (by decide)⟩ * (tabM cs sn 1 t l * K)
        + z ⟨(l.val + 128 - 112) % 128, Nat.mod_lt _ (by decide)⟩ * (tabM cs sn 2 t l * K)
      = rotM cs sn t z l * K := by
  have t0 : tabM cs sn 0 t l = if 64 ≤ l.val ∧ l.val < 96 then cs (ix2 t ⟨(l.val - 64) % 16, Nat.mod_lt _ (by decide)⟩) else 1 := rfl
  have t1 : tabM cs sn 1 t l = if 80 ≤ l.val ∧ l.val < 96 then sn (ix2 t ⟨(l.val - 64) % 16, Nat.mod_lt _ (by decide)⟩) else 0 := rfl
  have t2 : tabM cs sn 2 t l = if 64 ≤ l.val ∧ l.val < 80 then -sn (ix2 t ⟨(l.val - 64) % 16, Nat.mod_lt _ (by decide)⟩) else 0 := rfl
  rw [t0, t1, t2]
  unfold rotM
  by_cases c1 : 64 ≤ l.val ∧ l.val < 80
  · rw [if_pos (by omega), if_neg (by omega), if_pos c1, dif_pos c1, tab_low _ _ _ _ _ hk e]
    have i1 : (⟨(l.val - 64) % 16, Nat.mod_lt _ (by decide)⟩ : Fin 16) = ⟨l.val - 64, by omega⟩ := Fin.ext (by dsimp only <;> omega)
    have i2 : (⟨(l.val + 128 - 112) % 128, Nat.mod_lt _ (by decide)⟩ : Fin 128) = ⟨l.val + 16, by omega⟩ := Fin.ext (by dsimp only <;> omega)
    rw [i1, i2]
  by_cases c2 : 80 ≤ l.val ∧ l.val < 96
  · rw [if_pos (by omega), if_pos c2, if_neg c1, dif_neg c1, dif_pos c2, tab_high _ _ _ _ _ hk e]
    have i1 : (⟨(l.val - 64) % 16, Nat.mod_lt _ (by decide)⟩ : Fin 16) = ⟨l.val - 80, by omega⟩ := Fin.ext (by dsimp only <;> omega)
    have i2 : (⟨(l.val + 128 - 16) % 128, Nat.mod_lt _ (by decide)⟩ : Fin 128) = ⟨l.val - 16, by omega⟩ := Fin.ext (by dsimp only <;> omega)
    rw [i1, i2]
  · rw [if_neg (by omega), if_neg c2, if_neg c1, dif_neg c1, dif_neg c2, tab_off]

theorem rotD_eq (cs sn : FVec Ideal S2048x8 .f32) (t : Fin 2048) (z : Fin 128 → EReal) (K : EReal) {k : ℝ} (hk : 0 ≤ k) (e : K = (k : EReal)) (l : Fin 128) :
    z l * (tabD cs sn 0 t l * K) + z ⟨(l.val + 128 - 8) % 128, Nat.mod_lt _ (by decide)⟩ * (tabD cs sn 1 t l * K)
        + z ⟨(l.val + 128 - 120) % 128, Nat.mod_lt _ (by decide)⟩ * (tabD cs sn 2 t l * K)
      = rotD cs sn t z l * K := by
  have t0 : tabD cs sn 0 t l = if l.val % 64 < 16 then cs (ix2 t ⟨l.val % 64 % 8, Nat.mod_lt _ (by decide)⟩) else 1 := rfl
  have t1 : tabD cs sn 1 t l = if 8 ≤ l.val % 64 ∧ l.val % 64 < 16 then sn (ix2 t ⟨l.val % 64 % 8, Nat.mod_lt _ (by decide)⟩) else 0 := rfl
  have t2 : tabD cs sn 2 t l = if l.val % 64 < 8 then -sn (ix2 t ⟨l.val % 64 % 8, Nat.mod_lt _ (by decide)⟩) else 0 := rfl
  rw [t0, t1, t2]
  unfold rotD
  by_cases c1 : l.val % 64 < 8
  · rw [if_pos (by omega), if_neg (by omega), if_pos c1, dif_pos c1, tab_low _ _ _ _ _ hk e]
    have i1 : (⟨l.val % 64 % 8, Nat.mod_lt _ (by decide)⟩ : Fin 8) = ⟨l.val % 64, by omega⟩ := Fin.ext (by dsimp only <;> omega)
    have i2 : (⟨(l.val + 128 - 120) % 128, Nat.mod_lt _ (by decide)⟩ : Fin 128) = ⟨l.val + 8, by omega⟩ := Fin.ext (by dsimp only <;> omega)
    rw [i1, i2]
  by_cases c2 : l.val % 64 < 16
  · rw [if_pos (by omega), if_pos (by omega), if_neg c1, dif_neg c1, dif_pos c2, tab_high _ _ _ _ _ hk e]
    have i1 : (⟨l.val % 64 % 8, Nat.mod_lt _ (by decide)⟩ : Fin 8) = ⟨l.val % 64 - 8, by omega⟩ := Fin.ext (by dsimp only <;> omega)
    have i2 : (⟨(l.val + 128 - 8) % 128, Nat.mod_lt _ (by decide)⟩ : Fin 128) = ⟨l.val - 8, by omega⟩ := Fin.ext (by dsimp only <;> omega)
    rw [i1, i2]
  · rw [if_neg (by omega), if_neg (by omega), if_neg c1, dif_neg c1, dif_neg c2, tab_off]

section
variable (A0 : FVec Ideal S8x2048x1024 .f32) (A1 : FVec Ideal S1x1024 .f32) (A2 : FVec Ideal S1x1024x2208 .f32)
  (A3 : FVec Ideal S1x384 .f32) (A4 : FVec Ideal S1x384x768 .f32) (A5 : FVec Ideal S1x256 .f32) (A6 : FVec Ideal S1x256x1024 .f32)

/-- The reference's rotated query lanes. -/
theorem v96_at (b : Fin 8) (t : Fin 2048) (h : Fin 8) (d : Fin 32) :
    val_main_v96 (F := Ideal) A0 A1 A2 A3 A4 (ix4 b t h d)
      = if e : d.val < 16 then val_main_v74 (F := Ideal) A0 A1 A2 A3 A4 (ix4 b t h ⟨64 + d.val, by omega⟩) * val_main_v16 (F := Ideal) (ix2 t ⟨d.val, e⟩)
            - val_main_v74 (F := Ideal) A0 A1 A2 A3 A4 (ix4 b t h ⟨80 + d.val, by omega⟩) * val_main_v17 (F := Ideal) (ix2 t ⟨d.val, e⟩)
        else val_main_v74 (F := Ideal) A0 A1 A2 A3 A4 (ix4 b t h ⟨64 + d.val, by omega⟩) * val_main_v16 (F := Ideal) (ix2 t ⟨d.val - 16, by omega⟩)
            + val_main_v74 (F := Ideal) A0 A1 A2 A3 A4 (ix4 b t h ⟨48 + d.val, by omega⟩) * val_main_v17 (F := Ideal) (ix2 t ⟨d.val - 16, by omega⟩) := by
  pointwise [val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76]
  by_cases e : d.val < 16
  · rw [dif_pos e, dif_pos e]
    refine congrArg₂ (· - ·) rfl (congrArg (· * _) (congrArg _ ?_))
    blk_ext
  · rw [dif_neg e, dif_neg e, dif_pos (by omega)]
    refine congrArg₂ (· + ·) (congrArg (· * _) (congrArg _ ?_)) (congrArg (· * _) (congrArg _ ?_)) <;> blk_ext
/-- The reference's rotated shared key lanes. -/
theorem v133_at (b : Fin 8) (t : Fin 2048) (d : Fin 32) :
    val_main_v133 (F := Ideal) A0 A1 A2 (ix3 b t d)
      = if e : d.val < 16 then val_main_v51 (F := Ideal) A0 A1 A2 (ix3 b t ⟨640 + d.val, by omega⟩) * val_main_v16 (F := Ideal) (ix2 t ⟨d.val, e⟩)
            - val_main_v51 (F := Ideal) A0 A1 A2 (ix3 b t ⟨656 + d.val, by omega⟩) * val_main_v17 (F := Ideal) (ix2 t ⟨d.val, e⟩)
        else val_main_v51 (F := Ideal) A0 A1 A2 (ix3 b t ⟨640 + d.val, by omega⟩) * val_main_v16 (F := Ideal) (ix2 t ⟨d.val - 16, by omega⟩)
            + val_main_v51 (F := Ideal) A0 A1 A2 (ix3 b t ⟨624 + d.val, by omega⟩) * val_main_v17 (F := Ideal) (ix2 t ⟨d.val - 16, by omega⟩) := by
  pointwise [val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v54]
  by_cases e : d.val < 16
  · rw [dif_pos e, dif_pos e]
    refine congrArg₂ (· - ·) rfl (congrArg (· * _) (congrArg _ ?_))
    blk_ext
  · rw [dif_neg e, dif_neg e, dif_pos (by omega)]
    refine congrArg₂ (· + ·) (congrArg (· * _) (congrArg _ ?_)) (congrArg (· * _) (congrArg _ ?_)) <;> blk_ext
/-- The reference's dilated queries, scaled. -/
theorem v176_at (b : Fin 8) (t : Fin 2048) (h : Fin 8) (d : Fin 64) :
    val_main_v176 (F := Ideal) A0 A1 A2 (ix4 b t h d)
      = (if e : d.val < 8 then val_main_v51 (F := Ideal) A0 A1 A2 (ix3 b t ⟨672 + (h.val * 64 + d.val), by omega⟩) * val_main_v34 (F := Ideal) (ix2 t ⟨d.val, e⟩)
            - val_main_v51 (F := Ideal) A0 A1 A2 (ix3 b t ⟨680 + (h.val * 64 + d.val), by omega⟩) * val_main_v35 (F := Ideal) (ix2 t ⟨d.val, e⟩)
        else if e : d.val < 16 then val_main_v51 (F := Ideal) A0 A1 A2 (ix3 b t ⟨672 + (h.val * 64 + d.val), by omega⟩) * val_main_v34 (F := Ideal) (ix2 t ⟨d.val - 8, by omega⟩)
            + val_main_v51 (F := Ideal) A0 A1 A2 (ix3 b t ⟨664 + (h.val * 64 + d.val), by omega⟩) * val_main_v35 (F := Ideal) (ix2 t ⟨d.val - 8, by omega⟩)
        else val_main_v51 (F := Ideal) A0 A1 A2 (ix3 b t ⟨672 + (h.val * 64 + d.val), by omega⟩)) * Ideal.ofBits .f32 0x3E000000#32 := by
  pointwise [val_main_v176, val_main_v175, val_main_cst_20, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v55]
  refine congrArg (· * _) ?_
  by_cases e : d.val < 8
  · rw [dif_pos e, dif_pos e]
    refine congrArg₂ (· - ·) rfl (congrArg (· * _) (congrArg _ ?_))
    blk_ext
  by_cases f : d.val < 16
  · rw [dif_neg e, dif_neg e, dif_pos (by omega), dif_pos f]
    refine congrArg₂ (· + ·) (congrArg (· * _) (congrArg _ ?_)) (congrArg (· * _) (congrArg _ ?_)) <;> blk_ext
  · have e2 : ¬ d.val - 8 < 8 := by omega
    simp only [e, f, e2, ↓reduceDIte]
    refine congrArg _ ?_
    blk_ext
/-- The reference's dilated keys. -/
theorem v197_at (b : Fin 8) (t : Fin 2048) (h : Fin 8) (d : Fin 64) :
    val_main_v197 (F := Ideal) A0 A1 A2 (ix4 b t h d)
      = if e : d.val < 8 then val_main_v51 (F := Ideal) A0 A1 A2 (ix3 b t ⟨1184 + (h.val * 64 + d.val), by omega⟩) * val_main_v34 (F := Ideal) (ix2 t ⟨d.val, e⟩)
            - val_main_v51 (F := Ideal) A0 A1 A2 (ix3 b t ⟨1192 + (h.val * 64 + d.val), by omega⟩) * val_main_v35 (F := Ideal) (ix2 t ⟨d.val, e⟩)
        else if e : d.val < 16 then val_main_v51 (F := Ideal) A0 A1 A2 (ix3 b t ⟨1184 + (h.val * 64 + d.val), by omega⟩) * val_main_v34 (F := Ideal) (ix2 t ⟨d.val - 8, by omega⟩)
            + val_main_v51 (F := Ideal) A0 A1 A2 (ix3 b t ⟨1176 + (h.val * 64 + d.val), by omega⟩) * val_main_v35 (F := Ideal) (ix2 t ⟨d.val - 8, by omega⟩)
        else val_main_v51 (F := Ideal) A0 A1 A2 (ix3 b t ⟨1184 + (h.val * 64 + d.val), by omega⟩) := by
  pointwise [val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v56]
  by_cases e : d.val < 8
  · rw [dif_pos e, dif_pos e]
    refine congrArg₂ (· - ·) rfl (congrArg (· * _) (congrArg _ ?_))
    blk_ext
  by_cases f : d.val < 16
  · rw [dif_neg e, dif_neg e, dif_pos (by omega), dif_pos f]
    have i1 : (⟨1184 + (h.val * 64 + (8 + (d.val - 8))), by omega⟩ : Fin 2208) = ⟨1184 + (h.val * 64 + d.val), by omega⟩ := Fin.ext (by dsimp only <;> omega)
    have i2 : (⟨1184 + (h.val * 64 + (d.val - 8)), by omega⟩ : Fin 2208) = ⟨1176 + (h.val * 64 + d.val), by omega⟩ := Fin.ext (by dsimp only <;> omega)
    rw [i1, i2]
  · have e2 : ¬ d.val - 8 < 8 := by omega
    simp only [e, f, e2, ↓reduceDIte]
    refine congrArg (val_main_v51 (F := Ideal) A0 A1 A2) ?_
    blk_ext

/-- Rotating a query head of 96 lanes (and 32 zero lanes) gives the reference's two query parts. -/
theorem rotQ_at (b : Fin 8) (t : Fin 2048) (h : Fin 8) (l : Fin 128) :
    rotM (val_main_v16 (F := Ideal)) (val_main_v17 (F := Ideal)) t
        (fun l => if e : l.val < 96 then val_main_v74 (F := Ideal) A0 A1 A2 A3 A4 (ix4 b t h ⟨l.val, e⟩) else 0) l
      = if e : l.val < 64 then val_main_v74 (F := Ideal) A0 A1 A2 A3 A4 (ix4 b t h ⟨l.val, by omega⟩)
        else if e : l.val < 96 then val_main_v96 (F := Ideal) A0 A1 A2 A3 A4 (ix4 b t h ⟨l.val - 64, by omega⟩) else 0 := by
  unfold rotM
  dsimp only
  by_cases c : l.val < 64
  · rw [dif_neg (by omega), dif_neg (by omega), dif_pos c, dif_pos (show l.val < 96 by omega)]
  by_cases c1 : l.val < 80
  · rw [dif_pos ⟨by omega, c1⟩, dif_neg c, dif_pos (show l.val < 96 by omega), dif_pos (show l.val + 16 < 96 by omega), dif_pos (show l.val < 96 by omega), v96_at, dif_pos (show l.val - 64 < 16 by omega)]
    refine congrArg₂ (· - ·) (congrArg (· * _) (congrArg _ ?_)) (congrArg (· * _) (congrArg _ ?_)) <;> blk_ext
  by_cases c2 : l.val < 96
  · rw [dif_neg (by omega), dif_pos ⟨by omega, c2⟩, dif_neg c, dif_pos (show l.val < 96 by omega), dif_pos (show l.val - 16 < 96 by omega), dif_pos (show l.val < 96 by omega), v96_at, dif_neg (show ¬ l.val - 64 < 16 by omega)]
    refine congrArg₂ (· + ·) (congrArg₂ (· * ·) (congrArg _ ?_) (congrArg _ ?_)) (congrArg₂ (· * ·) (congrArg _ ?_) (congrArg _ ?_)) <;> blk_ext
  · rw [dif_neg (by omega), dif_neg (by omega), dif_neg c, dif_neg (show ¬ l.val < 96 by omega), dif_neg (show ¬ l.val < 96 by omega)]

/-- Rotating the shared key's 32 lanes gives the reference's rotated shared key. -/
theorem rotK_at (b : Fin 8) (t : Fin 2048) (l : Fin 128) :
    rotM (val_main_v16 (F := Ideal)) (val_main_v17 (F := Ideal)) t
        (fun l => if e : 64 ≤ l.val ∧ l.val < 96 then val_main_v51 (F := Ideal) A0 A1 A2 (ix3 b t ⟨640 + (l.val - 64), by omega⟩) else 0) l
      = if e : 64 ≤ l.val ∧ l.val < 96 then val_main_v133 (F := Ideal) A0 A1 A2 (ix3 b t ⟨l.val - 64, by omega⟩) else 0 := by
  unfold rotM
  dsimp only
  by_cases c1 : 64 ≤ l.val ∧ l.val < 80
  · rw [dif_pos c1, dif_pos (show 64 ≤ l.val ∧ l.val < 96 by omega), dif_pos (show 64 ≤ l.val + 16 ∧ l.val + 16 < 96 by omega), dif_pos (show 64 ≤ l.val ∧ l.val < 96 by omega), v133_at, dif_pos (show l.val - 64 < 16 by omega)]
    refine congrArg₂ (· - ·) (congrArg (· * _) (congrArg _ ?_)) (congrArg (· * _) (congrArg _ ?_)) <;> blk_ext
  by_cases c2 : 80 ≤ l.val ∧ l.val < 96
  · rw [dif_neg c1, dif_pos c2, dif_pos (show 64 ≤ l.val ∧ l.val < 96 by omega), dif_pos (show 64 ≤ l.val - 16 ∧ l.val - 16 < 96 by omega), dif_pos (show 64 ≤ l.val ∧ l.val < 96 by omega), v133_at, dif_neg (show ¬ l.val - 64 < 16 by omega)]
    refine congrArg₂ (· + ·) (congrArg₂ (· * ·) (congrArg _ ?_) (congrArg _ ?_)) (congrArg₂ (· * ·) (congrArg _ ?_) (congrArg _ ?_)) <;> blk_ext
  · rw [dif_neg c1, dif_neg c2, dif_neg (show ¬ (64 ≤ l.val ∧ l.val < 96) by omega), dif_neg (show ¬ (64 ≤ l.val ∧ l.val < 96) by omega)]

/-- Rotating a 128-lane group of two dilated query heads. -/
theorem rotDq_at (b : Fin 8) (t : Fin 2048) (g : Fin 4) (l : Fin 128) :
    rotD (val_main_v34 (F := Ideal)) (val_main_v35 (F := Ideal)) t
        (fun l => val_main_v51 (F := Ideal) A0 A1 A2 (ix3 b t ⟨672 + (g.val * 128 + l.val), by omega⟩)) l * Ideal.ofBits .f32 0x3E000000#32
      = val_main_v176 (F := Ideal) A0 A1 A2 (ix4 b t ⟨g.val * 2 + l.val / 64, by omega⟩ ⟨l.val % 64, by omega⟩) := by
  rw [v176_at]
  refine congrArg (· * _) ?_
  unfold rotD
  dsimp only
  by_cases c1 : l.val % 64 < 8
  · rw [dif_pos c1, dif_pos c1]
    refine congrArg₂ (· - ·) (congrArg (· * _) (congrArg _ ?_)) (congrArg (· * _) (congrArg _ ?_)) <;> blk_ext
  by_cases c2 : l.val % 64 < 16
  · rw [dif_neg c1, dif_neg c1, dif_pos c2, dif_pos c2]
    refine congrArg₂ (· + ·) (congrArg (· * _) (congrArg _ ?_)) (congrArg (· * _) (congrArg _ ?_)) <;> blk_ext
  · rw [dif_neg c1, dif_neg c1, dif_neg c2, dif_neg c2]
    refine congrArg _ ?_
    blk_ext

/-- Rotating a 128-lane group of two dilated key heads. -/
theorem rotDk_at (b : Fin 8) (t : Fin 2048) (g : Fin 4) (l : Fin 128) :
    rotD (val_main_v34 (F := Ideal)) (val_main_v35 (F := Ideal)) t
        (fun l => val_main_v51 (F := Ideal) A0 A1 A2 (ix3 b t ⟨1184 + (g.val * 128 + l.val), by omega⟩)) l
      = val_main_v197 (F := Ideal) A0 A1 A2 (ix4 b t ⟨g.val * 2 + l.val / 64, by omega⟩ ⟨l.val % 64, by omega⟩) := by
  rw [v197_at]
  unfold rotD
  dsimp only
  by_cases c1 : l.val % 64 < 8
  · rw [dif_pos c1, dif_pos c1]
    refine congrArg₂ (· - ·) (congrArg (· * _) (congrArg _ ?_)) (congrArg (· * _) (congrArg _ ?_)) <;> blk_ext
  by_cases c2 : l.val % 64 < 16
  · rw [dif_neg c1, dif_neg c1, dif_pos c2, dif_pos c2]
    refine congrArg₂ (· + ·) (congrArg (· * _) (congrArg _ ?_)) (congrArg (· * _) (congrArg _ ?_)) <;> blk_ext
  · rw [dif_neg c1, dif_neg c1, dif_neg c2, dif_neg c2]
    refine congrArg _ ?_
    blk_ext
end
end Cert.AttnIdeal.Layer
end
-- ==== Proof.AttnProj.lean ====
/- The projection kernel's output blocks, lane tile by lane tile. -/
module

public import proofs.«01_k».proof.Proof.AttnRope

@[expose] public section

set_option maxRecDepth 16384

noncomputable section

open Idealize.ShloMosaic Idealize.ShloMosaic.TcCoe Idealize.SL.Sem

namespace Cert.AttnIdeal.Layer

open Cert.AttnIdeal Cert.AttnIdeal.Gen
open Cert.AttnRefIdeal.Read

theorem ld0 (X : Vec Ideal S512x1024 .f32) : View.ld X r0_0 = X := View.ld_unit_lit _ _ (by decide)
theorem ld1 (X : Vec Ideal S1x1024 .f32) : View.ld X r0_1 = X := View.ld_unit_lit _ _ (by decide)
theorem ld2 (X : Vec Ideal S1024x2304 .bf16) : View.ld X r0_2 = X := View.ld_unit_lit _ _ (by decide)
theorem ld3 (X : Vec Ideal S1x384 .f32) : View.ld X r0_3 = X := View.ld_unit_lit _ _ (by decide)
theorem ld4 (X : Vec Ideal S384x1024 .bf16) : View.ld X r0_4 = X := View.ld_unit_lit _ _ (by decide)
theorem ld5 (X : Vec Ideal S1x256 .f32) : View.ld X r0_5 = X := View.ld_unit_lit _ _ (by decide)
theorem ld6 (X : Vec Ideal S256x1024 .bf16) : View.ld X r0_6 = X := View.ld_unit_lit _ _ (by decide)
theorem ld7 (X : Vec Ideal S256x512 .bf16) : View.ld X r0_7 = X := View.ld_unit_lit _ _ (by decide)

section
variable (x0 : Vec Ideal S512x1024 .f32) (x1 : Vec Ideal S1x1024 .f32) (x2 : Vec Ideal S1024x2304 .bf16) (x3 : Vec Ideal S1x384 .f32)
  (x4 : Vec Ideal S384x1024 .bf16) (x5 : Vec Ideal S1x256 .f32) (x6 : Vec Ideal S256x1024 .bf16) (x7 : Vec Ideal S256x512 .bf16)
  (x8 : Vec Ideal S3x512x128 .f32) (x9 : Vec Ideal S3x512x128 .f32) (x10 : Vec Ideal S3x512x128 .f32) (x11 : Vec Ideal S3x512x128 .f32)

/-- A lane tile of `v` through three tables: itself, itself turned right by `a` lanes, and turned right by `b` lanes. -/
def tile {w : Nat} (v : Fin 512 → Fin w → EReal) (T : Vec Ideal S3x512x128 .f32) (a b : Nat) (r : Fin 512) (o : Nat) (ho : o + 128 ≤ w) (l : Fin 128) : EReal :=
  v r ⟨o + l.val, by omega⟩ * (show FVec Ideal S3x512x128 .f32 from T) (ix3 0 r l)
    + v r ⟨o + (l.val + 128 - a) % 128, by omega⟩ * (show FVec Ideal S3x512x128 .f32 from T) (ix3 1 r l)
    + v r ⟨o + (l.val + 128 - b) % 128, by omega⟩ * (show FVec Ideal S3x512x128 .f32 from T) (ix3 2 r l)

theorem out12_tile (r : Fin 512) (g : Fin 8) (l : Fin 128) :
    (show FVec Ideal S512x1024 .bf16 from out0_12 x0 x1 x2 x3 x4 x5 x6 x7 x8 x9 x10 x11) (ix2 r ⟨g.val * 128 + l.val, by omega⟩)
      = tile (fun r k => k0_pay52 (F := Ideal) x0 x1 x2 x3 x4 x5 x6 x7 x8 x9 x10 x11 (ix2 r k)) x8 16 112 r (g.val * 128) (by omega) l := by
  unfold out0_12 tile
  generalize k0_pay52 (F := Ideal) x0 x1 x2 x3 x4 x5 x6 x7 x8 x9 x10 x11 = v
  dsimp only
  canon_tiles x h
  all_goals
    replace h0 := show r.val = _ from h0
    replace h1 := show g.val * 128 + l.val = _ from h1
    open_payloads
    pointwise
    refine congrArg₂ (· + ·) (congrArg₂ (· + ·) (congrArg₂ (· * ·) (congrArg v ?_) (congrArg x8 ?_)) (congrArg₂ (· * ·) (congrArg v ?_) (congrArg x8 ?_)))
      (congrArg₂ (· * ·) (congrArg v ?_) (congrArg x8 ?_)) <;> blk_ext

theorem out15_tile (r : Fin 512) (g : Fin 4) (l : Fin 128) :
    (show FVec Ideal S512x512 .bf16 from out0_15 x0 x1 x2 x3 x4 x5 x6 x7 x8 x9 x10 x11) (ix2 r ⟨g.val * 128 + l.val, by omega⟩)
      = tile (fun r k => k0_pay50 (F := Ideal) x0 x1 x2 x3 x4 x5 x6 x7 x8 x9 x10 x11 (ix2 r k)) x10 8 120 r (g.val * 128) (by omega) l := by
  unfold out0_15 tile
  generalize k0_pay50 (F := Ideal) x0 x1 x2 x3 x4 x5 x6 x7 x8 x9 x10 x11 = v
  dsimp only
  canon_tiles x h
  all_goals
    replace h0 := show r.val = _ from h0
    replace h1 := show g.val * 128 + l.val = _ from h1
    open_payloads
    pointwise
    refine congrArg₂ (· + ·) (congrArg₂ (· + ·) (congrArg₂ (· * ·) (congrArg v ?_) (congrArg x10 ?_)) (congrArg₂ (· * ·) (congrArg v ?_) (congrArg x10 ?_)))
      (congrArg₂ (· * ·) (congrArg v ?_) (congrArg x10 ?_)) <;> blk_ext

theorem out16_tile (r : Fin 512) (g : Fin 4) (l : Fin 128) :
    (show FVec Ideal S512x512 .bf16 from out0_16 x0 x1 x2 x3 x4 x5 x6 x7 x8 x9 x10 x11) (ix2 r ⟨g.val * 128 + l.val, by omega⟩)
      = tile (fun r k => k0_pay51 (F := Ideal) x0 x1 x2 x3 x4 x5 x6 x7 x8 x9 x10 x11 (ix2 r k)) x11 8 120 r (g.val * 128) (by omega) l := by
  unfold out0_16 tile
  generalize k0_pay51 (F := Ideal) x0 x1 x2 x3 x4 x5 x6 x7 x8 x9 x10 x11 = v
  dsimp only
  canon_tiles x h
  all_goals
    replace h0 := show r.val = _ from h0
    replace h1 := show g.val * 128 + l.val = _ from h1
    open_payloads
    pointwise
    refine congrArg₂ (· + ·) (congrArg₂ (· + ·) (congrArg₂ (· * ·) (congrArg v ?_) (congrArg x11 ?_)) (congrArg₂ (· * ·) (congrArg v ?_) (congrArg x11 ?_)))
      (congrArg₂ (· * ·) (congrArg v ?_) (congrArg x11 ?_)) <;> blk_ext

theorem out13_tile (r : Fin 512) (g : Fin 8) (l : Fin 128) :
    (show FVec Ideal S512x1024 .bf16 from out0_13 x0 x1 x2 x3 x4 x5 x6 x7 x8 x9 x10 x11) (ix2 r ⟨g.val * 128 + l.val, by omega⟩)
      = k0_pay53 (F := Ideal) x0 x1 x2 x3 x4 x5 x6 x7 x8 x9 x10 x11 (ix2 r ⟨g.val * 128 + l.val, by omega⟩)
        + k0_pay56 (F := Ideal) x0 x1 x2 x3 x4 x5 x6 x7 x8 x9 x10 x11 (ix2 r l) := by
  unfold out0_13 k0_pay56
  generalize k0_pay53 (F := Ideal) x0 x1 x2 x3 x4 x5 x6 x7 x8 x9 x10 x11 = v
  generalize k0_pay54 (F := Ideal) x0 x1 x2 x3 x4 x5 x6 x7 x8 x9 x10 x11 = v54
  generalize k0_pay55 (F := Ideal) x0 x1 x2 x3 x4 x5 x6 x7 x8 x9 x10 x11 = v55
  dsimp only
  canon_tiles x h
  all_goals
    replace h0 := show r.val = _ from h0
    replace h1 := show g.val * 128 + l.val = _ from h1
    open_payloads
    pointwise [k0_pay15]
    refine congrArg₂ (· + ·) (congrArg v ?_) (congrArg₂ (· + ·) (congrArg v54 ?_) (congrArg₂ (· * ·) (congrArg v55 ?_) (congrArg x9 ?_))) <;> blk_ext

theorem pay56_tile (r : Fin 512) (l : Fin 128) :
    k0_pay56 (F := Ideal) x0 x1 x2 x3 x4 x5 x6 x7 x8 x9 x10 x11 (ix2 r l)
      = tile (fun r k => k0_pay4 (F := Ideal) x0 x1 x2 (ix2 r k)) x9 16 112 r 0 (by omega) l := by
  unfold k0_pay56 k0_pay55 k0_pay54 tile
  pointwise [k0_pay15, k0_pay14, k0_pay13, k0_pay49]
  rw [ld0, ld1, ld2]

theorem pay52_at (j) : k0_pay52 (F := Ideal) x0 x1 x2 x3 x4 x5 x6 x7 x8 x9 x10 x11 j = k0_pay9 (k0_pay8 x0 x1 x2 x3) x4 j := by
  unfold k0_pay52
  rw [ld0, ld1, ld2, ld3, ld4]
theorem pay53_at (j) : k0_pay53 (F := Ideal) x0 x1 x2 x3 x4 x5 x6 x7 x8 x9 x10 x11 j = k0_pay11 (k0_pay3 x0 x1 x2) x5 x6 j := by
  unfold k0_pay53 k0_pay48
  rw [ld0, ld1, ld2, ld5, ld6]
theorem pay50_at (j) : k0_pay50 (F := Ideal) x0 x1 x2 x3 x4 x5 x6 x7 x8 x9 x10 x11 j = k0_pay5 x0 x1 x2 j := by
  unfold k0_pay50
  rw [ld0, ld1, ld2]
theorem pay51_at (j) : k0_pay51 (F := Ideal) x0 x1 x2 x3 x4 x5 x6 x7 x8 x9 x10 x11 j = k0_pay6 x0 x1 x2 j := by
  unfold k0_pay51
  rw [ld0, ld1, ld2]
theorem out14_at (r : Fin 512) (l : Fin 512) :
    (show FVec Ideal S512x512 .bf16 from out0_14 x0 x1 x2 x3 x4 x5 x6 x7 x8 x9 x10 x11) (ix2 r l)
      = k0_pay12 (F := Ideal) (k0_pay3 x0 x1 x2) x5 x7 (ix2 r l) := by
  unfold out0_14
  canon_tiles x h
  unfold k0_pay48
  rw [ld0, ld1, ld2, ld5, ld7]
  refine congrArg _ ?_
  replace h0 := show r.val = _ from h0
  replace h1 := show l.val = _ from h1
  blk_ext
theorem out17_at (r : Fin 512) (l : Fin 512) :
    (show FVec Ideal S512x512 .bf16 from out0_17 x0 x1 x2 x3 x4 x5 x6 x7 x8 x9 x10 x11) (ix2 r l)
      = k0_pay7 (F := Ideal) x0 x1 x2 (ix2 r l) := by
  unfold out0_17
  canon_tiles x h
  rw [ld0, ld1, ld2]
  pointwise [k0_pay1]
  replace h0 := show r.val = _ from h0
  replace h1 := show l.val = _ from h1
  refine congrArg _ ?_
  blk_ext

end

/-- The shared-key columns of the padded projection. -/
theorem projAt_rope (A0 : FVec Ideal S8x2048x1024 .f32) (A1 : FVec Ideal S1x1024 .f32) (A2 : FVec Ideal S1x1024x2208 .f32) (b : Fin 8) (t : Fin 2048) (d : Fin 128) :
    projAt A0 A1 A2 b t ⟨640 + d.val, by omega⟩
      = if e : 64 ≤ d.val ∧ d.val < 96 then val_main_v51 (F := Ideal) A0 A1 A2 (ix3 b t ⟨640 + (d.val - 64), by omega⟩) else 0 := by
  unfold projAt
  dsimp only
  rw [dif_neg (show ¬ 640 + d.val < 640 by omega)]
  by_cases c : d.val < 64
  · rw [dif_pos (show 640 + d.val < 704 by omega), dif_neg (by omega)]
  rw [dif_neg (show ¬ 640 + d.val < 704 by omega)]
  by_cases c2 : d.val < 96
  · rw [dif_pos (show 640 + d.val < 736 by omega), dif_pos ⟨by omega, c2⟩]
    refine congrArg _ ?_
    blk_ext
  · rw [dif_neg (show ¬ 640 + d.val < 736 by omega), dif_pos (show 640 + d.val < 768 by omega), dif_neg (by omega)]

/-- The columns after the padding. -/
theorem projAt_high (A0 : FVec Ideal S8x2048x1024 .f32) (A1 : FVec Ideal S1x1024 .f32) (A2 : FVec Ideal S1x1024x2208 .f32) (b : Fin 8) (t : Fin 2048) (k : Nat) (hk : k < 1536) :
    projAt A0 A1 A2 b t ⟨768 + k, by omega⟩ = val_main_v51 (F := Ideal) A0 A1 A2 (ix3 b t ⟨672 + k, by omega⟩) := by
  unfold projAt
  dsimp only
  rw [dif_neg (show ¬ 768 + k < 640 by omega), dif_neg (show ¬ 768 + k < 704 by omega), dif_neg (show ¬ 768 + k < 736 by omega), dif_neg (show ¬ 768 + k < 768 by omega)]
  refine congrArg _ ?_
  blk_ext

/-- What the blocks of one grid point hold: the rows `s` of batch `b`, the padded weights and the tables. -/
structure Blk (A0 : FVec Ideal S8x2048x1024 .f32) (A1 : FVec Ideal S1x1024 .f32) (A2 : FVec Ideal S1x1024x2208 .f32)
    (A3 : FVec Ideal S1x384 .f32) (A4 : FVec Ideal S1x384x768 .f32) (A5 : FVec Ideal S1x256 .f32) (A6 : FVec Ideal S1x256x1024 .f32)
    (b : Fin 8) (s : Fin 512 → Fin 2048)
    (x0 : FVec Ideal S512x1024 .f32) (x1 : FVec Ideal S1x1024 .f32) (x2 : FVec Ideal S1024x2304 .bf16) (x3 : FVec Ideal S1x384 .f32)
    (x4 : FVec Ideal S384x1024 .bf16) (x5 : FVec Ideal S1x256 .f32) (x6 : FVec Ideal S256x1024 .bf16) (x7 : FVec Ideal S256x512 .bf16)
    (x8 x9 x10 x11 : FVec Ideal S3x512x128 .f32) : Prop where
  h0 : ∀ r k, x0 (ix2 r k) = A0 (ix3 b (s r) k)
  h1 : ∀ k, x1 (ix2 0 k) = A1 (ix2 0 k)
  h2 : ∀ k l, x2 (ix2 k l) = winAt A2 k l
  h3 : ∀ k, x3 (ix2 0 k) = A3 (ix2 0 k)
  h4 : ∀ k (h : Fin 8) (d : Fin 128), x4 (ix2 k ⟨h.val * 128 + d.val, by omega⟩) = if e : d.val < 96 then A4 (ix3 0 k ⟨h.val * 96 + d.val, by omega⟩) else 0
  h5 : ∀ k, x5 (ix2 0 k) = A5 (ix2 0 k)
  h6 : ∀ k (h : Fin 8) (d : Fin 128), x6 (ix2 k ⟨h.val * 128 + d.val, by omega⟩) = if e : d.val < 64 then A6 (ix3 0 k ⟨h.val * 128 + d.val, by omega⟩) else 0
  h7 : ∀ k (h : Fin 8) (d : Fin 64), x7 (ix2 k ⟨h.val * 64 + d.val, by omega⟩) = A6 (ix3 0 k ⟨h.val * 128 + (64 + d.val), by omega⟩)
  h8 : ∀ p r l, x8 (ix3 p r l) = tabM (val_main_v16 (F := Ideal)) (val_main_v17 (F := Ideal)) p (s r) l * Ideal.ofBits .f32 0x3DD105EC#32
  h9 : ∀ p r l, x9 (ix3 p r l) = tabM (val_main_v16 (F := Ideal)) (val_main_v17 (F := Ideal)) p (s r) l
  h10 : ∀ p r l, x10 (ix3 p r l) = tabD (val_main_v34 (F := Ideal)) (val_main_v35 (F := Ideal)) p (s r) l * Ideal.ofBits .f32 0x3E000000#32
  h11 : ∀ p r l, x11 (ix3 p r l) = tabD (val_main_v34 (F := Ideal)) (val_main_v35 (F := Ideal)) p (s r) l

theorem scaleM : ∃ k : ℝ, 0 ≤ k ∧ Ideal.ofBits .f32 0x3DD105EC#32 = (k : EReal) := by
  refine ⟨_, ?_, by simp [Ideal.ofBits, Ideal.ieee]; rfl⟩
  positivity
theorem scaleD : ∃ k : ℝ, 0 ≤ k ∧ Ideal.ofBits .f32 0x3E000000#32 = (k : EReal) := by
  refine ⟨_, ?_, by simp [Ideal.ofBits, Ideal.ieee]; rfl⟩
  positivity

/-- The scaled query of head `h` on its 128 lanes: 64 plain, 32 rotated, 32 zero. -/
def QM (A0 : FVec Ideal S8x2048x1024 .f32) (A1 : FVec Ideal S1x1024 .f32) (A2 : FVec Ideal S1x1024x2208 .f32) (A3 : FVec Ideal S1x384 .f32) (A4 : FVec Ideal S1x384x768 .f32)
    (b : Fin 8) (t : Fin 2048) (h : Fin 8) (l : Fin 128) : EReal :=
  (if e : l.val < 64 then val_main_v74 (F := Ideal) A0 A1 A2 A3 A4 (ix4 b t h ⟨l.val, by omega⟩)
    else if e : l.val < 96 then val_main_v96 (F := Ideal) A0 A1 A2 A3 A4 (ix4 b t h ⟨l.val - 64, by omega⟩) else 0) * Ideal.ofBits .f32 0x3DD105EC#32
/-- The key of head `h` on its 128 lanes: 64 of its own, 32 shared and rotated, 32 zero. -/
def KM (A0 : FVec Ideal S8x2048x1024 .f32) (A1 : FVec Ideal S1x1024 .f32) (A2 : FVec Ideal S1x1024x2208 .f32) (A5 : FVec Ideal S1x256 .f32) (A6 : FVec Ideal S1x256x1024 .f32)
    (b : Fin 8) (t : Fin 2048) (h : Fin 8) (l : Fin 128) : EReal :=
  if e : l.val < 64 then val_main_v113 (F := Ideal) A0 A1 A2 A5 A6 (ix4 b t h ⟨l.val, by omega⟩)
  else if e : l.val < 96 then val_main_v133 (F := Ideal) A0 A1 A2 (ix3 b t ⟨l.val - 64, by omega⟩) else 0

section
variable {A0 : FVec Ideal S8x2048x1024 .f32} {A1 : FVec Ideal S1x1024 .f32} {A2 : FVec Ideal S1x1024x2208 .f32}
    {A3 : FVec Ideal S1x384 .f32} {A4 : FVec Ideal S1x384x768 .f32} {A5 : FVec Ideal S1x256 .f32} {A6 : FVec Ideal S1x256x1024 .f32}
    {b : Fin 8} {s : Fin 512 → Fin 2048}
    {x0 : Vec Ideal S512x1024 .f32} {x1 : Vec Ideal S1x1024 .f32} {x2 : Vec Ideal S1024x2304 .bf16} {x3 : Vec Ideal S1x384 .f32}
    {x4 : Vec Ideal S384x1024 .bf16} {x5 : Vec Ideal S1x256 .f32} {x6 : Vec Ideal S256x1024 .bf16} {x7 : Vec Ideal S256x512 .bf16}
    {x8 x9 x10 x11 : Vec Ideal S3x512x128 .f32} (B : Blk A0 A1 A2 A3 A4 A5 A6 b s x0 x1 x2 x3 x4 x5 x6 x7 x8 x9 x10 x11)
include B

theorem out12_at (r : Fin 512) (g : Fin 8) (l : Fin 128) :
    (show FVec Ideal S512x1024 .bf16 from out0_12 x0 x1 x2 x3 x4 x5 x6 x7 x8 x9 x10 x11) (ix2 r ⟨g.val * 128 + l.val, by omega⟩)
      = QM A0 A1 A2 A3 A4 b (s r) g l := by
  obtain ⟨k, hk, e⟩ := scaleM
  have hz : ∀ d : Fin 128, k0_pay52 (F := Ideal) x0 x1 x2 x3 x4 x5 x6 x7 x8 x9 x10 x11 (ix2 r ⟨g.val * 128 + d.val, by omega⟩)
      = if e : d.val < 96 then val_main_v74 (F := Ideal) A0 A1 A2 A3 A4 (ix4 b (s r) g ⟨d.val, e⟩) else 0 := fun d =>
    (pay52_at x0 x1 x2 x3 x4 x5 x6 x7 x8 x9 x10 x11 _).trans (q_at B.h0 B.h1 B.h2 B.h3 B.h4 r g d)
  rw [out12_tile]
  unfold QM
  rw [← rotQ_at, ← rotM_eq _ _ _ _ _ hk e]
  unfold tile
  refine congrArg₂ (· + ·) (congrArg₂ (· + ·) (congrArg₂ (· * ·) (hz l) (B.h8 0 r l)) (congrArg₂ (· * ·) (hz ⟨(l.val + 128 - 16) % 128, _⟩) (B.h8 1 r l)))
    (congrArg₂ (· * ·) (hz ⟨(l.val + 128 - 112) % 128, _⟩) (B.h8 2 r l))

theorem out13_at (r : Fin 512) (g : Fin 8) (l : Fin 128) :
    (show FVec Ideal S512x1024 .bf16 from out0_13 x0 x1 x2 x3 x4 x5 x6 x7 x8 x9 x10 x11) (ix2 r ⟨g.val * 128 + l.val, by omega⟩)
      = KM A0 A1 A2 A5 A6 b (s r) g l := by
  have hz : ∀ d : Fin 128, k0_pay4 (F := Ideal) x0 x1 x2 (ix2 r d)
      = if e : 64 ≤ d.val ∧ d.val < 96 then val_main_v51 (F := Ideal) A0 A1 A2 (ix3 b (s r) ⟨640 + (d.val - 64), by omega⟩) else 0 := fun d => by
    pointwise [k0_pay4]
    refine (proj_at B.h0 B.h1 B.h2 r _).trans ?_
    exact projAt_rope A0 A1 A2 b (s r) d
  have hk : k0_pay56 (F := Ideal) x0 x1 x2 x3 x4 x5 x6 x7 x8 x9 x10 x11 (ix2 r l)
      = if e : 64 ≤ l.val ∧ l.val < 96 then val_main_v133 (F := Ideal) A0 A1 A2 (ix3 b (s r) ⟨l.val - 64, by omega⟩) else 0 := by
    rw [pay56_tile, ← rotK_at]
    refine Eq.trans ?_ ((rotM_eq _ _ _ _ 1 (k := 1) (by norm_num) (by norm_num) l).trans (mul_one _))
    unfold tile
    refine congrArg₂ (· + ·) (congrArg₂ (· + ·) (congrArg₂ (· * ·) ((congrArg _ ?_).trans (hz l)) ((B.h9 0 r l).trans (mul_one _).symm))
        (congrArg₂ (· * ·) ((congrArg _ ?_).trans (hz ⟨(l.val + 128 - 16) % 128, Nat.mod_lt _ (by decide)⟩)) ((B.h9 1 r l).trans (mul_one _).symm)))
      (congrArg₂ (· * ·) ((congrArg _ ?_).trans (hz ⟨(l.val + 128 - 112) % 128, Nat.mod_lt _ (by decide)⟩)) ((B.h9 2 r l).trans (mul_one _).symm)) <;> blk_ext
  rw [out13_tile, hk, pay53_at, kn_at B.h0 B.h1 B.h2 B.h5 B.h6]
  unfold KM
  by_cases c : l.val < 64
  · rw [dif_pos c, dif_pos c, dif_neg (by omega), add_zero]
  · rw [dif_neg c, dif_neg c, zero_add]
    by_cases c2 : l.val < 96
    · rw [dif_pos ⟨by omega, c2⟩, dif_pos c2]
    · rw [dif_neg (by omega), dif_neg c2]

theorem out14_val (r : Fin 512) (g : Fin 8) (d : Fin 64) :
    (show FVec Ideal S512x512 .bf16 from out0_14 x0 x1 x2 x3 x4 x5 x6 x7 x8 x9 x10 x11) (ix2 r ⟨g.val * 64 + d.val, by omega⟩)
      = val_main_v113 (F := Ideal) A0 A1 A2 A5 A6 (ix4 b (s r) g ⟨64 + d.val, by omega⟩) :=
  (out14_at x0 x1 x2 x3 x4 x5 x6 x7 x8 x9 x10 x11 r _).trans (vm_at B.h0 B.h1 B.h2 B.h5 B.h7 r g d)

theorem out15_at (r : Fin 512) (g : Fin 4) (l : Fin 128) :
    (show FVec Ideal S512x512 .bf16 from out0_15 x0 x1 x2 x3 x4 x5 x6 x7 x8 x9 x10 x11) (ix2 r ⟨g.val * 128 + l.val, by omega⟩)
      = val_main_v176 (F := Ideal) A0 A1 A2 (ix4 b (s r) ⟨g.val * 2 + l.val / 64, by omega⟩ ⟨l.val % 64, by omega⟩) := by
  obtain ⟨k, hk, e⟩ := scaleD
  have hz : ∀ d : Fin 128, k0_pay50 (F := Ideal) x0 x1 x2 x3 x4 x5 x6 x7 x8 x9 x10 x11 (ix2 r ⟨g.val * 128 + d.val, by omega⟩)
      = val_main_v51 (F := Ideal) A0 A1 A2 (ix3 b (s r) ⟨672 + (g.val * 128 + d.val), by omega⟩) := fun d => by
    rw [pay50_at]
    pointwise [k0_pay5]
    refine (proj_at B.h0 B.h1 B.h2 r _).trans ?_
    refine (projAt_high A0 A1 A2 b (s r) (g.val * 128 + d.val) (by omega)).trans ?_
    rfl
  rw [out15_tile, ← rotDq_at, ← rotD_eq _ _ _ _ _ hk e]
  unfold tile
  refine congrArg₂ (· + ·) (congrArg₂ (· + ·) (congrArg₂ (· * ·) (hz l) (B.h10 0 r l)) (congrArg₂ (· * ·) (hz ⟨(l.val + 128 - 8) % 128, _⟩) (B.h10 1 r l)))
    (congrArg₂ (· * ·) (hz ⟨(l.val + 128 - 120) % 128, _⟩) (B.h10 2 r l))

theorem out16_at (r : Fin 512) (g : Fin 4) (l : Fin 128) :
    (show FVec Ideal S512x512 .bf16 from out0_16 x0 x1 x2 x3 x4 x5 x6 x7 x8 x9 x10 x11) (ix2 r ⟨g.val * 128 + l.val, by omega⟩)
      = val_main_v197 (F := Ideal) A0 A1 A2 (ix4 b (s r) ⟨g.val * 2 + l.val / 64, by omega⟩ ⟨l.val % 64, by omega⟩) := by
  have hz : ∀ d : Fin 128, k0_pay51 (F := Ideal) x0 x1 x2 x3 x4 x5 x6 x7 x8 x9 x10 x11 (ix2 r ⟨g.val * 128 + d.val, by omega⟩)
      = val_main_v51 (F := Ideal) A0 A1 A2 (ix3 b (s r) ⟨1184 + (g.val * 128 + d.val), by omega⟩) := fun d => by
    rw [pay51_at]
    pointwise [k0_pay6]
    refine (proj_at B.h0 B.h1 B.h2 r _).trans ?_
    refine (Eq.trans (congrArg _ (Fin.ext (by dsimp only; omega))) (projAt_high A0 A1 A2 b (s r) (512 + (g.val * 128 + d.val)) (by omega))).trans ?_
    refine congrArg _ ?_
    blk_ext
  rw [out16_tile, ← rotDk_at]
  refine Eq.trans ?_ ((rotD_eq _ _ _ _ 1 (k := 1) (by norm_num) (by norm_num) l).trans (mul_one _))
  unfold tile
  refine congrArg₂ (· + ·) (congrArg₂ (· + ·) (congrArg₂ (· * ·) (hz l) ((B.h11 0 r l).trans (mul_one _).symm)) (congrArg₂ (· * ·) (hz ⟨(l.val + 128 - 8) % 128, _⟩) ((B.h11 1 r l).trans (mul_one _).symm)))
    (congrArg₂ (· * ·) (hz ⟨(l.val + 128 - 120) % 128, _⟩) ((B.h11 2 r l).trans (mul_one _).symm))

theorem out17_val (r : Fin 512) (l : Fin 512) :
    (show FVec Ideal S512x512 .bf16 from out0_17 x0 x1 x2 x3 x4 x5 x6 x7 x8 x9 x10 x11) (ix2 r l)
      = val_main_v51 (F := Ideal) A0 A1 A2 (ix3 b (s r) ⟨1696 + l.val, by omega⟩) := by
  rw [out17_at]
  pointwise [k0_pay7]
  refine (proj_at B.h0 B.h1 B.h2 r _).trans ?_
  refine (Eq.trans (congrArg _ (Fin.ext (by dsimp only; omega))) (projAt_high A0 A1 A2 b (s r) (1024 + l.val) (by omega))).trans ?_
  refine congrArg _ ?_
  blk_ext
end
end Cert.AttnIdeal.Layer
end
-- ==== Proof.AttnHost.lean ====
/- What the host operations before the first kernel leave in its operand arrays, entry by entry, in terms of the arguments. -/
module

public import proofs.«01_k».proof.Proof.AttnTables

@[expose] public section

set_option maxRecDepth 16384

noncomputable section

open Idealize.ShloMosaic Idealize.ShloMosaic.TcCoe Idealize.SL.Sem

namespace Cert.AttnIdeal.Layer

open Cert.AttnIdeal Cert.AttnIdeal.Gen

variable (m : (ℓ : Loc nD τ sig) → Buf (Elt Ideal) ℓ) (ρ : Dev nD → PrngReg)

/-- The argument arrays as launched. -/
abbrev a0 (c : Dev nD) : FVec Ideal S8x2048x1024 .f32 := W0 m ρ c (Proc.devRef .tc main_arg0)
abbrev a1 (c : Dev nD) : FVec Ideal S1x1024 .f32 := W0 m ρ c (Proc.devRef .tc main_arg1)
abbrev a2 (c : Dev nD) : FVec Ideal S1x1024x2208 .f32 := W0 m ρ c (Proc.devRef .tc main_arg2)
abbrev a3 (c : Dev nD) : FVec Ideal S1x384 .f32 := W0 m ρ c (Proc.devRef .tc main_arg3)
abbrev a4 (c : Dev nD) : FVec Ideal S1x384x768 .f32 := W0 m ρ c (Proc.devRef .tc main_arg4)
abbrev a5 (c : Dev nD) : FVec Ideal S1x256 .f32 := W0 m ρ c (Proc.devRef .tc main_arg5)
abbrev a6 (c : Dev nD) : FVec Ideal S1x256x1024 .f32 := W0 m ρ c (Proc.devRef .tc main_arg6)

theorem zero_int : (FloatOps.sitofp .f32 0#32 : Ideal .f32) = (0 : EReal) := by
  show (((0#32 : BitVec 32).toInt : ℝ) : EReal) = 0
  simp

theorem x_at (c : Dev nD) (r : Fin 16384) (k : Fin 1024) :
    (show FVec Ideal S16384x1024 .f32 from W7 m ρ c (Proc.devRef .tc main_v156)) (ix2 r k)
      = a0 m ρ c (ix3 ⟨r.val / 2048, by omega⟩ ⟨r.val % 2048, by omega⟩ k) := by
  rw [W7_of m ρ c main_v156 (by decide), W6_of m ρ c main_v156 (by decide), W5_of m ρ c main_v156 (by decide), W4_of m ρ c main_v156 (by decide), W3_of m ρ c main_v156 (by decide), W2_of m ρ c main_v156 (by decide)]
  unfold W1 a0
  after_reads_simp
  pointwise
theorem g_at (c : Dev nD) (k : Fin 1024) :
    (show FVec Ideal S1x1024 .f32 from W7 m ρ c (Proc.devRef .tc main_v179)) (ix2 0 k) = a1 m ρ c (ix2 0 k) := by
  unfold W7
  after_reads_simp
  pointwise
theorem gq_at (c : Dev nD) (k : Fin 384) :
    (show FVec Ideal S1x384 .f32 from W7 m ρ c (Proc.devRef .tc main_v181)) (ix2 0 k) = a3 m ρ c (ix2 0 k) := by
  unfold W7
  after_reads_simp
  pointwise
theorem gkv_at (c : Dev nD) (k : Fin 256) :
    (show FVec Ideal S1x256 .f32 from W7 m ρ c (Proc.devRef .tc main_v183)) (ix2 0 k) = a5 m ρ c (ix2 0 k) := by
  unfold W7
  after_reads_simp
  pointwise
theorem win_at (c : Dev nD) (k : Fin 1024) (l : Fin 2304) :
    (show FVec Ideal S1024x2304 .bf16 from W7 m ρ c (Proc.devRef .tc main_v163)) (ix2 k l)
      = if h : l.val < 640 then a2 m ρ c (ix3 0 k ⟨l.val, by omega⟩) else if h : l.val < 704 then 0
        else if h : l.val < 736 then a2 m ρ c (ix3 0 k ⟨l.val - 64, by omega⟩) else if h : l.val < 768 then 0
        else a2 m ρ c (ix3 0 k ⟨l.val - 96, by omega⟩) := by
  rw [W7_of m ρ c main_v163 (by decide), W6_of m ρ c main_v163 (by decide), W5_of m ρ c main_v163 (by decide), W4_of m ρ c main_v163 (by decide)]
  unfold W3 W2 W1 a2
  after_reads_simp
  dsimp only [Matrix.cons_val_zero, Matrix.cons_val_one, Matrix.cons_val]
  pointwise
  after_reads_simp
  pointwise
  have e : ∀ h : l.val - 640 < 128, (pad S1024x128 ![0, 64] ![0, 32] ![0, 0]
      (extractStridedSlice S1024x32 ![0, 640] (fun i : S1024x2208.Idx => W0 m ρ c (Proc.tc.devRef main_arg2) (ix3 0 (i 0) (i 1))) slices_S1024x2208_S1024x32_0_640)
      (sitofp .f32 (constantI S_ 32 0#32) : FVec Ideal S_ .f32) pads_S1024x32_S1024x128_000_64320 h_S_ : FVec Ideal S1024x128 .f32) (ix2 k ⟨l.val - 640, h⟩)
        = if h : 704 ≤ l.val ∧ l.val < 736 then a2 m ρ c (ix3 0 k ⟨l.val - 64, by omega⟩) else 0 := by
    intro h
    pointwise
    rw [zero_int]
    split_ifs <;> first | (exfalso; omega) | rfl | exact congrArg (fun z => W0 m ρ c (Proc.tc.devRef main_arg2) (ix3 0 k z)) (Fin.ext (by dsimp only <;> omega))
  refine Eq.trans (dite_congr rfl (fun _ => rfl) (fun _ => dite_congr rfl (fun h => e h) (fun _ => rfl))) ?_
  (repeat' split) <;> first | (exfalso; omega) | rfl | exact congrArg (fun z => W0 m ρ c (Proc.tc.devRef main_arg2) (ix3 0 k z)) (Fin.ext (by dsimp only <;> omega))

theorem wuq_at (c : Dev nD) (k : Fin 384) (h : Fin 8) (d : Fin 128) :
    (show FVec Ideal S384x1024 .bf16 from W7 m ρ c (Proc.devRef .tc main_v168)) (ix2 k ⟨h.val * 128 + d.val, by omega⟩)
      = if e : d.val < 96 then a4 m ρ c (ix3 0 k ⟨h.val * 96 + d.val, by omega⟩) else 0 := by
  rw [W7_of m ρ c main_v168 (by decide), W6_of m ρ c main_v168 (by decide)]
  unfold W5 W4 W3 W2 W1 a4
  after_reads_simp
  pointwise
  refine Eq.trans (show _ = (pad S384x8x128 ![0, 0, 0] ![0, 0, 32] ![0, 0, 0] (shapeCast S384x8x96 (a4 m ρ c) (by decide)) (sitofp .f32 (constantI S_ 32 0#32) : FVec Ideal S_ .f32) pads_S384x8x96_S384x8x128_000_000_0320 h_S_ : FVec Ideal S384x8x128 .f32) (ix3 k ⟨(h.val * 128 + d.val) / 128, by omega⟩ ⟨(h.val * 128 + d.val) % 128, by omega⟩) from rfl) ?_
  pointwise
  rw [zero_int]
  split_ifs <;> first | (exfalso; omega) | rfl | exact congrArg (fun z => W0 m ρ c (Proc.tc.devRef main_arg4) (ix3 0 k z)) (Fin.ext (by dsimp only <;> omega))

theorem wuk_at (c : Dev nD) (k : Fin 256) (h : Fin 8) (d : Fin 128) :
    (show FVec Ideal S256x1024 .bf16 from W7 m ρ c (Proc.devRef .tc main_v174)) (ix2 k ⟨h.val * 128 + d.val, by omega⟩)
      = if e : d.val < 64 then a6 m ρ c (ix3 0 k ⟨h.val * 128 + d.val, by omega⟩) else 0 := by
  unfold W7 W6 W5 W4 W3 W2 W1 a6
  after_reads_simp
  pointwise
  refine Eq.trans (show _ = (pad S256x8x128 ![0, 0, 0] ![0, 0, 64] ![0, 0, 0] (extractStridedSlice S256x8x64 ![0, 0, 0] (shapeCast S256x8x128 (a6 m ρ c) (by decide)) slices_S256x8x128_S256x8x64_0_0_0) (sitofp .f32 (constantI S_ 32 0#32) : FVec Ideal S_ .f32) pads_S256x8x64_S256x8x128_000_000_0640 h_S_ : FVec Ideal S256x8x128 .f32) (ix3 k ⟨(h.val * 128 + d.val) / 128, by omega⟩ ⟨(h.val * 128 + d.val) % 128, by omega⟩) from rfl) ?_
  pointwise
  rw [zero_int]
  split_ifs <;> first | (exfalso; omega) | rfl | exact congrArg (fun z => W0 m ρ c (Proc.tc.devRef main_arg6) (ix3 0 k z)) (Fin.ext (by dsimp only <;> omega))

theorem wuv_at (c : Dev nD) (k : Fin 256) (h : Fin 8) (d : Fin 64) :
    (show FVec Ideal S256x512 .bf16 from W7 m ρ c (Proc.devRef .tc main_v177)) (ix2 k ⟨h.val * 64 + d.val, by omega⟩)
      = a6 m ρ c (ix3 0 k ⟨h.val * 128 + (64 + d.val), by omega⟩) := by
  unfold W7 W6 W5 W4 W3 W2 W1 a6
  after_reads_simp
  pointwise
  exact congrArg (fun z => W0 m ρ c (Proc.tc.devRef main_arg6) (ix3 0 k z)) (Fin.ext (by dsimp only <;> omega))
end Cert.AttnIdeal.Layer
end
-- ==== Proof.AttnFinal.lean ====
/- The projection kernel's result arrays, entry by entry. -/
module

public import proofs.«01_k».proof.Proof.AttnProj
public import proofs.«01_k».proof.Proof.AttnHost

@[expose] public section

set_option maxRecDepth 16384

noncomputable section

open Idealize.ShloMosaic Idealize.ShloMosaic.TcCoe Idealize.SL.Sem

namespace Cert.AttnIdeal.Layer

open Cert.AttnIdeal Cert.AttnIdeal.Gen
open Cert.AttnRefIdeal.Read

variable (m : (ℓ : Loc nD τ sig) → Buf (Elt Ideal) ℓ) (ρ : Dev nD → PrngReg)

/-- Where each window's block sits at each of the 32 points. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, t.val % 4, 0] ∧ win0_9.index t = ![0, t.val % 4, 0] ∧ win0_10.index t = ![0, t.val % 4, 0] ∧ win0_11.index t = ![0, t.val % 4, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] :=
  (by decide +kernel : ∀ t : Fin grid0.N, _)

theorem cos16 (c : Dev nD) : (show FVec Ideal S2048x16 .f32 from W1 m ρ c (Proc.devRef .tc main_v16)) = val_main_v16 (F := Ideal) := by
  unfold W1
  after_reads_simp
  rfl
theorem sin16 (c : Dev nD) : (show FVec Ideal S2048x16 .f32 from W1 m ρ c (Proc.devRef .tc main_v17)) = val_main_v17 (F := Ideal) := by
  unfold W1
  after_reads_simp
  rfl
theorem cos8 (c : Dev nD) : (show FVec Ideal S2048x8 .f32 from W1 m ρ c (Proc.devRef .tc main_v94)) = val_main_v34 (F := Ideal) := by
  unfold W1
  after_reads_simp
  rfl
theorem sin8 (c : Dev nD) : (show FVec Ideal S2048x8 .f32 from W1 m ρ c (Proc.devRef .tc main_v95)) = val_main_v35 (F := Ideal) := by
  unfold W1
  after_reads_simp
  rfl

theorem tab8 (c : Dev nD) (p : Fin 3) (s : Fin 2048) (l : Fin 128) :
    (show FVec Ideal S3x2048x128 .f32 from W7 m ρ c (Proc.devRef .tc main_v38)) (ix3 p s l)
      = tabM (val_main_v16 (F := Ideal)) (val_main_v17 (F := Ideal)) p s l * Ideal.ofBits .f32 0x3DD105EC#32 := by
  rw [W7_of m ρ c main_v38 (by decide), W6_of m ρ c main_v38 (by decide), W5_of m ρ c main_v38 (by decide), W4_of m ρ c main_v38 (by decide), W3_of m ρ c main_v38 (by decide), W2_of m ρ c main_v38 (by decide)]
  refine (tmq_at m ρ c p s l).trans ?_
  exact congrArg₂ (fun cs sn => tabM cs sn p s l * Ideal.ofBits .f32 0x3DD105EC#32) (cos16 m ρ c) (sin16 m ρ c)
theorem tab9 (c : Dev nD) (p : Fin 3) (s : Fin 2048) (l : Fin 128) :
    (show FVec Ideal S3x2048x128 .f32 from W7 m ρ c (Proc.devRef .tc main_v77)) (ix3 p s l)
      = tabM (val_main_v16 (F := Ideal)) (val_main_v17 (F := Ideal)) p s l := by
  rw [W7_of m ρ c main_v77 (by decide), W6_of m ρ c main_v77 (by decide), W5_of m ρ c main_v77 (by decide), W4_of m ρ c main_v77 (by decide), W3_of m ρ c main_v77 (by decide), W2_of m ρ c main_v77 (by decide)]
  refine (tmk_at m ρ c p s l).trans ?_
  exact congrArg₂ (fun cs sn => tabM cs sn p s l) ((cosM_eq m ρ c).trans (cos16 m ρ c)) ((sinM_eq m ρ c).trans (sin16 m ρ c))
theorem tab10 (c : Dev nD) (p : Fin 3) (s : Fin 2048) (l : Fin 128) :
    (show FVec Ideal S3x2048x128 .f32 from W7 m ρ c (Proc.devRef .tc main_v116)) (ix3 p s l)
      = tabD (val_main_v34 (F := Ideal)) (val_main_v35 (F := Ideal)) p s l * Ideal.ofBits .f32 0x3E000000#32 := by
  rw [W7_of m ρ c main_v116 (by decide), W6_of m ρ c main_v116 (by decide), W5_of m ρ c main_v116 (by decide), W4_of m ρ c main_v116 (by decide), W3_of m ρ c main_v116 (by decide), W2_of m ρ c main_v116 (by decide)]
  refine (tdq_at m ρ c p s l).trans ?_
  exact congrArg₂ (fun cs sn => tabD cs sn p s l * Ideal.ofBits .f32 0x3E000000#32) (cos8 m ρ c) (sin8 m ρ c)
theorem tab11 (c : Dev nD) (p : Fin 3) (s : Fin 2048) (l : Fin 128) :
    (show FVec Ideal S3x2048x128 .f32 from W7 m ρ c (Proc.devRef .tc main_v155)) (ix3 p s l)
      = tabD (val_main_v34 (F := Ideal)) (val_main_v35 (F := Ideal)) p s l := by
  rw [W7_of m ρ c main_v155 (by decide), W6_of m ρ c main_v155 (by decide), W5_of m ρ c main_v155 (by decide), W4_of m ρ c main_v155 (by decide), W3_of m ρ c main_v155 (by decide), W2_of m ρ c main_v155 (by decide)]
  refine (tdk_at m ρ c p s l).trans ?_
  exact congrArg₂ (fun cs sn => tabD cs sn p s l) ((cosD_eq m ρ c).trans (cos8 m ρ c)) ((sinD_eq m ρ c).trans (sin8 m ρ c))

section
variable (V : (c : Dev nD) → (b : Ref sig .tc) → Buf (Elt Ideal) ((c : Thread nD τ).loc b))
theorem rd0 (c : Dev nD) (t : Fin cfg0.N) (ht : t.val < 32) (r : Fin 512) (k : Fin 1024) :
    (show FVec Ideal S512x1024 .f32 from iblk0 V c 0 t) (ix2 r k) = (show FVec Ideal S16384x1024 .f32 from V c main_v156) (ix2 ⟨t.val * 512 + r.val, by omega⟩ k) := by
  blk_point [iblk0, idx0 t]
theorem rd1 (c : Dev nD) (t : Fin cfg0.N) (ht : t.val < 32) (r : Fin 1) (k : Fin 1024) :
    (show FVec Ideal S1x1024 .f32 from iblk0 V c 1 t) (ix2 r k) = (show FVec Ideal S1x1024 .f32 from V c main_v179) (ix2 r k) := by
  blk_point [iblk0, idx0 t]
theorem rd2 (c : Dev nD) (t : Fin cfg0.N) (ht : t.val < 32) (r : Fin 1024) (k : Fin 2304) :
    (show FVec Ideal S1024x2304 .bf16 from iblk0 V c 2 t) (ix2 r k) = (show FVec Ideal S1024x2304 .bf16 from V c main_v163) (ix2 r k) := by
  blk_point [iblk0, idx0 t]
theorem rd3 (c : Dev nD) (t : Fin cfg0.N) (ht : t.val < 32) (r : Fin 1) (k : Fin 384) :
    (show FVec Ideal S1x384 .f32 from iblk0 V c 3 t) (ix2 r k) = (show FVec Ideal S1x384 .f32 from V c main_v181) (ix2 r k) := by
  blk_point [iblk0, idx0 t]
theorem rd4 (c : Dev nD) (t : Fin cfg0.N) (ht : t.val < 32) (r : Fin 384) (k : Fin 1024) :
    (show FVec Ideal S384x1024 .bf16 from iblk0 V c 4 t) (ix2 r k) = (show FVec Ideal S384x1024 .bf16 from V c main_v168) (ix2 r k) := by
  blk_point [iblk0, idx0 t]
theorem rd5 (c : Dev nD) (t : Fin cfg0.N) (ht : t.val < 32) (r : Fin 1) (k : Fin 256) :
    (show FVec Ideal S1x256 .f32 from iblk0 V c 5 t) (ix2 r k) = (show FVec Ideal S1x256 .f32 from V c main_v183) (ix2 r k) := by
  blk_point [iblk0, idx0 t]
theorem rd6 (c : Dev nD) (t : Fin cfg0.N) (ht : t.val < 32) (r : Fin 256) (k : Fin 1024) :
    (show FVec Ideal S256x1024 .bf16 from iblk0 V c 6 t) (ix2 r k) = (show FVec Ideal S256x1024 .bf16 from V c main_v174) (ix2 r k) := by
  blk_point [iblk0, idx0 t]
theorem rd7 (c : Dev nD) (t : Fin cfg0.N) (ht : t.val < 32) (r : Fin 256) (k : Fin 512) :
    (show FVec Ideal S256x512 .bf16 from iblk0 V c 7 t) (ix2 r k) = (show FVec Ideal S256x512 .bf16 from V c main_v177) (ix2 r k) := by
  blk_point [iblk0, idx0 t]
theorem rd8 (c : Dev nD) (t : Fin cfg0.N) (ht : t.val < 32) (p : Fin 3) (r : Fin 512) (l : Fin 128) :
    (show FVec Ideal S3x512x128 .f32 from iblk0 V c 8 t) (ix3 p r l) = (show FVec Ideal S3x2048x128 .f32 from V c main_v38) (ix3 p ⟨t.val % 4 * 512 + r.val, by omega⟩ l) := by
  blk_point [iblk0, idx0 t]
theorem rd9 (c : Dev nD) (t : Fin cfg0.N) (ht : t.val < 32) (p : Fin 3) (r : Fin 512) (l : Fin 128) :
    (show FVec Ideal S3x512x128 .f32 from iblk0 V c 9 t) (ix3 p r l) = (show FVec Ideal S3x2048x128 .f32 from V c main_v77) (ix3 p ⟨t.val % 4 * 512 + r.val, by omega⟩ l) := by
  blk_point [iblk0, idx0 t]
theorem rd10 (c : Dev nD) (t : Fin cfg0.N) (ht : t.val < 32) (p : Fin 3) (r : Fin 512) (l : Fin 128) :
    (show FVec Ideal S3x512x128 .f32 from iblk0 V c 10 t) (ix3 p r l) = (show FVec Ideal S3x2048x128 .f32 from V c main_v116) (ix3 p ⟨t.val % 4 * 512 + r.val, by omega⟩ l) := by
  blk_point [iblk0, idx0 t]
theorem rd11 (c : Dev nD) (t : Fin cfg0.N) (ht : t.val < 32) (p : Fin 3) (r : Fin 512) (l : Fin 128) :
    (show FVec Ideal S3x512x128 .f32 from iblk0 V c 11 t) (ix3 p r l) = (show FVec Ideal S3x2048x128 .f32 from V c main_v155) (ix3 p ⟨t.val % 4 * 512 + r.val, by omega⟩ l) := by
  blk_point [iblk0, idx0 t]
end

theorem row0 (A : FVec Ideal S8x2048x1024 .f32) (t : Fin cfg0.N) (ht : t.val < 32) (r : Fin 512) (k : Fin 1024) :
    A (ix3 ⟨(t.val * 512 + r.val) / 2048, by omega⟩ ⟨(t.val * 512 + r.val) % 2048, by omega⟩ k) = A (ix3 ⟨t.val / 4, by omega⟩ ⟨t.val % 4 * 512 + r.val, by omega⟩ k) := by
  refine congrArg _ ?_
  blk_ext
theorem blk (c : Dev nD) (t : Fin cfg0.N) (ht : t.val < 32) :
    Blk (a0 m ρ c) (a1 m ρ c) (a2 m ρ c) (a3 m ρ c) (a4 m ρ c) (a5 m ρ c) (a6 m ρ c) ⟨t.val / 4, by omega⟩ (fun r => ⟨t.val % 4 * 512 + r.val, by omega⟩)
      (iblk0 (V7 m ρ) c 0 t) (iblk0 (V7 m ρ) c 1 t) (iblk0 (V7 m ρ) c 2 t) (iblk0 (V7 m ρ) c 3 t) (iblk0 (V7 m ρ) c 4 t) (iblk0 (V7 m ρ) c 5 t)
      (iblk0 (V7 m ρ) c 6 t) (iblk0 (V7 m ρ) c 7 t) (iblk0 (V7 m ρ) c 8 t) (iblk0 (V7 m ρ) c 9 t) (iblk0 (V7 m ρ) c 10 t) (iblk0 (V7 m ρ) c 11 t) where
  h0 r k := ((rd0 (V7 m ρ) c t ht r k).trans (x_at m ρ c ⟨t.val * 512 + r.val, by omega⟩ k)).trans (row0 (a0 m ρ c) t ht r k)
  h1 k := (rd1 (V7 m ρ) c t ht 0 k).trans (g_at m ρ c k)
  h2 k l := (rd2 (V7 m ρ) c t ht k l).trans (win_at m ρ c k l)
  h3 k := (rd3 (V7 m ρ) c t ht 0 k).trans (gq_at m ρ c k)
  h4 k h d := (rd4 (V7 m ρ) c t ht k _).trans (wuq_at m ρ c k h d)
  h5 k := (rd5 (V7 m ρ) c t ht 0 k).trans (gkv_at m ρ c k)
  h6 k h d := (rd6 (V7 m ρ) c t ht k _).trans (wuk_at m ρ c k h d)
  h7 k h d := (rd7 (V7 m ρ) c t ht k _).trans (wuv_at m ρ c k h d)
  h8 p r l := (rd8 (V7 m ρ) c t ht p r l).trans (tab8 m ρ c p _ l)
  h9 p r l := (rd9 (V7 m ρ) c t ht p r l).trans (tab9 m ρ c p _ l)
  h10 p r l := (rd10 (V7 m ρ) c t ht p r l).trans (tab10 m ρ c p _ l)
  h11 p r l := (rd11 (V7 m ρ) c t ht p r l).trans (tab11 m ρ c p _ l)

end Cert.AttnIdeal.Layer
end
-- ==== Proof.AttnArr.lean ====
/- The projection kernel's result arrays as functions of the arguments. -/
module

public import proofs.«01_k».proof.Proof.AttnFinal

@[expose] public section

set_option maxRecDepth 16384

noncomputable section

open Idealize.ShloMosaic Idealize.ShloMosaic.TcCoe Idealize.SL.Sem

namespace Cert.AttnIdeal.Layer

open Cert.AttnIdeal Cert.AttnIdeal.Gen
open Cert.AttnRefIdeal.Read

variable (m : (ℓ : Loc nD τ sig) → Buf (Elt Ideal) ℓ) (ρ : Dev nD → PrngReg)

/-- The scaled queries: row `2048 b + t`, column `128 h + l`. -/
def G12 (c : Dev nD) (i : S16384x1024.Idx) : EReal :=
  QM (a0 m ρ c) (a1 m ρ c) (a2 m ρ c) (a3 m ρ c) (a4 m ρ c) ⟨(show Fin 16384 from i 0).val / 2048, by omega⟩ ⟨(show Fin 16384 from i 0).val % 2048, by omega⟩ ⟨(show Fin 1024 from i 1).val / 128, by omega⟩ ⟨(show Fin 1024 from i 1).val % 128, by omega⟩

theorem point12 (c : Dev nD) (t : Fin cfg0.N) (ht : t.val < 32) (y : S512x1024.Idx) (i : S16384x1024.Idx) (h0 : (i 0 : ℕ) = t.val * 512 + y 0) (h1 : (i 1 : ℕ) = y 1) :
    (show FVec Ideal S512x1024 .bf16 from out0_12 (iblk0 (V7 m ρ) c 0 t) (iblk0 (V7 m ρ) c 1 t) (iblk0 (V7 m ρ) c 2 t) (iblk0 (V7 m ρ) c 3 t) (iblk0 (V7 m ρ) c 4 t) (iblk0 (V7 m ρ) c 5 t) (iblk0 (V7 m ρ) c 6 t) (iblk0 (V7 m ρ) c 7 t) (iblk0 (V7 m ρ) c 8 t) (iblk0 (V7 m ρ) c 9 t) (iblk0 (V7 m ρ) c 10 t) (iblk0 (V7 m ρ) c 11 t)) y = G12 m ρ c i := by
  have hy0 : (y 0 : ℕ) < 512 := (y 0).isLt
  have hy1 : (y 1 : ℕ) < 1024 := (y 1).isLt
  have hy : y = ix2 (show Fin 512 from y 0) ⟨(y 1 : ℕ) / 128 * 128 + (y 1 : ℕ) % 128, by omega⟩ := by
    funext a; fin_cases a
    · rfl
    · exact Fin.ext (by show (y 1 : ℕ) = (y 1 : ℕ) / 128 * 128 + (y 1 : ℕ) % 128; omega)
  refine (congrArg _ hy).trans ((out12_at (blk m ρ c t ht) (show Fin 512 from y 0) ⟨(y 1 : ℕ) / 128, by omega⟩ ⟨(y 1 : ℕ) % 128, by omega⟩).trans ?_)
  unfold G12
  congr 1
  · exact Fin.ext (by show t.val / 4 = (i 0 : ℕ) / 2048; omega)
  · exact Fin.ext (by show t.val % 4 * 512 + (y 0 : ℕ) = (i 0 : ℕ) % 2048; omega)
  · exact Fin.ext (by show (y 1 : ℕ) / 128 = (i 1 : ℕ) / 128; omega)
  · exact Fin.ext (by show (y 1 : ℕ) % 128 = (i 1 : ℕ) % 128; omega)

theorem final12 (c : Dev nD) : (dat0 (V7 m ρ) c).arrAt 12 cfg0.N = G12 m ρ c := by
  refine (dat0 (V7 m ρ) c).arrAt_eq_of_covers 12 _ (by decide +kernel) fun t _ y => ?_
  have ht : t.val < 32 := t.isLt
  blk_simp
  rw [after0_12]
  refine point12 m ρ c t ht y _ ?_ ?_
  all_goals (blk_simp [idx0 t] <;> try omega)

/-- The keys: row `2048 b + t`, column `128 h + l`. -/
def G13 (c : Dev nD) (i : S16384x1024.Idx) : EReal :=
  KM (a0 m ρ c) (a1 m ρ c) (a2 m ρ c) (a5 m ρ c) (a6 m ρ c) ⟨(show Fin 16384 from i 0).val / 2048, by omega⟩ ⟨(show Fin 16384 from i 0).val % 2048, by omega⟩ ⟨(show Fin 1024 from i 1).val / 128, by omega⟩ ⟨(show Fin 1024 from i 1).val % 128, by omega⟩

theorem point13 (c : Dev nD) (t : Fin cfg0.N) (ht : t.val < 32) (y : S512x1024.Idx) (i : S16384x1024.Idx) (h0 : (i 0 : ℕ) = t.val * 512 + y 0) (h1 : (i 1 : ℕ) = y 1) :
    (show FVec Ideal S512x1024 .bf16 from out0_13 (iblk0 (V7 m ρ) c 0 t) (iblk0 (V7 m ρ) c 1 t) (iblk0 (V7 m ρ) c 2 t) (iblk0 (V7 m ρ) c 3 t) (iblk0 (V7 m ρ) c 4 t) (iblk0 (V7 m ρ) c 5 t) (iblk0 (V7 m ρ) c 6 t) (iblk0 (V7 m ρ) c 7 t) (iblk0 (V7 m ρ) c 8 t) (iblk0 (V7 m ρ) c 9 t) (iblk0 (V7 m ρ) c 10 t) (iblk0 (V7 m ρ) c 11 t)) y = G13 m ρ c i := by
  have hy0 : (y 0 : ℕ) < 512 := (y 0).isLt
  have hy1 : (y 1 : ℕ) < 1024 := (y 1).isLt
  have hy : y = ix2 (show Fin 512 from y 0) ⟨(y 1 : ℕ) / 128 * 128 + (y 1 : ℕ) % 128, by omega⟩ := by
    funext a; fin_cases a
    · rfl
    · exact Fin.ext (by show (y 1 : ℕ) = (y 1 : ℕ) / 128 * 128 + (y 1 : ℕ) % 128; omega)
  refine (congrArg _ hy).trans ((out13_at (blk m ρ c t ht) (show Fin 512 from y 0) ⟨(y 1 : ℕ) / 128, by omega⟩ ⟨(y 1 : ℕ) % 128, by omega⟩).trans ?_)
  unfold G13
  congr 1
  · exact Fin.ext (by show t.val / 4 = (i 0 : ℕ) / 2048; omega)
  · exact Fin.ext (by show t.val % 4 * 512 + (y 0 : ℕ) = (i 0 : ℕ) % 2048; omega)
  · exact Fin.ext (by show (y 1 : ℕ) / 128 = (i 1 : ℕ) / 128; omega)
  · exact Fin.ext (by show (y 1 : ℕ) % 128 = (i 1 : ℕ) % 128; omega)

theorem final13 (c : Dev nD) : (dat0 (V7 m ρ) c).arrAt 13 cfg0.N = G13 m ρ c := by
  refine (dat0 (V7 m ρ) c).arrAt_eq_of_covers 13 _ (by decide +kernel) fun t _ y => ?_
  have ht : t.val < 32 := t.isLt
  blk_simp
  rw [after0_13]
  refine point13 m ρ c t ht y _ ?_ ?_
  all_goals (blk_simp [idx0 t] <;> try omega)

/-- The values: row `2048 b + t`, column `64 h + d`. -/
def G14 (c : Dev nD) (i : S16384x512.Idx) : EReal :=
  val_main_v113 (F := Ideal) (a0 m ρ c) (a1 m ρ c) (a2 m ρ c) (a5 m ρ c) (a6 m ρ c) (ix4 ⟨(show Fin 16384 from i 0).val / 2048, by omega⟩ ⟨(show Fin 16384 from i 0).val % 2048, by omega⟩ ⟨(show Fin 512 from i 1).val / 64, by omega⟩ ⟨64 + (show Fin 512 from i 1).val % 64, by omega⟩)

theorem point14 (c : Dev nD) (t : Fin cfg0.N) (ht : t.val < 32) (y : S512x512.Idx) (i : S16384x512.Idx) (h0 : (i 0 : ℕ) = t.val * 512 + y 0) (h1 : (i 1 : ℕ) = y 1) :
    (show FVec Ideal S512x512 .bf16 from out0_14 (iblk0 (V7 m ρ) c 0 t) (iblk0 (V7 m ρ) c 1 t) (iblk0 (V7 m ρ) c 2 t) (iblk0 (V7 m ρ) c 3 t) (iblk0 (V7 m ρ) c 4 t) (iblk0 (V7 m ρ) c 5 t) (iblk0 (V7 m ρ) c 6 t) (iblk0 (V7 m ρ) c 7 t) (iblk0 (V7 m ρ) c 8 t) (iblk0 (V7 m ρ) c 9 t) (iblk0 (V7 m ρ) c 10 t) (iblk0 (V7 m ρ) c 11 t)) y = G14 m ρ c i := by
  have hy0 : (y 0 : ℕ) < 512 := (y 0).isLt
  have hy1 : (y 1 : ℕ) < 512 := (y 1).isLt
  have hy : y = ix2 (show Fin 512 from y 0) ⟨(y 1 : ℕ) / 64 * 64 + (y 1 : ℕ) % 64, by omega⟩ := by
    funext a; fin_cases a
    · rfl
    · exact Fin.ext (by show (y 1 : ℕ) = (y 1 : ℕ) / 64 * 64 + (y 1 : ℕ) % 64; omega)
  refine (congrArg _ hy).trans ((out14_val (blk m ρ c t ht) (show Fin 512 from y 0) ⟨(y 1 : ℕ) / 64, by omega⟩ ⟨(y 1 : ℕ) % 64, by omega⟩).trans ?_)
  unfold G14
  refine congrArg _ ?_
  have e0 : (⟨t.val / 4, by omega⟩ : Fin 8) = ⟨(show Fin 16384 from i 0).val / 2048, by omega⟩ := Fin.ext (by show t.val / 4 = (i 0 : ℕ) / 2048; omega)
  have e1 : (⟨t.val % 4 * 512 + (y 0 : ℕ), by omega⟩ : Fin 2048) = ⟨(show Fin 16384 from i 0).val % 2048, by omega⟩ := Fin.ext (by show t.val % 4 * 512 + (y 0 : ℕ) = (i 0 : ℕ) % 2048; omega)
  exact congr (congr (congr (congrArg ix4 e0) e1) (Fin.ext (by show (y 1 : ℕ) / 64 = (i 1 : ℕ) / 64; omega))) (Fin.ext (by show 64 + (y 1 : ℕ) % 64 = 64 + (i 1 : ℕ) % 64; omega))

theorem final14 (c : Dev nD) : (dat0 (V7 m ρ) c).arrAt 14 cfg0.N = G14 m ρ c := by
  refine (dat0 (V7 m ρ) c).arrAt_eq_of_covers 14 _ (by decide +kernel) fun t _ y => ?_
  have ht : t.val < 32 := t.isLt
  blk_simp
  rw [after0_14]
  refine point14 m ρ c t ht y _ ?_ ?_
  all_goals (blk_simp [idx0 t] <;> try omega)

/-- The dilated queries: row `2048 b + t`, column `64 h + d`. -/
def G15 (c : Dev nD) (i : S16384x512.Idx) : EReal :=
  val_main_v176 (F := Ideal) (a0 m ρ c) (a1 m ρ c) (a2 m ρ c) (ix4 ⟨(show Fin 16384 from i 0).val / 2048, by omega⟩ ⟨(show Fin 16384 from i 0).val % 2048, by omega⟩ ⟨(show Fin 512 from i 1).val / 64, by omega⟩ ⟨(show Fin 512 from i 1).val % 64, by omega⟩)

theorem point15 (c : Dev nD) (t : Fin cfg0.N) (ht : t.val < 32) (y : S512x512.Idx) (i : S16384x512.Idx) (h0 : (i 0 : ℕ) = t.val * 512 + y 0) (h1 : (i 1 : ℕ) = y 1) :
    (show FVec Ideal S512x512 .bf16 from out0_15 (iblk0 (V7 m ρ) c 0 t) (iblk0 (V7 m ρ) c 1 t) (iblk0 (V7 m ρ) c 2 t) (iblk0 (V7 m ρ) c 3 t) (iblk0 (V7 m ρ) c 4 t) (iblk0 (V7 m ρ) c 5 t) (iblk0 (V7 m ρ) c 6 t) (iblk0 (V7 m ρ) c 7 t) (iblk0 (V7 m ρ) c 8 t) (iblk0 (V7 m ρ) c 9 t) (iblk0 (V7 m ρ) c 10 t) (iblk0 (V7 m ρ) c 11 t)) y = G15 m ρ c i := by
  have hy0 : (y 0 : ℕ) < 512 := (y 0).isLt
  have hy1 : (y 1 : ℕ) < 512 := (y 1).isLt
  have hy : y = ix2 (show Fin 512 from y 0) ⟨(y 1 : ℕ) / 128 * 128 + (y 1 : ℕ) % 128, by omega⟩ := by
    funext a; fin_cases a
    · rfl
    · exact Fin.ext (by show (y 1 : ℕ) = (y 1 : ℕ) / 128 * 128 + (y 1 : ℕ) % 128; omega)
  refine (congrArg _ hy).trans ((out15_at (blk m ρ c t ht) (show Fin 512 from y 0) ⟨(y 1 : ℕ) / 128, by omega⟩ ⟨(y 1 : ℕ) % 128, by omega⟩).trans ?_)
  unfold G15
  refine congrArg _ ?_
  have e0 : (⟨t.val / 4, by omega⟩ : Fin 8) = ⟨(show Fin 16384 from i 0).val / 2048, by omega⟩ := Fin.ext (by show t.val / 4 = (i 0 : ℕ) / 2048; omega)
  have e1 : (⟨t.val % 4 * 512 + (y 0 : ℕ), by omega⟩ : Fin 2048) = ⟨(show Fin 16384 from i 0).val % 2048, by omega⟩ := Fin.ext (by show t.val % 4 * 512 + (y 0 : ℕ) = (i 0 : ℕ) % 2048; omega)
  exact congr (congr (congr (congrArg ix4 e0) e1) (Fin.ext (by show (y 1 : ℕ) / 128 * 2 + (y 1 : ℕ) % 128 / 64 = (i 1 : ℕ) / 64; omega))) (Fin.ext (by show (y 1 : ℕ) % 128 % 64 = (i 1 : ℕ) % 64; omega))

theorem final15 (c : Dev nD) : (dat0 (V7 m ρ) c).arrAt 15 cfg0.N = G15 m ρ c := by
  refine (dat0 (V7 m ρ) c).arrAt_eq_of_covers 15 _ (by decide +kernel) fun t _ y => ?_
  have ht : t.val < 32 := t.isLt
  blk_simp
  rw [after0_15]
  refine point15 m ρ c t ht y _ ?_ ?_
  all_goals (blk_simp [idx0 t] <;> try omega)

/-- The dilated keys: row `2048 b + t`, column `64 h + d`. -/
def G16 (c : Dev nD) (i : S16384x512.Idx) : EReal :=
  val_main_v197 (F := Ideal) (a0 m ρ c) (a1 m ρ c) (a2 m ρ c) (ix4 ⟨(show Fin 16384 from i 0).val / 2048, by omega⟩ ⟨(show Fin 16384 from i 0).val % 2048, by omega⟩ ⟨(show Fin 512 from i 1).val / 64, by omega⟩ ⟨(show Fin 512 from i 1).val % 64, by omega⟩)

theorem point16 (c : Dev nD) (t : Fin cfg0.N) (ht : t.val < 32) (y : S512x512.Idx) (i : S16384x512.Idx) (h0 : (i 0 : ℕ) = t.val * 512 + y 0) (h1 : (i 1 : ℕ) = y 1) :
    (show FVec Ideal S512x512 .bf16 from out0_16 (iblk0 (V7 m ρ) c 0 t) (iblk0 (V7 m ρ) c 1 t) (iblk0 (V7 m ρ) c 2 t) (iblk0 (V7 m ρ) c 3 t) (iblk0 (V7 m ρ) c 4 t) (iblk0 (V7 m ρ) c 5 t) (iblk0 (V7 m ρ) c 6 t) (iblk0 (V7 m ρ) c 7 t) (iblk0 (V7 m ρ) c 8 t) (iblk0 (V7 m ρ) c 9 t) (iblk0 (V7 m ρ) c 10 t) (iblk0 (V7 m ρ) c 11 t)) y = G16 m ρ c i := by
  have hy0 : (y 0 : ℕ) < 512 := (y 0).isLt
  have hy1 : (y 1 : ℕ) < 512 := (y 1).isLt
  have hy : y = ix2 (show Fin 512 from y 0) ⟨(y 1 : ℕ) / 128 * 128 + (y 1 : ℕ) % 128, by omega⟩ := by
    funext a; fin_cases a
    · rfl
    · exact Fin.ext (by show (y 1 : ℕ) = (y 1 : ℕ) / 128 * 128 + (y 1 : ℕ) % 128; omega)
  refine (congrArg _ hy).trans ((out16_at (blk m ρ c t ht) (show Fin 512 from y 0) ⟨(y 1 : ℕ) / 128, by omega⟩ ⟨(y 1 : ℕ) % 128, by omega⟩).trans ?_)
  unfold G16
  refine congrArg _ ?_
  have e0 : (⟨t.val / 4, by omega⟩ : Fin 8) = ⟨(show Fin 16384 from i 0).val / 2048, by omega⟩ := Fin.ext (by show t.val / 4 = (i 0 : ℕ) / 2048; omega)
  have e1 : (⟨t.val % 4 * 512 + (y 0 : ℕ), by omega⟩ : Fin 2048) = ⟨(show Fin 16384 from i 0).val % 2048, by omega⟩ := Fin.ext (by show t.val % 4 * 512 + (y 0 : ℕ) = (i 0 : ℕ) % 2048; omega)
  exact congr (congr (congr (congrArg ix4 e0) e1) (Fin.ext (by show (y 1 : ℕ) / 128 * 2 + (y 1 : ℕ) % 128 / 64 = (i 1 : ℕ) / 64; omega))) (Fin.ext (by show (y 1 : ℕ) % 128 % 64 = (i 1 : ℕ) % 64; omega))

theorem final16 (c : Dev nD) : (dat0 (V7 m ρ) c).arrAt 16 cfg0.N = G16 m ρ c := by
  refine (dat0 (V7 m ρ) c).arrAt_eq_of_covers 16 _ (by decide +kernel) fun t _ y => ?_
  have ht : t.val < 32 := t.isLt
  blk_simp
  rw [after0_16]
  refine point16 m ρ c t ht y _ ?_ ?_
  all_goals (blk_simp [idx0 t] <;> try omega)

/-- The dilated values: row `2048 b + t`. -/
def G17 (c : Dev nD) (i : S16384x512.Idx) : EReal :=
  val_main_v51 (F := Ideal) (a0 m ρ c) (a1 m ρ c) (a2 m ρ c) (ix3 ⟨(show Fin 16384 from i 0).val / 2048, by omega⟩ ⟨(show Fin 16384 from i 0).val % 2048, by omega⟩ ⟨1696 + (show Fin 512 from i 1).val, by omega⟩)

theorem point17 (c : Dev nD) (t : Fin cfg0.N) (ht : t.val < 32) (y : S512x512.Idx) (i : S16384x512.Idx) (h0 : (i 0 : ℕ) = t.val * 512 + y 0) (h1 : (i 1 : ℕ) = y 1) :
    (show FVec Ideal S512x512 .bf16 from out0_17 (iblk0 (V7 m ρ) c 0 t) (iblk0 (V7 m ρ) c 1 t) (iblk0 (V7 m ρ) c 2 t) (iblk0 (V7 m ρ) c 3 t) (iblk0 (V7 m ρ) c 4 t) (iblk0 (V7 m ρ) c 5 t) (iblk0 (V7 m ρ) c 6 t) (iblk0 (V7 m ρ) c 7 t) (iblk0 (V7 m ρ) c 8 t) (iblk0 (V7 m ρ) c 9 t) (iblk0 (V7 m ρ) c 10 t) (iblk0 (V7 m ρ) c 11 t)) y = G17 m ρ c i := by
  have hy0 : (y 0 : ℕ) < 512 := (y 0).isLt
  have hy1 : (y 1 : ℕ) < 512 := (y 1).isLt
  have hy : y = ix2 (show Fin 512 from y 0) (show Fin 512 from y 1) := by
    funext a; fin_cases a
    · rfl
    · rfl
  refine (congrArg _ hy).trans ((out17_val (blk m ρ c t ht) (show Fin 512 from y 0) (show Fin 512 from y 1)).trans ?_)
  unfold G17
  refine congrArg _ ?_
  have e0 : (⟨t.val / 4, by omega⟩ : Fin 8) = ⟨(show Fin 16384 from i 0).val / 2048, by omega⟩ := Fin.ext (by show t.val / 4 = (i 0 : ℕ) / 2048; omega)
  have e1 : (⟨t.val % 4 * 512 + (y 0 : ℕ), by omega⟩ : Fin 2048) = ⟨(show Fin 16384 from i 0).val % 2048, by omega⟩ := Fin.ext (by show t.val % 4 * 512 + (y 0 : ℕ) = (i 0 : ℕ) % 2048; omega)
  exact congr (congr (congrArg ix3 e0) e1) (Fin.ext (by show 1696 + (y 1 : ℕ) = 1696 + (i 1 : ℕ); omega))

theorem final17 (c : Dev nD) : (dat0 (V7 m ρ) c).arrAt 17 cfg0.N = G17 m ρ c := by
  refine (dat0 (V7 m ρ) c).arrAt_eq_of_covers 17 _ (by decide +kernel) fun t _ y => ?_
  have ht : t.val < 32 := t.isLt
  blk_simp
  rw [after0_17]
  refine point17 m ρ c t ht y _ ?_ ?_
  all_goals (blk_simp [idx0 t] <;> try omega)

end Cert.AttnIdeal.Layer
end
-- ==== Proof.AttnSoft.lean ====
/- The attention kernel's block against the reference's softmax. -/
module

public import proofs.«01_k».proof.Proof.AttnArr

@[expose] public section

set_option maxRecDepth 16384

noncomputable section

open Idealize.ShloMosaic Idealize.ShloMosaic.TcCoe Idealize.SL.Sem

namespace Cert.AttnIdeal.Layer

open Cert.AttnIdeal Cert.AttnIdeal.Gen
open Cert.AttnRefIdeal.Read

theorem minus_inf : Ideal.ofBits .f32 0xFF800000#32 = ⊥ := by simp [Ideal.ofBits, Ideal.ieee]

/-- One attention row: the weighted sum of the values over the sum of the weights, the weights taken relative to the largest score. -/
def att (s v : Fin 2048 → EReal) : EReal :=
  Ideal.div (∑ u, Ideal.exp (s u - Finset.univ.fold max ⊥ s) * v u) (∑ u, Ideal.exp (s u - Finset.univ.fold max ⊥ s))

theorem lane_lt : ∀ l : Fin 128, IntOp.cmpi CmpIPredicate.slt (BitVec.ofNat 32 l.val) 64#32 = if l.val < 64 then 1#1 else 0#1 := by decide

theorem select_lane (l : Fin 128) (a b : EReal) :
    Scalar.select (IntOp.cmpi CmpIPredicate.slt (BitVec.ofNat 32 l.val) 64#32) a b = if l.val < 64 then a else b := by
  rw [lane_lt]
  by_cases h : l.val < 64
  · rw [if_pos h, if_pos h]; rfl
  · rw [if_neg h, if_neg h]; rfl

/-- The block of outputs: lane `l` belongs to the pair's head `l / 64`. -/
theorem out1_at (x0 : Vec Ideal S1x256x256 .bf16) (x1 : Vec Ideal S1x2048x256 .bf16) (x2 : Vec Ideal S1x2048x128 .bf16) (r : Fin 256) (l : Fin 128) :
    (show FVec Ideal S1x256x128 .f32 from out1_3 x0 x1 x2) (ix3 0 r l)
      = att (fun u => ∑ k : Fin 128, (show FVec Ideal S1x256x256 .bf16 from x0) (ix3 0 r ⟨l.val / 64 * 128 + k.val, by omega⟩)
            * (show FVec Ideal S1x2048x256 .bf16 from x1) (ix3 0 u ⟨l.val / 64 * 128 + k.val, by omega⟩))
          (fun u => (show FVec Ideal S1x2048x128 .bf16 from x2) (ix3 0 u l)) := by
  unfold out1_3
  canon_tiles x h
  have e1 : (show Fin 256 from x 1) = r := Fin.ext h1.symm
  have e2 : (show Fin 128 from x 2) = l := Fin.ext h2.symm
  have hx : x = ix3 0 r l := by
    funext a; fin_cases a
    · exact Fin.ext (by show (x 0 : ℕ) = 0; omega)
    · exact e1
    · exact e2
  subst hx
  pointwise [k1_pay1, k1_pay3, k1_pay5, k1_pay6, k1_pay4, k1_pay2]
  simp only [minus_inf]
  refine Eq.trans (select_lane l
    (att (fun u => ∑ k : Fin 128, (show FVec Ideal S1x256x256 .bf16 from x0) (ix3 0 r ⟨k.val, by omega⟩) * (show FVec Ideal S1x2048x256 .bf16 from x1) (ix3 0 u ⟨k.val, by omega⟩))
      (fun u => (show FVec Ideal S1x2048x128 .bf16 from x2) (ix3 0 u l)))
    (att (fun u => ∑ k : Fin 128, (show FVec Ideal S1x256x256 .bf16 from x0) (ix3 0 r ⟨128 + k.val, by omega⟩) * (show FVec Ideal S1x2048x256 .bf16 from x1) (ix3 0 u ⟨128 + k.val, by omega⟩))
      (fun u => (show FVec Ideal S1x2048x128 .bf16 from x2) (ix3 0 u l)))) ?_
  by_cases c : l.val < 64
  · rw [if_pos c]
    refine congrArg (fun s => att s _) (funext fun u => Finset.sum_congr rfl fun k _ => congrArg₂ (· * ·) (congrArg x0 ?_) (congrArg x1 ?_)) <;> blk_ext
  · rw [if_neg c]
    refine congrArg (fun s => att s _) (funext fun u => Finset.sum_congr rfl fun k _ => congrArg₂ (· * ·) (congrArg x0 ?_) (congrArg x1 ?_)) <;> blk_ext

section
variable (A0 : FVec Ideal S8x2048x1024 .f32) (A1 : FVec Ideal S1x1024 .f32) (A2 : FVec Ideal S1x1024x2208 .f32)
  (A3 : FVec Ideal S1x384 .f32) (A4 : FVec Ideal S1x384x768 .f32) (A5 : FVec Ideal S1x256 .f32) (A6 : FVec Ideal S1x256x1024 .f32)

theorem v139_at (b h : Fin 8) (t u : Fin 2048) :
    val_main_v139 (F := Ideal) A0 A1 A2 A3 A4 A5 A6 (ix4 b h t u)
      = (∑ x : Fin 64, val_main_v74 (F := Ideal) A0 A1 A2 A3 A4 (ix4 b t h ⟨x.val, by omega⟩) * val_main_v113 (F := Ideal) A0 A1 A2 A5 A6 (ix4 b u h ⟨x.val, by omega⟩)
          + ∑ x : Fin 32, val_main_v133 (F := Ideal) A0 A1 A2 (ix3 b u x) * val_main_v96 (F := Ideal) A0 A1 A2 A3 A4 (ix4 b t h x)) * Ideal.ofBits .f32 0x3DD105EC#32 := by
  pointwise [val_main_v139, val_main_v138, val_main_cst_16, val_main_v137, val_main_v136, val_main_v135, val_main_v134, val_main_v114, val_main_v75]

/-- A sum over 128 lanes as sums over the first 64, the next 32 and the last 32. -/
theorem sum128 (f : Fin 128 → EReal) :
    ∑ l, f l = ∑ x : Fin 64, f ⟨x.val, by omega⟩ + (∑ x : Fin 32, f ⟨64 + x.val, by omega⟩ + ∑ x : Fin 32, f ⟨96 + x.val, by omega⟩) := by
  rw [show (∑ l, f l) = ∑ l : Fin (64 + (32 + 32)), f l from rfl, Fin.sum_univ_add, Fin.sum_univ_add]
  refine congrArg₂ (· + ·) rfl (congrArg₂ (· + ·) rfl (Finset.sum_congr rfl fun x _ => congrArg f (Fin.ext ?_)))
  show 64 + (32 + x.val) = 96 + x.val
  omega

/-- The kernel's 128-lane scores are the reference's scaled scores. -/
theorem score_eq (b h : Fin 8) (t u : Fin 2048) :
    ∑ l : Fin 128, QM A0 A1 A2 A3 A4 b t h l * KM A0 A1 A2 A5 A6 b u h l = val_main_v139 (F := Ideal) A0 A1 A2 A3 A4 A5 A6 (ix4 b h t u) := by
  obtain ⟨k, hk, e⟩ := scaleM
  rw [v139_at, sum128, e, add_mul_coe _ _ hk, sum_mul_coe _ hk, sum_mul_coe _ hk]
  unfold QM KM
  rw [e]
  refine congrArg₂ (· + ·) (Finset.sum_congr rfl fun x _ => ?_) ((congrArg₂ (· + ·) (Finset.sum_congr rfl fun x _ => ?_) (Finset.sum_eq_zero fun x _ => ?_)).trans (add_zero _))
  · rw [dif_pos (show x.val < 64 from x.isLt), dif_pos (show x.val < 64 from x.isLt)]
    exact mul_right_comm _ _ _
  · dsimp only
    rw [dif_neg (show ¬ 64 + x.val < 64 by omega), dif_pos (show 64 + x.val < 96 by omega), dif_neg (show ¬ 64 + x.val < 64 by omega), dif_pos (show 64 + x.val < 96 by omega)]
    have i : (⟨64 + x.val - 64, by omega⟩ : Fin 32) = x := Fin.ext (by show 64 + x.val - 64 = x.val; omega)
    rw [i]
    rw [mul_right_comm, mul_comm (val_main_v96 (F := Ideal) A0 A1 A2 A3 A4 _)]
  · dsimp only
    rw [dif_neg (show ¬ 96 + x.val < 64 by omega), dif_neg (show ¬ 96 + x.val < 96 by omega), zero_mul, zero_mul]

theorem v140_at (b h : Fin 8) (t : Fin 2048) :
    val_main_v140 (F := Ideal) A0 A1 A2 A3 A4 A5 A6 (ix3 b h t) = Finset.univ.fold max ⊥ fun u => val_main_v139 (F := Ideal) A0 A1 A2 A3 A4 A5 A6 (ix4 b h t u) := by
  pointwise [val_main_v140, val_main_cst_17]
  rw [minus_inf]
theorem exp_sub_max (x y z : Ideal .f32) : FloatOps.hostUnary .exp (FloatOps.subf x (FloatOps.maximumf y z)) = Ideal.exp (x - max y z) := rfl
theorem v146_at (b h : Fin 8) (t u : Fin 2048) :
    val_main_v146 (F := Ideal) A0 A1 A2 A3 A4 A5 A6 (ix4 b h t u)
      = Ideal.exp (val_main_v139 (F := Ideal) A0 A1 A2 A3 A4 A5 A6 (ix4 b h t u) - val_main_v140 (F := Ideal) A0 A1 A2 A3 A4 A5 A6 (ix3 b h t)) := by
  rw [val_main_v146_apply, val_main_v145_apply, val_main_v144_apply, val_main_v143_apply, val_main_v142_apply, val_main_v141_apply, val_main_cst_18_apply, exp_sub_max,
    show (FloatOps.ofBits .f32 0xFF800000#32 : Ideal .f32) = ⊥ from minus_inf, max_eq_right bot_le]
  have hi : idx_main_v143 (idx_main_v144 (ix4 b h t u)) = ix3 b h t := by
    funext a; fin_cases a <;> rfl
  rw [hi]
theorem v147_at (b h : Fin 8) (t : Fin 2048) :
    val_main_v147 (F := Ideal) A0 A1 A2 A3 A4 A5 A6 (ix3 b h t) = ∑ u, val_main_v146 (F := Ideal) A0 A1 A2 A3 A4 A5 A6 (ix4 b h t u) := by
  pointwise [val_main_v147, val_main_cst_19]
theorem v150_at (b h : Fin 8) (t u : Fin 2048) :
    val_main_v150 (F := Ideal) A0 A1 A2 A3 A4 A5 A6 (ix4 b h t u)
      = Ideal.div (val_main_v146 (F := Ideal) A0 A1 A2 A3 A4 A5 A6 (ix4 b h t u)) (val_main_v147 (F := Ideal) A0 A1 A2 A3 A4 A5 A6 (ix3 b h t)) := by
  pointwise [val_main_v150, val_main_v149, val_main_v148]
theorem v153_at (b h : Fin 8) (t : Fin 2048) (d : Fin 64) :
    val_main_v153 (F := Ideal) A0 A1 A2 A3 A4 A5 A6 (ix3 b t ⟨h.val * 64 + d.val, by omega⟩)
      = ∑ u, val_main_v113 (F := Ideal) A0 A1 A2 A5 A6 (ix4 b u h ⟨64 + d.val, by omega⟩) * val_main_v150 (F := Ideal) A0 A1 A2 A3 A4 A5 A6 (ix4 b h t u) := by
  pointwise [val_main_v153, val_main_v152, val_main_v151, val_main_v115]

/-- The kernel's row is the reference's, the scores being real. -/
theorem att_eq (b h : Fin 8) (t : Fin 2048) (d : Fin 64) (hs : ∀ u, Fin' (val_main_v139 (F := Ideal) A0 A1 A2 A3 A4 A5 A6 (ix4 b h t u))) :
    att (fun u => ∑ l : Fin 128, QM A0 A1 A2 A3 A4 b t h l * KM A0 A1 A2 A5 A6 b u h l)
        (fun u => val_main_v113 (F := Ideal) A0 A1 A2 A5 A6 (ix4 b u h ⟨64 + d.val, by omega⟩))
      = val_main_v153 (F := Ideal) A0 A1 A2 A3 A4 A5 A6 (ix3 b t ⟨h.val * 64 + d.val, by omega⟩) := by
  simp only [score_eq]
  rw [v153_at]
  unfold att
  rw [softmax_quot _ _ (by decide) hs]
  refine Finset.sum_congr rfl fun u _ => congrArg _ ?_
  rw [v150_at, v147_at]
  simp only [v146_at, v140_at]
end
end Cert.AttnIdeal.Layer
end
-- ==== Proof.AttnOut.lean ====
/- The attention kernel's result array as a function of the arguments. -/
module

public import proofs.«01_k».proof.Proof.AttnSoft

@[expose] public section

set_option maxRecDepth 16384

noncomputable section

open Idealize.ShloMosaic Idealize.ShloMosaic.TcCoe Idealize.SL.Sem

namespace Cert.AttnIdeal.Layer

open Cert.AttnIdeal Cert.AttnIdeal.Gen
open Cert.AttnRefIdeal.Read

/-- Where each window's block sits at each of the 256 points. -/
theorem idx1 : ∀ t : Fin cfg1.N, win1_0.index t = ![t.val / 32, t.val % 8, t.val / 8 % 4] ∧ win1_1.index t = ![t.val / 32, 0, t.val / 8 % 4]
    ∧ win1_2.index t = ![t.val / 32, 0, t.val / 8 % 4] ∧ win1_3.index t = ![t.val / 32, t.val % 8, t.val / 8 % 4] :=
  (by decide +kernel : ∀ t : Fin grid1.N, _)

section
variable (V : (c : Dev nD) → (b : Ref sig .tc) → Buf (Elt Ideal) ((c : Thread nD τ).loc b))
theorem rq (c : Dev nD) (t : Fin cfg1.N) (ht : t.val < 256) (r : Fin 256) (k : Fin 256) :
    (show FVec Ideal S1x256x256 .bf16 from iblk1 V c 0 t) (ix3 0 r k)
      = (show FVec Ideal S8x2048x1024 .bf16 from V c main_v185) (ix3 ⟨t.val / 32, by omega⟩ ⟨t.val % 8 * 256 + r.val, by omega⟩ ⟨t.val / 8 % 4 * 256 + k.val, by omega⟩) := by
  blk_point [iblk1, idx1 t]
theorem rk (c : Dev nD) (t : Fin cfg1.N) (ht : t.val < 256) (u : Fin 2048) (k : Fin 256) :
    (show FVec Ideal S1x2048x256 .bf16 from iblk1 V c 1 t) (ix3 0 u k)
      = (show FVec Ideal S8x2048x1024 .bf16 from V c main_v186) (ix3 ⟨t.val / 32, by omega⟩ u ⟨t.val / 8 % 4 * 256 + k.val, by omega⟩) := by
  blk_point [iblk1, idx1 t]
theorem rv (c : Dev nD) (t : Fin cfg1.N) (ht : t.val < 256) (u : Fin 2048) (k : Fin 128) :
    (show FVec Ideal S1x2048x128 .bf16 from iblk1 V c 2 t) (ix3 0 u k)
      = (show FVec Ideal S8x2048x512 .bf16 from V c main_v187) (ix3 ⟨t.val / 32, by omega⟩ u ⟨t.val / 8 % 4 * 128 + k.val, by omega⟩) := by
  blk_point [iblk1, idx1 t]
end

variable (m : (ℓ : Loc nD τ sig) → Buf (Elt Ideal) ℓ) (ρ : Dev nD → PrngReg)

theorem arr12 (c : Dev nD) : W8 m ρ c (Proc.devRef .tc main_v184_0) = G12 m ρ c := (W8_arr m ρ c 12).trans (final12 m ρ c)
theorem arr13 (c : Dev nD) : W8 m ρ c (Proc.devRef .tc main_v184_1) = G13 m ρ c := (W8_arr m ρ c 13).trans (final13 m ρ c)
theorem arr14 (c : Dev nD) : W8 m ρ c (Proc.devRef .tc main_v184_2) = G14 m ρ c := (W8_arr m ρ c 14).trans (final14 m ρ c)

theorem q9 (c : Dev nD) (b h : Fin 8) (t : Fin 2048) (l : Fin 128) :
    (show FVec Ideal S8x2048x1024 .bf16 from W9 m ρ c (Proc.devRef .tc main_v185)) (ix3 b t ⟨h.val * 128 + l.val, by omega⟩)
      = QM (a0 m ρ c) (a1 m ρ c) (a2 m ρ c) (a3 m ρ c) (a4 m ρ c) b t h l := by
  unfold W9
  after_reads_simp
  rw [arr12]
  pointwise
  unfold G12
  congr 1
  · exact Fin.ext (by show (b.val * 2048 + t.val) / 2048 = b.val; omega)
  · exact Fin.ext (by show (b.val * 2048 + t.val) % 2048 = t.val; omega)
  · exact Fin.ext (by show (h.val * 128 + l.val) / 128 = h.val; omega)
  · exact Fin.ext (by show (h.val * 128 + l.val) % 128 = l.val; omega)

theorem k9 (c : Dev nD) (b h : Fin 8) (t : Fin 2048) (l : Fin 128) :
    (show FVec Ideal S8x2048x1024 .bf16 from W9 m ρ c (Proc.devRef .tc main_v186)) (ix3 b t ⟨h.val * 128 + l.val, by omega⟩)
      = KM (a0 m ρ c) (a1 m ρ c) (a2 m ρ c) (a5 m ρ c) (a6 m ρ c) b t h l := by
  unfold W9
  after_reads_simp
  rw [arr13]
  pointwise
  unfold G13
  congr 1
  · exact Fin.ext (by show (b.val * 2048 + t.val) / 2048 = b.val; omega)
  · exact Fin.ext (by show (b.val * 2048 + t.val) % 2048 = t.val; omega)
  · exact Fin.ext (by show (h.val * 128 + l.val) / 128 = h.val; omega)
  · exact Fin.ext (by show (h.val * 128 + l.val) % 128 = l.val; omega)

theorem v9 (c : Dev nD) (b h : Fin 8) (t : Fin 2048) (d : Fin 64) :
    (show FVec Ideal S8x2048x512 .bf16 from W9 m ρ c (Proc.devRef .tc main_v187)) (ix3 b t ⟨h.val * 64 + d.val, by omega⟩)
      = val_main_v113 (F := Ideal) (a0 m ρ c) (a1 m ρ c) (a2 m ρ c) (a5 m ρ c) (a6 m ρ c) (ix4 b t h ⟨64 + d.val, by omega⟩) := by
  unfold W9
  after_reads_simp
  rw [arr14]
  pointwise
  unfold G14
  refine congrArg _ ?_
  exact congr (congr (congr (congrArg ix4 (Fin.ext (by show (b.val * 2048 + t.val) / 2048 = b.val; omega))) (Fin.ext (by show (b.val * 2048 + t.val) % 2048 = t.val; omega)))
    (Fin.ext (by show (h.val * 64 + d.val) / 64 = h.val; omega))) (Fin.ext (by show 64 + (h.val * 64 + d.val) % 64 = 64 + d.val; omega))

/-- What a point stores is the reference's attention output at the index of the array it lies at. -/
theorem point1 (c : Dev nD) (hs : ∀ b h t u, Fin' (val_main_v139 (F := Ideal) (a0 m ρ c) (a1 m ρ c) (a2 m ρ c) (a3 m ρ c) (a4 m ρ c) (a5 m ρ c) (a6 m ρ c) (ix4 b h t u)))
    (t : Fin cfg1.N) (ht : t.val < 256) (y : S1x256x128.Idx) (i : S8x2048x512.Idx)
    (h0 : (i 0 : ℕ) = t.val / 32) (h1 : (i 1 : ℕ) = t.val % 8 * 256 + y 1) (h2 : (i 2 : ℕ) = t.val / 8 % 4 * 128 + y 2) :
    (show FVec Ideal S1x256x128 .f32 from out1_3 (iblk1 (V9 m ρ) c 0 t) (iblk1 (V9 m ρ) c 1 t) (iblk1 (V9 m ρ) c 2 t)) y
      = val_main_v153 (F := Ideal) (a0 m ρ c) (a1 m ρ c) (a2 m ρ c) (a3 m ρ c) (a4 m ρ c) (a5 m ρ c) (a6 m ρ c) i := by
  have hy0 : (y 0 : ℕ) < 1 := (y 0).isLt
  have hy1 : (y 1 : ℕ) < 256 := (y 1).isLt
  have hy2 : (y 2 : ℕ) < 128 := (y 2).isLt
  have hy : y = ix3 0 (show Fin 256 from y 1) (show Fin 128 from y 2) := by
    funext a; fin_cases a
    · exact Fin.ext (by show (y 0 : ℕ) = 0; omega)
    · rfl
    · rfl
  refine (congrArg _ hy).trans ((out1_at _ _ _ _ _).trans ?_)
  have hi : i = ix3 (⟨t.val / 32, by omega⟩ : Fin 8) (⟨t.val % 8 * 256 + (y 1 : ℕ), by omega⟩ : Fin 2048)
      (⟨(t.val / 8 % 4 * 2 + (y 2 : ℕ) / 64) * 64 + (y 2 : ℕ) % 64, by omega⟩ : Fin 512) := by
    funext a; fin_cases a
    · exact Fin.ext h0
    · exact Fin.ext h1
    · exact Fin.ext (by show (i 2 : ℕ) = (t.val / 8 % 4 * 2 + (y 2 : ℕ) / 64) * 64 + (y 2 : ℕ) % 64; omega)
  rw [hi]
  refine Eq.trans ?_ (att_eq (a0 m ρ c) (a1 m ρ c) (a2 m ρ c) (a3 m ρ c) (a4 m ρ c) (a5 m ρ c) (a6 m ρ c) ⟨t.val / 32, by omega⟩ ⟨t.val / 8 % 4 * 2 + (y 2 : ℕ) / 64, by omega⟩
    ⟨t.val % 8 * 256 + (y 1 : ℕ), by omega⟩ ⟨(y 2 : ℕ) % 64, by omega⟩ (hs _ _ _))
  refine congrArg₂ att (funext fun u => Finset.sum_congr rfl fun k _ => congrArg₂ (· * ·) ?_ ?_) (funext fun u => ?_)
  · refine (rq (V9 m ρ) c t ht _ _).trans (Eq.trans (congrArg _ ?_) (q9 m ρ c ⟨t.val / 32, by omega⟩ ⟨t.val / 8 % 4 * 2 + (y 2 : ℕ) / 64, by omega⟩ ⟨t.val % 8 * 256 + (y 1 : ℕ), by omega⟩ k))
    exact congrArg (ix3 _ _) (Fin.ext (by show t.val / 8 % 4 * 256 + ((y 2 : ℕ) / 64 * 128 + k.val) = (t.val / 8 % 4 * 2 + (y 2 : ℕ) / 64) * 128 + k.val; omega))
  · refine (rk (V9 m ρ) c t ht _ _).trans (Eq.trans (congrArg _ ?_) (k9 m ρ c ⟨t.val / 32, by omega⟩ ⟨t.val / 8 % 4 * 2 + (y 2 : ℕ) / 64, by omega⟩ u k))
    exact congrArg (ix3 _ _) (Fin.ext (by show t.val / 8 % 4 * 256 + ((y 2 : ℕ) / 64 * 128 + k.val) = (t.val / 8 % 4 * 2 + (y 2 : ℕ) / 64) * 128 + k.val; omega))
  · refine (rv (V9 m ρ) c t ht _ _).trans (Eq.trans (congrArg _ ?_) (v9 m ρ c ⟨t.val / 32, by omega⟩ ⟨t.val / 8 % 4 * 2 + (y 2 : ℕ) / 64, by omega⟩ u ⟨(y 2 : ℕ) % 64, by omega⟩))
    exact congrArg (ix3 _ _) (Fin.ext (by show t.val / 8 % 4 * 128 + (y 2 : ℕ) = (t.val / 8 % 4 * 2 + (y 2 : ℕ) / 64) * 64 + (y 2 : ℕ) % 64; omega))

theorem final1 (c : Dev nD) (hs : ∀ b h t u, Fin' (val_main_v139 (F := Ideal) (a0 m ρ c) (a1 m ρ c) (a2 m ρ c) (a3 m ρ c) (a4 m ρ c) (a5 m ρ c) (a6 m ρ c) (ix4 b h t u))) :
    (dat1 (V9 m ρ) c).arrAt 3 cfg1.N = val_main_v153 (F := Ideal) (a0 m ρ c) (a1 m ρ c) (a2 m ρ c) (a3 m ρ c) (a4 m ρ c) (a5 m ρ c) (a6 m ρ c) := by
  refine (dat1 (V9 m ρ) c).arrAt_eq_of_covers 3 _ (by decide +kernel) fun t _ y => ?_
  have ht : t.val < 256 := t.isLt
  blk_simp
  rw [after1_3]
  refine point1 m ρ c hs t ht y _ ?_ ?_ ?_
  all_goals (blk_simp [idx1 t] <;> try omega)

/-- The four results after the run. -/
theorem res188 (c : Dev nD) (hs : ∀ b h t u, Fin' (val_main_v139 (F := Ideal) (a0 m ρ c) (a1 m ρ c) (a2 m ρ c) (a3 m ρ c) (a4 m ρ c) (a5 m ρ c) (a6 m ρ c) (ix4 b h t u))) :
    W10 m ρ c (Proc.devRef .tc main_v188) = val_main_v153 (F := Ideal) (a0 m ρ c) (a1 m ρ c) (a2 m ρ c) (a3 m ρ c) (a4 m ρ c) (a5 m ρ c) (a6 m ρ c) :=
  (W10_arr m ρ c 3).trans (final1 m ρ c hs)
theorem G15_eq (c : Dev nD) : G15 m ρ c = val_main_v199 (F := Ideal) (a0 m ρ c) (a1 m ρ c) (a2 m ρ c) := by
  funext i
  obtain ⟨R, K, rfl⟩ : ∃ (R : Fin 16384) (K : Fin 512), i = ix2 R K := ⟨i 0, i 1, by funext a; fin_cases a <;> rfl⟩
  unfold G15
  pointwise [val_main_v199, val_main_v198]
theorem G16_eq (c : Dev nD) : G16 m ρ c = val_main_v201 (F := Ideal) (a0 m ρ c) (a1 m ρ c) (a2 m ρ c) := by
  funext i
  obtain ⟨R, K, rfl⟩ : ∃ (R : Fin 16384) (K : Fin 512), i = ix2 R K := ⟨i 0, i 1, by funext a; fin_cases a <;> rfl⟩
  unfold G16
  pointwise [val_main_v201, val_main_v200]
theorem G17_eq (c : Dev nD) : G17 m ρ c = val_main_v203 (F := Ideal) (a0 m ρ c) (a1 m ρ c) (a2 m ρ c) := by
  funext i
  obtain ⟨R, K, rfl⟩ : ∃ (R : Fin 16384) (K : Fin 512), i = ix2 R K := ⟨i 0, i 1, by funext a; fin_cases a <;> rfl⟩
  unfold G17
  pointwise [val_main_v203, val_main_v202, val_main_v57]
theorem res3 (c : Dev nD) : W10 m ρ c (Proc.devRef .tc main_v184_3) = val_main_v199 (F := Ideal) (a0 m ρ c) (a1 m ρ c) (a2 m ρ c) :=
  (W10_of m ρ c main_v184_3 (by decide)).trans ((W9_of m ρ c main_v184_3 (by decide)).trans ((W8_arr m ρ c 15).trans ((final15 m ρ c).trans (G15_eq m ρ c))))
theorem res4 (c : Dev nD) : W10 m ρ c (Proc.devRef .tc main_v184_4) = val_main_v201 (F := Ideal) (a0 m ρ c) (a1 m ρ c) (a2 m ρ c) :=
  (W10_of m ρ c main_v184_4 (by decide)).trans ((W9_of m ρ c main_v184_4 (by decide)).trans ((W8_arr m ρ c 16).trans ((final16 m ρ c).trans (G16_eq m ρ c))))
theorem res5 (c : Dev nD) : W10 m ρ c (Proc.devRef .tc main_v184_5) = val_main_v203 (F := Ideal) (a0 m ρ c) (a1 m ρ c) (a2 m ρ c) :=
  (W10_of m ρ c main_v184_5 (by decide)).trans ((W9_of m ρ c main_v184_5 (by decide)).trans ((W8_arr m ρ c 17).trans ((final17 m ρ c).trans (G17_eq m ρ c))))

end Cert.AttnIdeal.Layer
end
-- ==== Proof.AttnFinite.lean ====
/- Every attention score is a real number when every argument entry is one. -/
module

public import proofs.«01_k».proof.Proof.AttnSoft

@[expose] public section

set_option maxRecDepth 16384

noncomputable section

open Idealize.ShloMosaic Idealize.ShloMosaic.TcCoe Idealize.SL.Sem

namespace Cert.AttnIdeal.Layer

open Cert.AttnIdeal Cert.AttnIdeal.Gen
open Cert.AttnRefIdeal.Read

theorem of_two : ∃ k : ℝ, Ideal.ofBits .f32 0x40000000#32 = (k : EReal) := ⟨_, by simp [Ideal.ofBits, Ideal.ieee]; rfl⟩
theorem of_zero : ∃ k : ℝ, Ideal.ofBits .f32 0x00000000#32 = (k : EReal) := ⟨0, by simp [Ideal.ofBits, Ideal.ieee]⟩
theorem of_width : ∃ k : ℝ, k ≠ 0 ∧ Ideal.ofBits .f32 0x42000000#32 = (k : EReal) := by
  refine ⟨_, ?_, by simp [Ideal.ofBits, Ideal.ieee]; rfl⟩
  positivity
theorem of_base : ∃ k : ℝ, Ideal.ofBits .f32 0x48F42400#32 = (k : EReal) := ⟨_, by simp [Ideal.ofBits, Ideal.ieee]; rfl⟩
theorem of_1024 : ∃ k : ℝ, 0 < k ∧ Ideal.ofBits .f32 0x44800000#32 = (k : EReal) := by
  refine ⟨_, ?_, by simp [Ideal.ofBits, Ideal.ieee]; rfl⟩
  positivity
theorem of_384 : ∃ k : ℝ, 0 < k ∧ Ideal.ofBits .f32 0x43C00000#32 = (k : EReal) := by
  refine ⟨_, ?_, by simp [Ideal.ofBits, Ideal.ieee]; rfl⟩
  positivity
theorem of_256 : ∃ k : ℝ, 0 < k ∧ Ideal.ofBits .f32 0x43800000#32 = (k : EReal) := by
  refine ⟨_, ?_, by simp [Ideal.ofBits, Ideal.ieee]; rfl⟩
  positivity
theorem of_eps : ∃ k : ℝ, 0 < k ∧ Ideal.ofBits .f32 0x358637BD#32 = (k : EReal) := by
  refine ⟨_, ?_, by simp [Ideal.ofBits, Ideal.ieee]; rfl⟩
  positivity

theorem fin_int (n : BitVec 32) : Fin' (FloatOps.sitofp (F := Ideal) FTy.f32 n) := ⟨_, rfl⟩

/-- The rotation frequency of lane pair `d` is real. -/
theorem fin_v9 (d : Fin 16) : Fin' (val_main_v9 (F := Ideal) (ix1 d)) := by
  obtain ⟨a, ha⟩ := of_two
  obtain ⟨w, hw0, hw⟩ := of_width
  obtain ⟨t, ht⟩ := of_base
  pointwise [val_main_v9, val_main_v8, val_main_v7, val_main_v6, val_main_v5, val_main_v4, val_main_v3, val_main_v2, val_main_v1, val_main_v0, val_main_cst, val_main_cst_0, val_main_cst_1, val_main_cst_2]
  rw [ha, hw, ht]
  exact fin_pow (fin_coe _) (fin_div (fin_neg (fin_mul (fin_coe _) (fin_int _))) hw0)

/-- The rotation's cosines are real. -/
theorem fin_v16 (t : Fin 2048) (d : Fin 16) : Fin' (val_main_v16 (F := Ideal) (ix2 t d)) := by
  pointwise [val_main_v16, val_main_v15, val_main_v14, val_main_v13, val_main_v12, val_main_v11, val_main_v10]
  exact fin_cos (fin_mul (fin_int _) (fin_v9 d))
/-- The rotation's sines are real. -/
theorem fin_v17 (t : Fin 2048) (d : Fin 16) : Fin' (val_main_v17 (F := Ideal) (ix2 t d)) := by
  pointwise [val_main_v17, val_main_v15, val_main_v14, val_main_v13, val_main_v12, val_main_v11, val_main_v10]
  exact fin_sin (fin_mul (fin_int _) (fin_v9 d))

variable {A0 : FVec Ideal S8x2048x1024 .f32} {A1 : FVec Ideal S1x1024 .f32} {A2 : FVec Ideal S1x1024x2208 .f32} {A3 : FVec Ideal S1x384 .f32}
  {A4 : FVec Ideal S1x384x768 .f32} {A5 : FVec Ideal S1x256 .f32} {A6 : FVec Ideal S1x256x1024 .f32}

theorem fin_v49 (f0 : ∀ i, Fin' (A0 i)) (f1 : ∀ i, Fin' (A1 i)) (b : Fin 8) (t : Fin 2048) (k : Fin 1024) :
    Fin' (val_main_v49 (F := Ideal) A0 A1 (ix3 b t k)) := by
  obtain ⟨n, hn, en⟩ := of_1024
  obtain ⟨e, he, ee⟩ := of_eps
  rw [v49_at, en, ee]
  exact fin_mul (fin_mul (f0 _) (fin_rms (x := fun j : Fin 1024 => A0 (ix3 b t j)) (fun j => f0 _) hn he)) (f1 _)

theorem fin_v51 (f0 : ∀ i, Fin' (A0 i)) (f1 : ∀ i, Fin' (A1 i)) (f2 : ∀ i, Fin' (A2 i)) (b : Fin 8) (t : Fin 2048) (l : Fin 2208) :
    Fin' (val_main_v51 (F := Ideal) A0 A1 A2 (ix3 b t l)) := by
  rw [v51_at]
  exact fin_sum fun k => fin_mul (fin_v49 f0 f1 b t k) (f2 _)

theorem fin_v71 (h : ∀ b t l, Fin' (val_main_v51 (F := Ideal) A0 A1 A2 (ix3 b t l))) (f3 : ∀ i, Fin' (A3 i)) (b : Fin 8) (t : Fin 2048) (k : Fin 384) :
    Fin' (val_main_v71 (F := Ideal) A0 A1 A2 A3 (ix3 b t k)) := by
  obtain ⟨n, hn, en⟩ := of_384
  obtain ⟨e, he, ee⟩ := of_eps
  rw [v71_at, en, ee]
  exact fin_mul (fin_mul (h _ _ _) (fin_rms (x := fun j : Fin 384 => val_main_v51 (F := Ideal) A0 A1 A2 (ix3 b t ⟨j.val, by omega⟩)) (fun j => h _ _ _) hn he)) (f3 _)

theorem fin_v110 (h : ∀ b t l, Fin' (val_main_v51 (F := Ideal) A0 A1 A2 (ix3 b t l))) (f5 : ∀ i, Fin' (A5 i)) (b : Fin 8) (t : Fin 2048) (k : Fin 256) :
    Fin' (val_main_v110 (F := Ideal) A0 A1 A2 A5 (ix3 b t k)) := by
  obtain ⟨n, hn, en⟩ := of_256
  obtain ⟨e, he, ee⟩ := of_eps
  rw [v110_at, en, ee]
  exact fin_mul (fin_mul (h _ _ _) (fin_rms (x := fun j : Fin 256 => val_main_v51 (F := Ideal) A0 A1 A2 (ix3 b t ⟨384 + j.val, by omega⟩)) (fun j => h _ _ _) hn he)) (f5 _)

theorem fin_v74 (h : ∀ b t k, Fin' (val_main_v71 (F := Ideal) A0 A1 A2 A3 (ix3 b t k))) (f4 : ∀ i, Fin' (A4 i)) (b : Fin 8) (t : Fin 2048) (g : Fin 8) (d : Fin 96) :
    Fin' (val_main_v74 (F := Ideal) A0 A1 A2 A3 A4 (ix4 b t g d)) := by
  rw [v74_at]
  exact fin_sum fun k => fin_mul (h _ _ _) (f4 _)

theorem fin_v113 (h : ∀ b t k, Fin' (val_main_v110 (F := Ideal) A0 A1 A2 A5 (ix3 b t k))) (f6 : ∀ i, Fin' (A6 i)) (b : Fin 8) (t : Fin 2048) (g : Fin 8) (d : Fin 128) :
    Fin' (val_main_v113 (F := Ideal) A0 A1 A2 A5 A6 (ix4 b t g d)) := by
  rw [v113_at]
  exact fin_sum fun k => fin_mul (h _ _ _) (f6 _)

theorem fin_v96 (h : ∀ b t g d, Fin' (val_main_v74 (F := Ideal) A0 A1 A2 A3 A4 (ix4 b t g d))) (b : Fin 8) (t : Fin 2048) (g : Fin 8) (d : Fin 32) :
    Fin' (val_main_v96 (F := Ideal) A0 A1 A2 A3 A4 (ix4 b t g d)) := by
  rw [v96_at]
  by_cases e : d.val < 16
  · rw [dif_pos e]; exact fin_sub (fin_mul (h _ _ _ _) (fin_v16 _ _)) (fin_mul (h _ _ _ _) (fin_v17 _ _))
  · rw [dif_neg e]; exact fin_add (fin_mul (h _ _ _ _) (fin_v16 _ _)) (fin_mul (h _ _ _ _) (fin_v17 _ _))

theorem fin_v133 (h : ∀ b t l, Fin' (val_main_v51 (F := Ideal) A0 A1 A2 (ix3 b t l))) (b : Fin 8) (t : Fin 2048) (d : Fin 32) :
    Fin' (val_main_v133 (F := Ideal) A0 A1 A2 (ix3 b t d)) := by
  rw [v133_at]
  by_cases e : d.val < 16
  · rw [dif_pos e]; exact fin_sub (fin_mul (h _ _ _) (fin_v16 _ _)) (fin_mul (h _ _ _) (fin_v17 _ _))
  · rw [dif_neg e]; exact fin_add (fin_mul (h _ _ _) (fin_v16 _ _)) (fin_mul (h _ _ _) (fin_v17 _ _))

/-- Every score of the attention is real. -/
theorem fin_v139 (f0 : ∀ i, Fin' (A0 i)) (f1 : ∀ i, Fin' (A1 i)) (f2 : ∀ i, Fin' (A2 i)) (f3 : ∀ i, Fin' (A3 i)) (f4 : ∀ i, Fin' (A4 i)) (f5 : ∀ i, Fin' (A5 i)) (f6 : ∀ i, Fin' (A6 i))
    (b : Fin 8) (h : Fin 8) (t u : Fin 2048) : Fin' (val_main_v139 (F := Ideal) A0 A1 A2 A3 A4 A5 A6 (ix4 b h t u)) := by
  have g51 := fin_v51 f0 f1 f2
  have g74 := fin_v74 (fin_v71 g51 f3) f4
  have g113 := fin_v113 (fin_v110 g51 f5) f6
  obtain ⟨k, -, ek⟩ := scaleM
  rw [v139_at, ek]
  exact fin_mul (fin_add (fin_sum fun x => fin_mul (g74 _ _ _ _) (g113 _ _ _ _)) (fin_sum fun x => fin_mul (fin_v133 g51 _ _ _) (fin_v96 g74 _ _ _ _))) (fin_coe _)

end Cert.AttnIdeal.Layer

end
-- ==== Proof.AttnRun.lean ====
/- The attention program's run at the ideal instance: every array it returns is what the last call leaves it. -/
module

public import proofs.«01_k».proof.Proof.Gen.AttnIdeal.Frame
public import proofs.«01_k».proof.Proof.AttnMath
public import Idealize.ShloMosaic.Lib.Tactic

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.AttnIdeal.Layer

open Cert.AttnIdeal Cert.AttnIdeal.Gen

variable (m : (ℓ : Loc nD τ sig) → Buf (Elt Ideal) ℓ) (ρ : Dev nD → PrngReg)

set_option backward.isDefEq.respectTransparency.types false in
/-- Every execution ends with each array of the TensorCores at its contents after the last segment. -/
theorem run_contents : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz c => h c)

/-- The run with its four results read and its arguments unchanged. -/
theorem run_main : θ_run (defs (F := Ideal)) (onTc (τ := τ) (main (F := Ideal))) ⟨m, fun _ => 0, ρ⟩ (fun r => ∀ c : Dev nD,
    r.2.mem ((c.tc : Thread nD τ).loc main_v188) = W10 m ρ c (Proc.devRef .tc main_v188)
    ∧ r.2.mem ((c.tc : Thread nD τ).loc main_v184_3) = W10 m ρ c (Proc.devRef .tc main_v184_3)
    ∧ r.2.mem ((c.tc : Thread nD τ).loc main_v184_4) = W10 m ρ c (Proc.devRef .tc main_v184_4)
    ∧ r.2.mem ((c.tc : Thread nD τ).loc main_v184_5) = W10 m ρ c (Proc.devRef .tc main_v184_5)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun _ h c =>
    ⟨h c _ (mem_uc main_v188 (by decide)), h c _ (mem_uc main_v184_3 (by decide)), h c _ (mem_uc main_v184_4 (by decide)), h c _ (mem_uc main_v184_5 (by decide)),
      (h c _ (mem_uc main_arg0 (by decide))).trans (W10_main_arg0 m ρ c), (h c _ (mem_uc main_arg1 (by decide))).trans (W10_main_arg1 m ρ c),
      (h c _ (mem_uc main_arg2 (by decide))).trans (W10_main_arg2 m ρ c), (h c _ (mem_uc main_arg3 (by decide))).trans (W10_main_arg3 m ρ c),
      (h c _ (mem_uc main_arg4 (by decide))).trans (W10_main_arg4 m ρ c), (h c _ (mem_uc main_arg5 (by decide))).trans (W10_main_arg5 m ρ c),
      (h c _ (mem_uc main_arg6 (by decide))).trans (W10_main_arg6 m ρ c)⟩) (run_contents m ρ)

end Cert.AttnIdeal.Layer

end
-- ==== Proof.AttnClaim.lean ====
/- The attention program against its reference: the claim. -/
module

public import proofs.«01_k».proof.Defs
public import proofs.«01_k».proof.Proof.Gen.Pre_finite
public import proofs.«01_k».proof.Proof.Gen.AttnIdeal
public import proofs.«01_k».proof.Proof.Gen.AttnRefIdeal
public import proofs.«01_k».proof.Proof.Gen.AttnRefIdeal.Run
public import proofs.«01_k».proof.Proof.Gen.AttnRefIdeal.Read
public import proofs.«01_k».proof.Proof.AttnOut
public import proofs.«01_k».proof.Proof.AttnFinite
public import proofs.«01_k».proof.Proof.AttnRun

@[expose] public section

set_option maxRecDepth 16384

noncomputable section

open Idealize.ShloMosaic Idealize.ShloMosaic.TcCoe Idealize.SL.Sem

namespace Cert.AttnIdeal.Layer

open Cert.AttnIdeal Cert.AttnIdeal.Gen
open Cert.AttnRefIdeal.Read

/-- The test "below infinity in absolute value" answers yes only at a real number. -/
theorem fin_of_test {x : EReal} (h : Ideal.cmp .olt (max x (-x)) (Ideal.ofBits .f32 0x7F800000#32) = 1#1) : Fin' x := by
  have e : Ideal.ofBits .f32 0x7F800000#32 = ⊤ := by simp [Ideal.ofBits, Ideal.ieee]
  rw [e] at h
  refine fin_of_abs_lt ?_
  by_contra hn
  simp [Ideal.cmp, hn] at h

variable (m : (ℓ : Loc nD τ sig) → Buf (Elt Ideal) ℓ) (ρ : Dev nD → PrngReg)

theorem fin_a0 (hp : Cert.Pre_AttnIdeal_finite m) (c : Dev nD) : ∀ i, Fin' (a0 m ρ c i) := fun i => fin_of_test (congrFun (hp c).1 i)
theorem fin_a1 (hp : Cert.Pre_AttnIdeal_finite m) (c : Dev nD) : ∀ i, Fin' (a1 m ρ c i) := fun i => fin_of_test (congrFun (hp c).2.1 i)
theorem fin_a2 (hp : Cert.Pre_AttnIdeal_finite m) (c : Dev nD) : ∀ i, Fin' (a2 m ρ c i) := fun i => fin_of_test (congrFun (hp c).2.2.1 i)
theorem fin_a3 (hp : Cert.Pre_AttnIdeal_finite m) (c : Dev nD) : ∀ i, Fin' (a3 m ρ c i) := fun i => fin_of_test (congrFun (hp c).2.2.2.1 i)
theorem fin_a4 (hp : Cert.Pre_AttnIdeal_finite m) (c : Dev nD) : ∀ i, Fin' (a4 m ρ c i) := fun i => fin_of_test (congrFun (hp c).2.2.2.2.1 i)
theorem fin_a5 (hp : Cert.Pre_AttnIdeal_finite m) (c : Dev nD) : ∀ i, Fin' (a5 m ρ c i) := fun i => fin_of_test (congrFun (hp c).2.2.2.2.2.1 i)
theorem fin_a6 (hp : Cert.Pre_AttnIdeal_finite m) (c : Dev nD) : ∀ i, Fin' (a6 m ρ c i) := fun i => fin_of_test (congrFun (hp c).2.2.2.2.2.2 i)

/-- Every score is real under the precondition. -/
theorem scores_fin (hp : Cert.Pre_AttnIdeal_finite m) (c : Dev nD) (b h : Fin 8) (t u : Fin 2048) :
    Fin' (val_main_v139 (F := Ideal) (a0 m ρ c) (a1 m ρ c) (a2 m ρ c) (a3 m ρ c) (a4 m ρ c) (a5 m ρ c) (a6 m ρ c) (ix4 b h t u)) :=
  fin_v139 (fin_a0 m ρ hp c) (fin_a1 m ρ hp c) (fin_a2 m ρ hp c) (fin_a3 m ρ hp c) (fin_a4 m ρ hp c) (fin_a5 m ρ hp c) (fin_a6 m ρ hp c) b h t u

/-- The kernel's four results are the reference's, from the same arguments, all of them finite. -/
theorem algebraic : Cert.algebraic_AttnIdeal_AttnRefIdeal_pre_finite := by
  intro m g m' g' hp hagree
  refine ⟨fun c => W10 m g c (Proc.devRef .tc main_v188), fun c => W10 m g c (Proc.devRef .tc main_v184_3), fun c => W10 m g c (Proc.devRef .tc main_v184_4),
    fun c => W10 m g c (Proc.devRef .tc main_v184_5), run_main m g, ?_⟩
  refine (θ_run _ _ _).mono (fun r h c => ?_) (Cert.AttnRefIdeal.Value.run (F := Ideal) m' g')
  obtain ⟨r0, r1, r2, r3, hr⟩ := h c
  obtain ⟨h0, h1, h2, h3, h4, h5, h6⟩ := hagree c
  have e0 := r0.trans (Cert.AttnRefIdeal.Read.val_main_v153_eq (F := Ideal) (StableHlo.launchContents m' c))
  have e1 := r1.trans (Cert.AttnRefIdeal.Read.val_main_v199_eq (F := Ideal) (StableHlo.launchContents m' c))
  have e2 := r2.trans (Cert.AttnRefIdeal.Read.val_main_v201_eq (F := Ideal) (StableHlo.launchContents m' c))
  have e3 := r3.trans (Cert.AttnRefIdeal.Read.val_main_v203_eq (F := Ideal) (StableHlo.launchContents m' c))
  refine ⟨e0.trans ?_, e1.trans ?_, e2.trans ?_, e3.trans ?_, hr⟩
  · refine Eq.trans ?_ (res188 m g c (scores_fin m g hp c)).symm
    exact congr (congr (congr (congr (congr (congr (congrArg (val_main_v153 (F := Ideal)) h0) h1) h2) h3) h4) h5) h6
  · refine Eq.trans ?_ (res3 m g c).symm
    exact congr (congr (congrArg (val_main_v199 (F := Ideal)) h0) h1) h2
  · refine Eq.trans ?_ (res4 m g c).symm
    exact congr (congr (congrArg (val_main_v201 (F := Ideal)) h0) h1) h2
  · refine Eq.trans ?_ (res5 m g c).symm
    exact congr (congr (congrArg (val_main_v203 (F := Ideal)) h0) h1) h2

end Cert.AttnIdeal.Layer

end
-- ==== Proof.lean ====
/- The certificate: the frames of the twelve programs, and the value claims of the layer's calls. -/
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.PleRefIdeal
public import proofs.«01_k».proof.Proof.Gen.PleRefIdeal.Run
public import proofs.«01_k».proof.Proof.PleValue
public import proofs.«01_k».proof.Proof.Gen.Route
public import proofs.«01_k».proof.Proof.Gen.Route.Frame
public import proofs.«01_k».proof.Proof.Gen.RouteIdeal
public import proofs.«01_k».proof.Proof.Gen.RouteIdeal.Frame
public import proofs.«01_k».proof.Proof.Gen.RouteIdeal.Value
public import proofs.«01_k».proof.Proof.Gen.RouteRefIdeal
public import proofs.«01_k».proof.Proof.Gen.RouteRefIdeal.Run
public import proofs.«01_k».proof.Proof.Gen.RouteRefIdeal.Read
public import proofs.«01_k».proof.Proof.RouteValue
public import proofs.«01_k».proof.Proof.Gen.Dil
public import proofs.«01_k».proof.Proof.Gen.Dil.Frame
public import proofs.«01_k».proof.Proof.Gen.DilIdeal
public import proofs.«01_k».proof.Proof.Gen.DilIdeal.Frame
public import proofs.«01_k».proof.Proof.Gen.DilRefIdeal
public import proofs.«01_k».proof.Proof.Gen.DilRefIdeal.Run
public import proofs.«01_k».proof.Proof.Gen.Pre_finite_scores
public import proofs.«01_k».proof.Proof.DilValue
public import Idealize.ShloMosaic.Adequacy
public import Idealize.ShloMosaic.Init
public import proofs.«01_k».proof.Proof.Gen.Pre_finite
public import proofs.«01_k».proof.Proof.AttnClaim

@[expose] public section

noncomputable section

namespace Cert.Proof

open Idealize.ShloMosaic Idealize.SL.Sem

/-- The attention reference runs host operations only: its arguments stay and it has no semaphore. -/
theorem frame_attn_ref : Cert.quiescent_AttnRefIdeal := fun m ρ _ =>
  (θ_run Cert.AttnRefIdeal.defs _ _).mono (fun r h => ⟨fun c => (h c).2.2.2.2,
      Idealize.ShloMosaic.sem_eq_zero_of_no_sems (by decide) r.2⟩)
    (Cert.AttnRefIdeal.Value.run (F := Ideal) m ρ)

/-- The last call's reference likewise. -/
theorem frame_ple_ref : Cert.quiescent_PleRefIdeal := fun m ρ _ =>
  (θ_run Cert.PleRefIdeal.defs _ _).mono (fun r h => ⟨fun c => (h c).2,
      Idealize.ShloMosaic.sem_eq_zero_of_no_sems (by decide) r.2⟩)
    (Cert.PleRefIdeal.Value.run (F := Ideal) m ρ)

/-- The route call's reference likewise. -/
theorem frame_route_ref : Cert.quiescent_RouteRefIdeal := fun m ρ _ =>
  (θ_run Cert.RouteRefIdeal.defs _ _).mono (fun r h => ⟨fun c => (h c).2.2,
      Idealize.ShloMosaic.sem_eq_zero_of_no_sems (by decide) r.2⟩)
    (Cert.RouteRefIdeal.Value.run (F := Ideal) m ρ)

/-- The dilated attention's reference likewise. -/
theorem frame_dil_ref : Cert.quiescent_DilRefIdeal := fun m ρ _ =>
  (θ_run Cert.DilRefIdeal.defs _ _).mono (fun r h => ⟨fun c => (h c).2,
      Idealize.ShloMosaic.sem_eq_zero_of_no_sems (by decide) r.2⟩)
    (Cert.DilRefIdeal.Value.run (F := Ideal) m ρ)

/-- Everything the certificate claims. -/
theorem claim : Cert.Claim := ⟨Cert.Attn.Gen.facts, Cert.AttnIdeal.Gen.facts, Cert.AttnRefIdeal.Gen.facts, Cert.Ple.Gen.facts,
  Cert.PleIdeal.Gen.facts, Cert.PleRefIdeal.Gen.facts,
  Cert.Route.Gen.facts, Cert.RouteIdeal.Gen.facts, Cert.RouteRefIdeal.Gen.facts,
  Cert.Dil.Gen.facts, Cert.DilIdeal.Gen.facts, Cert.DilRefIdeal.Gen.facts, Cert.Pre_finite.Gen.facts, Cert.Pre_finite_scores.Gen.facts,
  fun m ρ _ => Cert.Attn.Gen.frame m ρ,
  fun m ρ _ => Cert.AttnIdeal.Gen.frame m ρ,
  fun m ρ _ => Cert.AttnIdeal.Gen.frame m ρ,
  frame_attn_ref,
  fun m ρ _ => frame_attn_ref m ρ trivial,
  fun m ρ _ => Cert.Ple.Gen.frame m ρ,
  fun m ρ _ => Cert.PleIdeal.Gen.frame m ρ,
  frame_ple_ref,
  fun m ρ _ => Cert.Route.Gen.frame m ρ,
  fun m ρ _ => Cert.RouteIdeal.Gen.frame m ρ,
  frame_route_ref,
  fun m ρ _ => Cert.Dil.Gen.frame m ρ,
  fun m ρ _ => Cert.DilIdeal.Gen.frame m ρ,
  fun m ρ _ => Cert.DilIdeal.Gen.frame m ρ,
  frame_dil_ref,
  fun m ρ _ => frame_dil_ref m ρ trivial,
  trivial,
  Cert.AttnIdeal.Layer.algebraic,
  trivial,
  Cert.PleIdeal.Layer.algebraic,
  trivial,
  Cert.RouteIdeal.Layer.algebraic,
  Cert.DilIdeal.Layer.preserves,
  Cert.DilIdeal.Layer.algebraic⟩

end Cert.Proof

end
